-- ==== Defs.lean ====
def Pre_Kernel [hPre_streams_fit : Cert.Pre_streams_fit.Facts] (m : (ℓ : Loc Cert.Kernel.nD Cert.Kernel.τ Cert.Kernel.sig) → Buf (Elt Bits) ℓ) : Prop :=
  ∀ c : Dev Cert.Kernel.nD,
    (Cert.Pre_streams_fit.fn (F := Bits) (m ((c.tc : Thread Cert.Kernel.nD Cert.Kernel.τ).loc Cert.Kernel.main_arg0))) = (fun _ => 1#1)

def Pre_KernelIdeal [hPre_streams_fit : Cert.Pre_streams_fit.Facts] (m : (ℓ : Loc Cert.KernelIdeal.nD Cert.KernelIdeal.τ Cert.KernelIdeal.sig) → Buf (Elt Ideal) ℓ) : Prop :=
  ∀ c : Dev Cert.KernelIdeal.nD,
    (Cert.Pre_streams_fit.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_streams_fit [hPre_streams_fit : Cert.Pre_streams_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_streams_fit.fn (F := Ideal) (m ((c.tc : Thread Cert.ReferenceIdeal.nD Cert.ReferenceIdeal.τ).loc Cert.ReferenceIdeal.main_arg0))) = (fun _ => 1#1)

def quiescent_Kernel [hKernel : Cert.Kernel.Facts] [hPre_streams_fit : Cert.Pre_streams_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] [hPre_streams_fit : Cert.Pre_streams_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_streams_fit [hReferenceIdeal : Cert.ReferenceIdeal.Facts] [hPre_streams_fit : Cert.Pre_streams_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_streams_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_streams_fit : Cert.Pre_streams_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v2) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_streams_fit : Cert.Pre_streams_fit.Facts),
    quiescent_Kernel (hKernel := hKernel) (hPre_streams_fit := hPre_streams_fit)
    ∧ quiescent_KernelIdeal (hKernelIdeal := hKernelIdeal) (hPre_streams_fit := hPre_streams_fit)
    ∧ quiescent_ReferenceIdeal (hReferenceIdeal := hReferenceIdeal)
    ∧ quiescent_ReferenceIdeal_pre_streams_fit (hReferenceIdeal := hReferenceIdeal) (hPre_streams_fit := hPre_streams_fit)
    ∧ preserves_Kernel_KernelIdeal
    ∧ algebraic_KernelIdeal_ReferenceIdeal (hKernelIdeal := hKernelIdeal) (hReferenceIdeal := hReferenceIdeal) (hPre_streams_fit := hPre_streams_fit)
-- ==== Pre_streams_fit.lean ====
abbrev S64x32768x16 : Shape := ⟨3, ![64, 32768, 16]⟩
abbrev S64x16x16x32x4x16 : Shape := ⟨6, ![64, 16, 16, 32, 4, 16]⟩
abbrev S_ : Shape := ⟨0, ![]⟩
abbrev S64x16x16x4x16 : Shape := ⟨5, ![64, 16, 16, 4, 16]⟩
abbrev S64x16x16x1x16 : Shape := ⟨5, ![64, 16, 16, 1, 16]⟩
abbrev S64x16x16x16 : Shape := ⟨4, ![64, 16, 16, 16]⟩
abbrev S64x16x16 : Shape := ⟨3, ![64, 16, 16]⟩
abbrev S64x16x1x16 : Shape := ⟨4, ![64, 16, 1, 16]⟩
abbrev S64x8x2x16 : Shape := ⟨4, ![64, 8, 2, 16]⟩
abbrev S64x8x1x16 : Shape := ⟨4, ![64, 8, 1, 16]⟩
abbrev S64x8x16 : Shape := ⟨3, ![64, 8, 16]⟩
abbrev S64x16 : Shape := ⟨2, ![64, 16]⟩
abbrev S64x16x8x256x16 : Shape := ⟨5, ![64, 16, 8, 256, 16]⟩
abbrev S64x1x1x1x16 : Shape := ⟨5, ![64, 1, 1, 1, 16]⟩

class Facts : Prop where
  shapeCasts_S64x32768x16_S64x16x16x32x4x16 : S64x32768x16.ShapeCasts S64x16x16x32x4x16
  reducesTo_S64x16x16x32x4x16_S64x16x16x4x16_d3 : S64x16x16x32x4x16.ReducesTo [3] S64x16x16x4x16
  h_S_ : 0 < S_.numel
  slices_S64x16x16x4x16_S64x16x16x1x16_0_0_0_0_0 : S64x16x16x4x16.Slices ![0, 0, 0, 0, 0] S64x16x16x1x16
  shapeCasts_S64x16x16x1x16_S64x16x16x16 : S64x16x16x1x16.ShapeCasts S64x16x16x16
  slices_S64x16x16x4x16_S64x16x16x1x16_0_0_0_1_0 : S64x16x16x4x16.Slices ![0, 0, 0, 1, 0] S64x16x16x1x16
  slices_S64x16x16x4x16_S64x16x16x1x16_0_0_0_2_0 : S64x16x16x4x16.Slices ![0, 0, 0, 2, 0] S64x16x16x1x16
  slices_S64x16x16x4x16_S64x16x16x1x16_0_0_0_3_0 : S64x16x16x4x16.Slices ![0, 0, 0, 3, 0] S64x16x16x1x16
  bcast_S_S64x16x16 : S_.BroadcastsInDim S64x16x16 (![] : Fin 0 → Fin S64x16x16.rank)
  slices_S64x16x16x16_S64x16x1x16_0_0_0_0 : S64x16x16x16.Slices ![0, 0, 0, 0] S64x16x1x16
  shapeCasts_S64x16x1x16_S64x16x16 : S64x16x1x16.ShapeCasts S64x16x16
  slices_S64x16x16x16_S64x16x1x16_0_0_1_0 : S64x16x16x16.Slices ![0, 0, 1, 0] S64x16x1x16
  slices_S64x16x16x16_S64x16x1x16_0_0_2_0 : S64x16x16x16.Slices ![0, 0, 2, 0] S64x16x1x16
  slices_S64x16x16x16_S64x16x1x16_0_0_3_0 : S64x16x16x16.Slices ![0, 0, 3, 0] S64x16x1x16
  slices_S64x16x16x16_S64x16x1x16_0_0_4_0 : S64x16x16x16.Slices ![0, 0, 4, 0] S64x16x1x16
  slices_S64x16x16x16_S64x16x1x16_0_0_5_0 : S64x16x16x16.Slices ![0, 0, 5, 0] S64x16x1x16
  slices_S64x16x16x16_S64x16x1x16_0_0_6_0 : S64x16x16x16.Slices ![0, 0, 6, 0] S64x16x1x16
  slices_S64x16x16x16_S64x16x1x16_0_0_7_0 : S64x16x16x16.Slices ![0, 0, 7, 0] S64x16x1x16
  slices_S64x16x16x16_S64x16x1x16_0_0_8_0 : S64x16x16x16.Slices ![0, 0, 8, 0] S64x16x1x16
  slices_S64x16x16x16_S64x16x1x16_0_0_9_0 : S64x16x16x16.Slices ![0, 0, 9, 0] S64x16x1x16
  slices_S64x16x16x16_S64x16x1x16_0_0_10_0 : S64x16x16x16.Slices ![0, 0, 10, 0] S64x16x1x16
  slices_S64x16x16x16_S64x16x1x16_0_0_11_0 : S64x16x16x16.Slices ![0, 0, 11, 0] S64x16x1x16
  slices_S64x16x16x16_S64x16x1x16_0_0_12_0 : S64x16x16x16.Slices ![0, 0, 12, 0] S64x16x1x16
  slices_S64x16x16x16_S64x16x1x16_0_0_13_0 : S64x16x16x16.Slices ![0, 0, 13, 0] S64x16x1x16
  slices_S64x16x16x16_S64x16x1x16_0_0_14_0 : S64x16x16x16.Slices ![0, 0, 14, 0] S64x16x1x16
  slices_S64x16x16x16_S64x16x1x16_0_0_15_0 : S64x16x16x16.Slices ![0, 0, 15, 0] S64x16x1x16
  shapeCasts_S64x16x16_S64x8x2x16 : S64x16x16.ShapeCasts S64x8x2x16
  slices_S64x8x2x16_S64x8x1x16_0_0_0_0 : S64x8x2x16.Slices ![0, 0, 0, 0] S64x8x1x16
  shapeCasts_S64x8x1x16_S64x8x16 : S64x8x1x16.ShapeCasts S64x8x16
  slices_S64x8x2x16_S64x8x1x16_0_0_1_0 : S64x8x2x16.Slices ![0, 0, 1, 0] S64x8x1x16
  reducesTo_S64x8x16_S64x16_d1 : S64x8x16.ReducesTo [1] S64x16
  shapeCasts_S64x32768x16_S64x16x8x256x16 : S64x32768x16.ShapeCasts S64x16x8x256x16
  bcast_S64x16_S64x1x1x1x16_0_4 : S64x16.BroadcastsInDim S64x1x1x1x16 (![0, 4] : Fin 2 → Fin S64x1x1x1x16.rank)
  bcast_S64x1x1x1x16_S64x16x8x256x16_0_1_2_3_4 : S64x1x1x1x16.BroadcastsInDim S64x16x8x256x16 (![0, 1, 2, 3, 4] : Fin 5 → Fin S64x16x8x256x16.rank)
  natLt_1_32 : 1 < 32
  reducesTo_S64x16x8x256x16_S64x8x16_d1_3 : S64x16x8x256x16.ReducesTo [1, 3] S64x8x16
  bcast_S_S64x8x16 : S_.BroadcastsInDim S64x8x16 (![] : Fin 0 → Fin S64x8x16.rank)
  reducesTo_S64x8x16_S_d0_1_2 : S64x8x16.ReducesTo [0, 1, 2] S_

variable [Facts]

def fn_part8 {F : FTy → Type} [FloatOps F] (main_v186 : IVec S64x8x16 32) (main_c_2 : IVec S_ 32) : IVec S_ 1 :=
  let main_v187 : IVec S64x8x16 32 := broadcastInDim S64x8x16 ![] bcast_S_S64x8x16 main_c_2
  let main_v188 : IVec S64x8x16 1 := cmpi .slt main_v186 main_v187
  let main_c_3 : IVec S_ 1 := constantI S_ 1 1#1
  let main_v189 : IVec S_ 1 := (fun x v => Host.reduce IntOp.andi x v reducesTo_S64x8x16_S_d0_1_2 h_S_) main_v188 main_c_3
  main_v189

def fn_part7 {F : FTy → Type} [FloatOps F] (main_arg0 : FVec F S64x32768x16 .f32) (main_v156 : FVec F S64x16x16 .f32) (main_v158 : FVec F S64x16x16 .f32) (main_v160 : FVec F S64x16x16 .f32) (main_v162 : FVec F S64x16x16 .f32) (main_v165 : FVec F S64x16x16 .f32) : IVec S_ 1 :=
  let main_v166 : FVec F S64x16x16 .f32 := maximumf main_v156 main_v165
  let main_v167 : FVec F S64x16x16 .f32 := minimumf main_v156 main_v165
  let main_v168 : FVec F S64x16x16 .f32 := maximumf main_v158 main_v167
  let main_v169 : FVec F S64x16x16 .f32 := minimumf main_v158 main_v167
  let main_v170 : FVec F S64x16x16 .f32 := maximumf main_v160 main_v169
  let main_v171 : FVec F S64x16x16 .f32 := minimumf main_v160 main_v169
  let main_v172 : FVec F S64x16x16 .f32 := maximumf main_v162 main_v171
  let main_v173 : FVec F S64x16x16 .f32 := minimumf main_v162 main_v171
  let main_v174 : FVec F S64x8x2x16 .f32 := shapeCast S64x8x2x16 main_v172 shapeCasts_S64x16x16_S64x8x2x16
  let main_v175 : FVec F S64x8x1x16 .f32 := (extractStridedSlice S64x8x1x16 ![0, 0, 0, 0] · slices_S64x8x2x16_S64x8x1x16_0_0_0_0) main_v174
  let main_v176 : FVec F S64x8x16 .f32 := shapeCast S64x8x16 main_v175 shapeCasts_S64x8x1x16_S64x8x16
  let main_v177 : FVec F S64x8x1x16 .f32 := (extractStridedSlice S64x8x1x16 ![0, 0, 1, 0] · slices_S64x8x2x16_S64x8x1x16_0_0_1_0) main_v174
  let main_v178 : FVec F S64x8x16 .f32 := shapeCast S64x8x16 main_v177 shapeCasts_S64x8x1x16_S64x8x16
  let main_v179 : FVec F S64x8x16 .f32 := minimumf main_v176 main_v178
  let main_cst_1 : FVec F S_ .f32 := constant S_ .f32 0x7F800000#32
  let main_v180 : FVec F S64x16 .f32 := (fun x v => Host.reduce FloatOps.minimumf x v reducesTo_S64x8x16_S64x16_d1 h_S_) main_v179 main_cst_1
  let main_v181 : FVec F S64x16x8x256x16 .f32 := shapeCast S64x16x8x256x16 main_arg0 shapeCasts_S64x32768x16_S64x16x8x256x16
  let main_v182 : FVec F S64x1x1x1x16 .f32 := broadcastInDim S64x1x1x1x16 ![0, 4] bcast_S64x16_S64x1x1x1x16_0_4 main_v180
  let main_v183 : FVec F S64x16x8x256x16 .f32 := broadcastInDim S64x16x8x256x16 ![0, 1, 2, 3, 4] bcast_S64x1x1x1x16_S64x16x8x256x16_0_1_2_3_4 main_v182
  let main_v184 : IVec S64x16x8x256x16 1 := cmpf .oge main_v181 main_v183
  let main_v185 : IVec S64x16x8x256x16 32 := (extui 32 · natLt_1_32) main_v184
  let main_c : IVec S_ 32 := constantI S_ 32 0#32
  let main_v186 : IVec S64x8x16 32 := (fun x v => Host.reduce IntOp.addi x v reducesTo_S64x16x8x256x16_S64x8x16_d1_3 h_S_) main_v185 main_c
  let main_c_2 : IVec S_ 32 := constantI S_ 32 64#32
  fn_part8 (F := F) main_v186 main_c_2

def fn_part6 {F : FTy → Type} [FloatOps F] (main_arg0 : FVec F S64x32768x16 .f32) (main_v12 : FVec F S64x16x16x16 .f32) (main_v132 : FVec F S64x16x16 .f32) (main_v136 : FVec F S64x16x16 .f32) (main_v138 : FVec F S64x16x16 .f32) (main_v140 : FVec F S64x16x16 .f32) (main_v141 : FVec F S64x16x16 .f32) : IVec S_ 1 :=
  let main_v142 : FVec F S64x16x16 .f32 := maximumf main_v132 main_v141
  let main_v143 : FVec F S64x16x16 .f32 := minimumf main_v132 main_v141
  let main_v144 : FVec F S64x16x1x16 .f32 := (extractStridedSlice S64x16x1x16 ![0, 0, 13, 0] · slices_S64x16x16x16_S64x16x1x16_0_0_13_0) main_v12
  let main_v145 : FVec F S64x16x16 .f32 := shapeCast S64x16x16 main_v144 shapeCasts_S64x16x1x16_S64x16x16
  let main_v146 : FVec F S64x16x16 .f32 := maximumf main_v136 main_v145
  let main_v147 : FVec F S64x16x16 .f32 := minimumf main_v136 main_v145
  let main_v148 : FVec F S64x16x16 .f32 := maximumf main_v138 main_v147
  let main_v149 : FVec F S64x16x16 .f32 := minimumf main_v138 main_v147
  let main_v150 : FVec F S64x16x16 .f32 := maximumf main_v140 main_v149
  let main_v151 : FVec F S64x16x16 .f32 := minimumf main_v140 main_v149
  let main_v152 : FVec F S64x16x16 .f32 := maximumf main_v142 main_v151
  let main_v153 : FVec F S64x16x16 .f32 := minimumf main_v142 main_v151
  let main_v154 : FVec F S64x16x1x16 .f32 := (extractStridedSlice S64x16x1x16 ![0, 0, 14, 0] · slices_S64x16x16x16_S64x16x1x16_0_0_14_0) main_v12
  let main_v155 : FVec F S64x16x16 .f32 := shapeCast S64x16x16 main_v154 shapeCasts_S64x16x1x16_S64x16x16
  let main_v156 : FVec F S64x16x16 .f32 := maximumf main_v146 main_v155
  let main_v157 : FVec F S64x16x16 .f32 := minimumf main_v146 main_v155
  let main_v158 : FVec F S64x16x16 .f32 := maximumf main_v148 main_v157
  let main_v159 : FVec F S64x16x16 .f32 := minimumf main_v148 main_v157
  let main_v160 : FVec F S64x16x16 .f32 := maximumf main_v150 main_v159
  let main_v161 : FVec F S64x16x16 .f32 := minimumf main_v150 main_v159
  let main_v162 : FVec F S64x16x16 .f32 := maximumf main_v152 main_v161
  let main_v163 : FVec F S64x16x16 .f32 := minimumf main_v152 main_v161
  let main_v164 : FVec F S64x16x1x16 .f32 := (extractStridedSlice S64x16x1x16 ![0, 0, 15, 0] · slices_S64x16x16x16_S64x16x1x16_0_0_15_0) main_v12
  let main_v165 : FVec F S64x16x16 .f32 := shapeCast S64x16x16 main_v164 shapeCasts_S64x16x1x16_S64x16x16
  fn_part7 (F := F) main_arg0 main_v156 main_v158 main_v160 main_v162 main_v165

def fn_part5 {F : FTy → Type} [FloatOps F] (main_arg0 : FVec F S64x32768x16 .f32) (main_v12 : FVec F S64x16x16x16 .f32) (main_v108 : FVec F S64x16x16 .f32) (main_v110 : FVec F S64x16x16 .f32) (main_v112 : FVec F S64x16x16 .f32) (main_v116 : FVec F S64x16x16 .f32) (main_v117 : FVec F S64x16x16 .f32) : IVec S_ 1 :=
  let main_v118 : FVec F S64x16x16 .f32 := maximumf main_v108 main_v117
  let main_v119 : FVec F S64x16x16 .f32 := minimumf main_v108 main_v117
  let main_v120 : FVec F S64x16x16 .f32 := maximumf main_v110 main_v119
  let main_v121 : FVec F S64x16x16 .f32 := minimumf main_v110 main_v119
  let main_v122 : FVec F S64x16x16 .f32 := maximumf main_v112 main_v121
  let main_v123 : FVec F S64x16x16 .f32 := minimumf main_v112 main_v121
  let main_v124 : FVec F S64x16x1x16 .f32 := (extractStridedSlice S64x16x1x16 ![0, 0, 11, 0] · slices_S64x16x16x16_S64x16x1x16_0_0_11_0) main_v12
  let main_v125 : FVec F S64x16x16 .f32 := shapeCast S64x16x16 main_v124 shapeCasts_S64x16x1x16_S64x16x16
  let main_v126 : FVec F S64x16x16 .f32 := maximumf main_v116 main_v125
  let main_v127 : FVec F S64x16x16 .f32 := minimumf main_v116 main_v125
  let main_v128 : FVec F S64x16x16 .f32 := maximumf main_v118 main_v127
  let main_v129 : FVec F S64x16x16 .f32 := minimumf main_v118 main_v127
  let main_v130 : FVec F S64x16x16 .f32 := maximumf main_v120 main_v129
  let main_v131 : FVec F S64x16x16 .f32 := minimumf main_v120 main_v129
  let main_v132 : FVec F S64x16x16 .f32 := maximumf main_v122 main_v131
  let main_v133 : FVec F S64x16x16 .f32 := minimumf main_v122 main_v131
  let main_v134 : FVec F S64x16x1x16 .f32 := (extractStridedSlice S64x16x1x16 ![0, 0, 12, 0] · slices_S64x16x16x16_S64x16x1x16_0_0_12_0) main_v12
  let main_v135 : FVec F S64x16x16 .f32 := shapeCast S64x16x16 main_v134 shapeCasts_S64x16x1x16_S64x16x16
  let main_v136 : FVec F S64x16x16 .f32 := maximumf main_v126 main_v135
  let main_v137 : FVec F S64x16x16 .f32 := minimumf main_v126 main_v135
  let main_v138 : FVec F S64x16x16 .f32 := maximumf main_v128 main_v137
  let main_v139 : FVec F S64x16x16 .f32 := minimumf main_v128 main_v137
  let main_v140 : FVec F S64x16x16 .f32 := maximumf main_v130 main_v139
  let main_v141 : FVec F S64x16x16 .f32 := minimumf main_v130 main_v139
  fn_part6 (F := F) main_arg0 main_v12 main_v132 main_v136 main_v138 main_v140 main_v141

def fn_part4 {F : FTy → Type} [FloatOps F] (main_arg0 : FVec F S64x32768x16 .f32) (main_v12 : FVec F S64x16x16x16 .f32) (main_v86 : FVec F S64x16x16 .f32) (main_v88 : FVec F S64x16x16 .f32) (main_v90 : FVec F S64x16x16 .f32) (main_v92 : FVec F S64x16x16 .f32) : IVec S_ 1 :=
  let main_v94 : FVec F S64x16x1x16 .f32 := (extractStridedSlice S64x16x1x16 ![0, 0, 8, 0] · slices_S64x16x16x16_S64x16x1x16_0_0_8_0) main_v12
  let main_v95 : FVec F S64x16x16 .f32 := shapeCast S64x16x16 main_v94 shapeCasts_S64x16x1x16_S64x16x16
  let main_v96 : FVec F S64x16x16 .f32 := maximumf main_v86 main_v95
  let main_v97 : FVec F S64x16x16 .f32 := minimumf main_v86 main_v95
  let main_v98 : FVec F S64x16x16 .f32 := maximumf main_v88 main_v97
  let main_v99 : FVec F S64x16x16 .f32 := minimumf main_v88 main_v97
  let main_v100 : FVec F S64x16x16 .f32 := maximumf main_v90 main_v99
  let main_v101 : FVec F S64x16x16 .f32 := minimumf main_v90 main_v99
  let main_v102 : FVec F S64x16x16 .f32 := maximumf main_v92 main_v101
  let main_v103 : FVec F S64x16x16 .f32 := minimumf main_v92 main_v101
  let main_v104 : FVec F S64x16x1x16 .f32 := (extractStridedSlice S64x16x1x16 ![0, 0, 9, 0] · slices_S64x16x16x16_S64x16x1x16_0_0_9_0) main_v12
  let main_v105 : FVec F S64x16x16 .f32 := shapeCast S64x16x16 main_v104 shapeCasts_S64x16x1x16_S64x16x16
  let main_v106 : FVec F S64x16x16 .f32 := maximumf main_v96 main_v105
  let main_v107 : FVec F S64x16x16 .f32 := minimumf main_v96 main_v105
  let main_v108 : FVec F S64x16x16 .f32 := maximumf main_v98 main_v107
  let main_v109 : FVec F S64x16x16 .f32 := minimumf main_v98 main_v107
  let main_v110 : FVec F S64x16x16 .f32 := maximumf main_v100 main_v109
  let main_v111 : FVec F S64x16x16 .f32 := minimumf main_v100 main_v109
  let main_v112 : FVec F S64x16x16 .f32 := maximumf main_v102 main_v111
  let main_v113 : FVec F S64x16x16 .f32 := minimumf main_v102 main_v111
  let main_v114 : FVec F S64x16x1x16 .f32 := (extractStridedSlice S64x16x1x16 ![0, 0, 10, 0] · slices_S64x16x16x16_S64x16x1x16_0_0_10_0) main_v12
  let main_v115 : FVec F S64x16x16 .f32 := shapeCast S64x16x16 main_v114 shapeCasts_S64x16x1x16_S64x16x16
  let main_v116 : FVec F S64x16x16 .f32 := maximumf main_v106 main_v115
  let main_v117 : FVec F S64x16x16 .f32 := minimumf main_v106 main_v115
  fn_part5 (F := F) main_arg0 main_v12 main_v108 main_v110 main_v112 main_v116 main_v117

def fn_part3 {F : FTy → Type} [FloatOps F] (main_arg0 : FVec F S64x32768x16 .f32) (main_v12 : FVec F S64x16x16x16 .f32) (main_v60 : FVec F S64x16x16 .f32) (main_v62 : FVec F S64x16x16 .f32) (main_v66 : FVec F S64x16x16 .f32) (main_v68 : FVec F S64x16x16 .f32) (main_v69 : FVec F S64x16x16 .f32) : IVec S_ 1 :=
  let main_v70 : FVec F S64x16x16 .f32 := maximumf main_v60 main_v69
  let main_v71 : FVec F S64x16x16 .f32 := minimumf main_v60 main_v69
  let main_v72 : FVec F S64x16x16 .f32 := maximumf main_v62 main_v71
  let main_v73 : FVec F S64x16x16 .f32 := minimumf main_v62 main_v71
  let main_v74 : FVec F S64x16x1x16 .f32 := (extractStridedSlice S64x16x1x16 ![0, 0, 6, 0] · slices_S64x16x16x16_S64x16x1x16_0_0_6_0) main_v12
  let main_v75 : FVec F S64x16x16 .f32 := shapeCast S64x16x16 main_v74 shapeCasts_S64x16x1x16_S64x16x16
  let main_v76 : FVec F S64x16x16 .f32 := maximumf main_v66 main_v75
  let main_v77 : FVec F S64x16x16 .f32 := minimumf main_v66 main_v75
  let main_v78 : FVec F S64x16x16 .f32 := maximumf main_v68 main_v77
  let main_v79 : FVec F S64x16x16 .f32 := minimumf main_v68 main_v77
  let main_v80 : FVec F S64x16x16 .f32 := maximumf main_v70 main_v79
  let main_v81 : FVec F S64x16x16 .f32 := minimumf main_v70 main_v79
  let main_v82 : FVec F S64x16x16 .f32 := maximumf main_v72 main_v81
  let main_v83 : FVec F S64x16x16 .f32 := minimumf main_v72 main_v81
  let main_v84 : FVec F S64x16x1x16 .f32 := (extractStridedSlice S64x16x1x16 ![0, 0, 7, 0] · slices_S64x16x16x16_S64x16x1x16_0_0_7_0) main_v12
  let main_v85 : FVec F S64x16x16 .f32 := shapeCast S64x16x16 main_v84 shapeCasts_S64x16x1x16_S64x16x16
  let main_v86 : FVec F S64x16x16 .f32 := maximumf main_v76 main_v85
  let main_v87 : FVec F S64x16x16 .f32 := minimumf main_v76 main_v85
  let main_v88 : FVec F S64x16x16 .f32 := maximumf main_v78 main_v87
  let main_v89 : FVec F S64x16x16 .f32 := minimumf main_v78 main_v87
  let main_v90 : FVec F S64x16x16 .f32 := maximumf main_v80 main_v89
  let main_v91 : FVec F S64x16x16 .f32 := minimumf main_v80 main_v89
  let main_v92 : FVec F S64x16x16 .f32 := maximumf main_v82 main_v91
  let main_v93 : FVec F S64x16x16 .f32 := minimumf main_v82 main_v91
  fn_part4 (F := F) main_arg0 main_v12 main_v86 main_v88 main_v90 main_v92

def fn_part2 {F : FTy → Type} [FloatOps F] (main_arg0 : FVec F S64x32768x16 .f32) (main_v12 : FVec F S64x16x16x16 .f32) (main_v36 : FVec F S64x16x16 .f32) (main_v38 : FVec F S64x16x16 .f32) (main_v40 : FVec F S64x16x16 .f32) (main_v42 : FVec F S64x16x16 .f32) (main_v45 : FVec F S64x16x16 .f32) : IVec S_ 1 :=
  let main_v46 : FVec F S64x16x16 .f32 := maximumf main_v36 main_v45
  let main_v47 : FVec F S64x16x16 .f32 := minimumf main_v36 main_v45
  let main_v48 : FVec F S64x16x16 .f32 := maximumf main_v38 main_v47
  let main_v49 : FVec F S64x16x16 .f32 := minimumf main_v38 main_v47
  let main_v50 : FVec F S64x16x16 .f32 := maximumf main_v40 main_v49
  let main_v51 : FVec F S64x16x16 .f32 := minimumf main_v40 main_v49
  let main_v52 : FVec F S64x16x16 .f32 := maximumf main_v42 main_v51
  let main_v53 : FVec F S64x16x16 .f32 := minimumf main_v42 main_v51
  let main_v54 : FVec F S64x16x1x16 .f32 := (extractStridedSlice S64x16x1x16 ![0, 0, 4, 0] · slices_S64x16x16x16_S64x16x1x16_0_0_4_0) main_v12
  let main_v55 : FVec F S64x16x16 .f32 := shapeCast S64x16x16 main_v54 shapeCasts_S64x16x1x16_S64x16x16
  let main_v56 : FVec F S64x16x16 .f32 := maximumf main_v46 main_v55
  let main_v57 : FVec F S64x16x16 .f32 := minimumf main_v46 main_v55
  let main_v58 : FVec F S64x16x16 .f32 := maximumf main_v48 main_v57
  let main_v59 : FVec F S64x16x16 .f32 := minimumf main_v48 main_v57
  let main_v60 : FVec F S64x16x16 .f32 := maximumf main_v50 main_v59
  let main_v61 : FVec F S64x16x16 .f32 := minimumf main_v50 main_v59
  let main_v62 : FVec F S64x16x16 .f32 := maximumf main_v52 main_v61
  let main_v63 : FVec F S64x16x16 .f32 := minimumf main_v52 main_v61
  let main_v64 : FVec F S64x16x1x16 .f32 := (extractStridedSlice S64x16x1x16 ![0, 0, 5, 0] · slices_S64x16x16x16_S64x16x1x16_0_0_5_0) main_v12
  let main_v65 : FVec F S64x16x16 .f32 := shapeCast S64x16x16 main_v64 shapeCasts_S64x16x1x16_S64x16x16
  let main_v66 : FVec F S64x16x16 .f32 := maximumf main_v56 main_v65
  let main_v67 : FVec F S64x16x16 .f32 := minimumf main_v56 main_v65
  let main_v68 : FVec F S64x16x16 .f32 := maximumf main_v58 main_v67
  let main_v69 : FVec F S64x16x16 .f32 := minimumf main_v58 main_v67
  fn_part3 (F := F) main_arg0 main_v12 main_v60 main_v62 main_v66 main_v68 main_v69

def fn_part1 {F : FTy → Type} [FloatOps F] (main_arg0 : FVec F S64x32768x16 .f32) (main_v12 : FVec F S64x16x16x16 .f32) (main_v13 : FVec F S64x16x16 .f32) (main_v16 : FVec F S64x16x16 .f32) (main_v18 : FVec F S64x16x16 .f32) (main_v20 : FVec F S64x16x16 .f32) (main_v21 : FVec F S64x16x16 .f32) : IVec S_ 1 :=
  let main_v22 : FVec F S64x16x16 .f32 := maximumf main_v13 main_v21
  let main_v23 : FVec F S64x16x16 .f32 := minimumf main_v13 main_v21
  let main_v24 : FVec F S64x16x1x16 .f32 := (extractStridedSlice S64x16x1x16 ![0, 0, 1, 0] · slices_S64x16x16x16_S64x16x1x16_0_0_1_0) main_v12
  let main_v25 : FVec F S64x16x16 .f32 := shapeCast S64x16x16 main_v24 shapeCasts_S64x16x1x16_S64x16x16
  let main_v26 : FVec F S64x16x16 .f32 := maximumf main_v16 main_v25
  let main_v27 : FVec F S64x16x16 .f32 := minimumf main_v16 main_v25
  let main_v28 : FVec F S64x16x16 .f32 := maximumf main_v18 main_v27
  let main_v29 : FVec F S64x16x16 .f32 := minimumf main_v18 main_v27
  let main_v30 : FVec F S64x16x16 .f32 := maximumf main_v20 main_v29
  let main_v31 : FVec F S64x16x16 .f32 := minimumf main_v20 main_v29
  let main_v32 : FVec F S64x16x16 .f32 := maximumf main_v22 main_v31
  let main_v33 : FVec F S64x16x16 .f32 := minimumf main_v22 main_v31
  let main_v34 : FVec F S64x16x1x16 .f32 := (extractStridedSlice S64x16x1x16 ![0, 0, 2, 0] · slices_S64x16x16x16_S64x16x1x16_0_0_2_0) main_v12
  let main_v35 : FVec F S64x16x16 .f32 := shapeCast S64x16x16 main_v34 shapeCasts_S64x16x1x16_S64x16x16
  let main_v36 : FVec F S64x16x16 .f32 := maximumf main_v26 main_v35
  let main_v37 : FVec F S64x16x16 .f32 := minimumf main_v26 main_v35
  let main_v38 : FVec F S64x16x16 .f32 := maximumf main_v28 main_v37
  let main_v39 : FVec F S64x16x16 .f32 := minimumf main_v28 main_v37
  let main_v40 : FVec F S64x16x16 .f32 := maximumf main_v30 main_v39
  let main_v41 : FVec F S64x16x16 .f32 := minimumf main_v30 main_v39
  let main_v42 : FVec F S64x16x16 .f32 := maximumf main_v32 main_v41
  let main_v43 : FVec F S64x16x16 .f32 := minimumf main_v32 main_v41
  let main_v44 : FVec F S64x16x1x16 .f32 := (extractStridedSlice S64x16x1x16 ![0, 0, 3, 0] · slices_S64x16x16x16_S64x16x1x16_0_0_3_0) main_v12
  let main_v45 : FVec F S64x16x16 .f32 := shapeCast S64x16x16 main_v44 shapeCasts_S64x16x1x16_S64x16x16
  fn_part2 (F := F) main_arg0 main_v12 main_v36 main_v38 main_v40 main_v42 main_v45

def fn {F : FTy → Type} [FloatOps F] (main_arg0 : FVec F S64x32768x16 .f32) : IVec S_ 1 :=
  let main_v0 : FVec F S64x16x16x32x4x16 .f32 := shapeCast S64x16x16x32x4x16 main_arg0 shapeCasts_S64x32768x16_S64x16x16x32x4x16
  let main_cst : FVec F S_ .f32 := constant S_ .f32 0xFF800000#32
  let main_v1 : FVec F S64x16x16x4x16 .f32 := (fun x v => Host.reduce FloatOps.maximumf x v reducesTo_S64x16x16x32x4x16_S64x16x16x4x16_d3 h_S_) main_v0 main_cst
  let main_v2 : FVec F S64x16x16x1x16 .f32 := (extractStridedSlice S64x16x16x1x16 ![0, 0, 0, 0, 0] · slices_S64x16x16x4x16_S64x16x16x1x16_0_0_0_0_0) main_v1
  let main_v3 : FVec F S64x16x16x16 .f32 := shapeCast S64x16x16x16 main_v2 shapeCasts_S64x16x16x1x16_S64x16x16x16
  let main_v4 : FVec F S64x16x16x1x16 .f32 := (extractStridedSlice S64x16x16x1x16 ![0, 0, 0, 1, 0] · slices_S64x16x16x4x16_S64x16x16x1x16_0_0_0_1_0) main_v1
  let main_v5 : FVec F S64x16x16x16 .f32 := shapeCast S64x16x16x16 main_v4 shapeCasts_S64x16x16x1x16_S64x16x16x16
  let main_v6 : FVec F S64x16x16x16 .f32 := maximumf main_v3 main_v5
  let main_v7 : FVec F S64x16x16x1x16 .f32 := (extractStridedSlice S64x16x16x1x16 ![0, 0, 0, 2, 0] · slices_S64x16x16x4x16_S64x16x16x1x16_0_0_0_2_0) main_v1
  let main_v8 : FVec F S64x16x16x16 .f32 := shapeCast S64x16x16x16 main_v7 shapeCasts_S64x16x16x1x16_S64x16x16x16
  let main_v9 : FVec F S64x16x16x1x16 .f32 := (extractStridedSlice S64x16x16x1x16 ![0, 0, 0, 3, 0] · slices_S64x16x16x4x16_S64x16x16x1x16_0_0_0_3_0) main_v1
  let main_v10 : FVec F S64x16x16x16 .f32 := shapeCast S64x16x16x16 main_v9 shapeCasts_S64x16x16x1x16_S64x16x16x16
  let main_v11 : FVec F S64x16x16x16 .f32 := maximumf main_v8 main_v10
  let main_v12 : FVec F S64x16x16x16 .f32 := maximumf main_v6 main_v11
  let main_cst_0 : FVec F S_ .f32 := constant S_ .f32 0xFF800000#32
  let main_v13 : FVec F S64x16x16 .f32 := broadcastInDim S64x16x16 ![] bcast_S_S64x16x16 main_cst_0
  let main_v14 : FVec F S64x16x1x16 .f32 := (extractStridedSlice S64x16x1x16 ![0, 0, 0, 0] · slices_S64x16x16x16_S64x16x1x16_0_0_0_0) main_v12
  let main_v15 : FVec F S64x16x16 .f32 := shapeCast S64x16x16 main_v14 shapeCasts_S64x16x1x16_S64x16x16
  let main_v16 : FVec F S64x16x16 .f32 := maximumf main_v13 main_v15
  let main_v17 : FVec F S64x16x16 .f32 := minimumf main_v13 main_v15
  let main_v18 : FVec F S64x16x16 .f32 := maximumf main_v13 main_v17
  let main_v19 : FVec F S64x16x16 .f32 := minimumf main_v13 main_v17
  let main_v20 : FVec F S64x16x16 .f32 := maximumf main_v13 main_v19
  let main_v21 : FVec F S64x16x16 .f32 := minimumf main_v13 main_v19
  fn_part1 (F := F) main_arg0 main_v12 main_v13 main_v16 main_v18 main_v20 main_v21
-- ==== Kernel.lean ====
abbrev S64x32768x16 : Shape := ⟨3, ![64, 32768, 16]⟩
abbrev S64x524288 : Shape := ⟨2, ![64, 524288]⟩
abbrev S64x1024 : Shape := ⟨2, ![64, 1024]⟩
abbrev S32768 : Shape := ⟨1, ![32768]⟩
abbrev S8192 : Shape := ⟨1, ![8192]⟩
abbrev S1024 : Shape := ⟨1, ![1024]⟩
abbrev S_ : Shape := ⟨0, ![]⟩
abbrev S16 : Shape := ⟨1, ![16]⟩
abbrev S1x32768 : Shape := ⟨2, ![1, 32768]⟩
abbrev S1x1024 : Shape := ⟨2, ![1, 1024]⟩
abbrev S64x64x16 : Shape := ⟨3, ![64, 64, 16]⟩

abbrev nBuf : Table → Nat
  | .hbm => 6
  | .local .scVector .vmem => 6
  | _ => 0

abbrev bufTy : (tb : Table) → Fin (nBuf tb) → BufTy
  | .hbm, ⟨0, _⟩ => ⟨S64x32768x16, .f32⟩
  | .hbm, ⟨1, _⟩ => ⟨S64x524288, .f32⟩
  | .hbm, ⟨2, _⟩ => ⟨S64x1024, .f32⟩
  | .hbm, ⟨3, _⟩ => ⟨S64x1024, .i32⟩
  | .hbm, ⟨4, _⟩ => ⟨S64x64x16, .f32⟩
  | .hbm, ⟨5, _⟩ => ⟨S64x64x16, .i32⟩
  | .local .scVector .vmem, ⟨0, _⟩ => ⟨S32768, .f32⟩
  | .local .scVector .vmem, ⟨1, _⟩ => ⟨S32768, .f32⟩
  | .local .scVector .vmem, ⟨2, _⟩ => ⟨S8192, .f32⟩
  | .local .scVector .vmem, ⟨3, _⟩ => ⟨S8192, .i32⟩
  | .local .scVector .vmem, ⟨4, _⟩ => ⟨S1024, .f32⟩
  | .local .scVector .vmem, ⟨5, _⟩ => ⟨S1024, .i32⟩
  | _, _ => ⟨S64x32768x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v2 : Ref sig .tc := ⟨.hbm, 4, rfl⟩
abbrev main_v3 : Ref sig .tc := ⟨.hbm, 5, rfl⟩
abbrev main_v0_scv : Ref sig .scVector := ⟨.hbm, 1, rfl⟩
abbrev main_v1_0_scv : Ref sig .scVector := ⟨.hbm, 2, rfl⟩
abbrev main_v1_1_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_1 : BitVec 32 := 0#32
  let c2_i32_2 : BitVec 32 := 2#32
  let v6 : BitVec 32 := Scalar.addi c0_i32_1 c2_i32_2
  let c1_i32 : BitVec 32 := 1#32
  ⟨c0_i32_1, v6, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c0_i32_5 : BitVec 32 := 0#32
  ![v9.toNat, 0]
def k0_off2 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c32768_i32 : BitVec 32 := 32768#32
  ![v9.toNat, 32768]
@[reducible] def k0_t2_loop : Scf.Loop 32 :=
  let c0_i32_9 : BitVec 32 := 0#32
  let c8_i32 : BitVec 32 := 8#32
  let v19 : BitVec 32 := Scalar.addi c0_i32_9 c8_i32
  let c1_i32_10 : BitVec 32 := 1#32
  ⟨c0_i32_9, v19, c1_i32_10⟩
@[reducible] def k0_t3_loop : Scf.Loop 32 :=
  let c0_i32_54 : BitVec 32 := 0#32
  let c16_i32 : BitVec 32 := 16#32
  let v121 : BitVec 32 := Scalar.addi c0_i32_54 c16_i32
  let c1_i32_55 : BitVec 32 := 1#32
  ⟨c0_i32_54, v121, c1_i32_55⟩
@[reducible] def k0_t4_loop : Scf.Loop 32 :=
  let c0_i32_67 : BitVec 32 := 0#32
  let c4_i32 : BitVec 32 := 4#32
  let v137 : BitVec 32 := Scalar.addi c0_i32_67 c4_i32
  let c1_i32_68 : BitVec 32 := 1#32
  ⟨c0_i32_67, v137, c1_i32_68⟩
def k0_off3 (k0_t3 : Fin k0_t3_loop.trips) (k0_t4 : Fin k0_t4_loop.trips) (c0_i32_72 : BitVec 32) : Fin 1 → Nat :=
  let c0_i32_54 : BitVec 32 := 0#32
  let c1_i32_55 : BitVec 32 := 1#32
  let arg17 : BitVec 32 := Scf.iv c0_i32_54 c1_i32_55 k0_t3
  let c128_i32 : BitVec 32 := 128#32
  let v150 : BitVec 32 := Scalar.muli arg17 c128_i32
  let c0_i32_67 : BitVec 32 := 0#32
  let c1_i32_68 : BitVec 32 := 1#32
  let arg22 : BitVec 32 := Scf.iv c0_i32_67 c1_i32_68 k0_t4
  let c32_i32_70 : BitVec 32 := 32#32
  let v151 : BitVec 32 := Scalar.muli arg22 c32_i32_70
  let v152 : BitVec 32 := Scalar.addi v150 v151
  let c16_i32_71 : BitVec 32 := 16#32
  let v153 : BitVec 32 := Scalar.muli v152 c16_i32_71
  let v154 : BitVec 32 := Scalar.addi v153 c0_i32_72
  let v155 : Index := Scalar.indexCast v154
  ![v155.toNat]
def k0_cond1 (k0_t2 : Fin k0_t2_loop.trips) : BitVec 1 :=
  let c0_i32_9 : BitVec 32 := 0#32
  let c1_i32_10 : BitVec 32 := 1#32
  let arg15 : BitVec 32 := Scf.iv c0_i32_9 c1_i32_10 k0_t2
  let c7_i32 : BitVec 32 := 7#32
  let v123 : BitVec 1 := Scalar.cmpi .slt arg15 c7_i32
  let v124 : BitVec 32 := Scalar.extui v123
  let c0_i32_57 : BitVec 32 := 0#32
  let v125 : BitVec 1 := Scalar.cmpi .ne v124 c0_i32_57
  v125

def k0_off4 (i : grid0.Coords) (k0_t1 : Fin k0_t1_loop.trips) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c2_i32_67 : BitVec 32 := 2#32
  let c0_i32_9 : BitVec 32 := 0#32
  let c1_i32_10 : BitVec 32 := 1#32
  let arg15 : BitVec 32 := Scf.iv c0_i32_9 c1_i32_10 k0_t2
  let v137 : BitVec 32 := Scalar.muli c2_i32_67 arg15
  let c2_i32_68 : BitVec 32 := 2#32
  let v138 : BitVec 32 := Scalar.addi v137 c2_i32_68
  let c32768_i32_69 : BitVec 32 := 32768#32
  let v139 : BitVec 32 := Scalar.muli v138 c32768_i32_69
  ![v9.toNat, v139.toNat]
@[reducible] def k0_t5_loop : Scf.Loop 32 :=
  let c0_i32_61 : BitVec 32 := 0#32
  let c16_i32_62 : BitVec 32 := 16#32
  let v130 : BitVec 32 := Scalar.addi c0_i32_61 c16_i32_62
  let c1_i32_63 : BitVec 32 := 1#32
  ⟨c0_i32_61, v130, c1_i32_63⟩
@[reducible] def k0_t6_loop : Scf.Loop 32 :=
  let c0_i32_67 : BitVec 32 := 0#32
  let c4_i32 : BitVec 32 := 4#32
  let v137 : BitVec 32 := Scalar.addi c0_i32_67 c4_i32
  let c1_i32_68 : BitVec 32 := 1#32
  ⟨c0_i32_67, v137, c1_i32_68⟩
def k0_off5 (k0_t5 : Fin k0_t5_loop.trips) (k0_t6 : Fin k0_t6_loop.trips) (c0_i32_72 : BitVec 32) : Fin 1 → Nat :=
  let c0_i32_61 : BitVec 32 := 0#32
  let c1_i32_63 : BitVec 32 := 1#32
  let arg17 : BitVec 32 := Scf.iv c0_i32_61 c1_i32_63 k0_t5
  let c128_i32 : BitVec 32 := 128#32
  let v150 : BitVec 32 := Scalar.muli arg17 c128_i32
  let c0_i32_67 : BitVec 32 := 0#32
  let c1_i32_68 : BitVec 32 := 1#32
  let arg22 : BitVec 32 := Scf.iv c0_i32_67 c1_i32_68 k0_t6
  let c32_i32_70 : BitVec 32 := 32#32
  let v151 : BitVec 32 := Scalar.muli arg22 c32_i32_70
  let v152 : BitVec 32 := Scalar.addi v150 v151
  let c16_i32_71 : BitVec 32 := 16#32
  let v153 : BitVec 32 := Scalar.muli v152 c16_i32_71
  let v154 : BitVec 32 := Scalar.addi v153 c0_i32_72
  let v155 : Index := Scalar.indexCast v154
  ![v155.toNat]
def k0_cond2 (k0_t2 : Fin k0_t2_loop.trips) : BitVec 1 :=
  let c0_i32_9 : BitVec 32 := 0#32
  let c1_i32_10 : BitVec 32 := 1#32
  let arg15 : BitVec 32 := Scf.iv c0_i32_9 c1_i32_10 k0_t2
  let c7_i32_65 : BitVec 32 := 7#32
  let v132 : BitVec 1 := Scalar.cmpi .slt arg15 c7_i32_65
  let v133 : BitVec 32 := Scalar.extui v132
  let c0_i32_66 : BitVec 32 := 0#32
  let v134 : BitVec 1 := Scalar.cmpi .ne v133 c0_i32_66
  v134

def k0_off6 (i : grid0.Coords) (k0_t1 : Fin k0_t1_loop.trips) (k0_t2 : Fin k0_t2_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c2_i32_67 : BitVec 32 := 2#32
  let c0_i32_9 : BitVec 32 := 0#32
  let c1_i32_10 : BitVec 32 := 1#32
  let arg15 : BitVec 32 := Scf.iv c0_i32_9 c1_i32_10 k0_t2
  let v137 : BitVec 32 := Scalar.muli c2_i32_67 arg15
  let c3_i32 : BitVec 32 := 3#32
  let v138 : BitVec 32 := Scalar.addi v137 c3_i32
  let c32768_i32_68 : BitVec 32 := 32768#32
  let v139 : BitVec 32 := Scalar.muli v138 c32768_i32_68
  ![v9.toNat, v139.toNat]
@[reducible] def k0_t7_loop : Scf.Loop 32 :=
  let c0_i32_13 : BitVec 32 := 0#32
  let c64_i32 : BitVec 32 := 64#32
  let v21 : BitVec 32 := Scalar.addi c0_i32_13 c64_i32
  let c1_i32_14 : BitVec 32 := 1#32
  ⟨c0_i32_13, v21, c1_i32_14⟩
def k0_off7 (k0_t7 : Fin k0_t7_loop.trips) : Fin 1 → Nat :=
  let c0_i32_13 : BitVec 32 := 0#32
  let c1_i32_14 : BitVec 32 := 1#32
  let arg15 : BitVec 32 := Scf.iv c0_i32_13 c1_i32_14 k0_t7
  let c16_i32 : BitVec 32 := 16#32
  let v117 : BitVec 32 := Scalar.muli arg15 c16_i32
  let v118 : Index := Scalar.indexCast v117
  ![v118.toNat]
@[reducible] def k0_t8_loop : Scf.Loop 32 :=
  let c0_i32_17 : BitVec 32 := 0#32
  let c512_i32 : BitVec 32 := 512#32
  let v23 : BitVec 32 := Scalar.addi c0_i32_17 c512_i32
  let c1_i32_18 : BitVec 32 := 1#32
  ⟨c0_i32_17, v23, c1_i32_18⟩
def k0_off8 (k0_t8 : Fin k0_t8_loop.trips) : Fin 1 → Nat :=
  let c0_i32_17 : BitVec 32 := 0#32
  let c1_i32_18 : BitVec 32 := 1#32
  let arg15 : BitVec 32 := Scf.iv c0_i32_17 c1_i32_18 k0_t8
  let c16_i32 : BitVec 32 := 16#32
  let v117 : BitVec 32 := Scalar.muli arg15 c16_i32
  let v118 : Index := Scalar.indexCast v117
  ![v118.toNat]
@[reducible] def k0_t9_loop : Scf.Loop 32 :=
  let c0_i32_28 : BitVec 32 := 0#32
  let c8_i32_29 : BitVec 32 := 8#32
  let v65 : BitVec 32 := Scalar.addi c0_i32_28 c8_i32_29
  let c1_i32_30 : BitVec 32 := 1#32
  ⟨c0_i32_28, v65, c1_i32_30⟩
@[reducible] def k0_t10_loop : Scf.Loop 32 :=
  let c0_i32_55 : BitVec 32 := 0#32
  let c64_i32_56 : BitVec 32 := 64#32
  let v122 : BitVec 32 := Scalar.addi c0_i32_55 c64_i32_56
  let c1_i32_57 : BitVec 32 := 1#32
  ⟨c0_i32_55, v122, c1_i32_57⟩
def k0_off9 (k0_t10 : Fin k0_t10_loop.trips) : Fin 1 → Nat :=
  let c0_i32_88 : BitVec 32 := 0#32
  let c0_i32_55 : BitVec 32 := 0#32
  let c1_i32_57 : BitVec 32 := 1#32
  let arg32 : BitVec 32 := Scf.iv c0_i32_55 c1_i32_57 k0_t10
  let c4_i32 : BitVec 32 := 4#32
  let v170 : BitVec 32 := Scalar.muli arg32 c4_i32
  let c0_i32_87 : BitVec 32 := 0#32
  let v171 : BitVec 32 := Scalar.addi v170 c0_i32_87
  let c16_i32 : BitVec 32 := 16#32
  let v172 : BitVec 32 := Scalar.muli v171 c16_i32
  let v173 : BitVec 32 := Scalar.addi c0_i32_88 v172
  let v174 : Index := Scalar.indexCast v173
  ![v174.toNat]

def k0_chk1 (arg33 : IVec S16 32) : Prop :=
  (∀ a x, ((![arg33] : Fin 1 → IVec S16 32) a x).toNat < S8192.size a) ∧
  (∀ a x, ((![arg33] : Fin 1 → IVec S16 32) a x).toNat < S8192.size a)
theorem k0_idx1_inb : ∀ (arg33 : IVec S16 32) (k0_hw1 : k0_chk1 arg33), ∀ a x, ((![arg33] : Fin 1 → IVec S16 32) a x).toNat < S8192.size a := fun arg33 k0_hw1 => k0_hw1.1
theorem k0_idx2_inb : ∀ (arg33 : IVec S16 32) (k0_hw1 : k0_chk1 arg33), ∀ a x, ((![arg33] : Fin 1 → IVec S16 32) a x).toNat < S8192.size a := fun arg33 k0_hw1 => k0_hw1.2
def k0_off10 (k0_t10 : Fin k0_t10_loop.trips) : Fin 1 → Nat :=
  let c0_i32_96 : BitVec 32 := 0#32
  let c0_i32_55 : BitVec 32 := 0#32
  let c1_i32_57 : BitVec 32 := 1#32
  let arg32 : BitVec 32 := Scf.iv c0_i32_55 c1_i32_57 k0_t10
  let c4_i32_93 : BitVec 32 := 4#32
  let v186 : BitVec 32 := Scalar.muli arg32 c4_i32_93
  let c1_i32_94 : BitVec 32 := 1#32
  let v187 : BitVec 32 := Scalar.addi v186 c1_i32_94
  let c16_i32_95 : BitVec 32 := 16#32
  let v188 : BitVec 32 := Scalar.muli v187 c16_i32_95
  let v189 : BitVec 32 := Scalar.addi c0_i32_96 v188
  let v190 : Index := Scalar.indexCast v189
  ![v190.toNat]

def k0_chk2 (v183 : IVec S16 32) : Prop :=
  (∀ a x, ((![v183] : Fin 1 → IVec S16 32) a x).toNat < S8192.size a) ∧
  (∀ a x, ((![v183] : Fin 1 → IVec S16 32) a x).toNat < S8192.size a)
theorem k0_idx3_inb : ∀ (v183 : IVec S16 32) (k0_hw2 : k0_chk2 v183), ∀ a x, ((![v183] : Fin 1 → IVec S16 32) a x).toNat < S8192.size a := fun v183 k0_hw2 => k0_hw2.1
theorem k0_idx4_inb : ∀ (v183 : IVec S16 32) (k0_hw2 : k0_chk2 v183), ∀ a x, ((![v183] : Fin 1 → IVec S16 32) a x).toNat < S8192.size a := fun v183 k0_hw2 => k0_hw2.2
def k0_off11 (k0_t10 : Fin k0_t10_loop.trips) : Fin 1 → Nat :=
  let c0_i32_104 : BitVec 32 := 0#32
  let c0_i32_55 : BitVec 32 := 0#32
  let c1_i32_57 : BitVec 32 := 1#32
  let arg32 : BitVec 32 := Scf.iv c0_i32_55 c1_i32_57 k0_t10
  let c4_i32_101 : BitVec 32 := 4#32
  let v202 : BitVec 32 := Scalar.muli arg32 c4_i32_101
  let c2_i32_102 : BitVec 32 := 2#32
  let v203 : BitVec 32 := Scalar.addi v202 c2_i32_102
  let c16_i32_103 : BitVec 32 := 16#32
  let v204 : BitVec 32 := Scalar.muli v203 c16_i32_103
  let v205 : BitVec 32 := Scalar.addi c0_i32_104 v204
  let v206 : Index := Scalar.indexCast v205
  ![v206.toNat]

def k0_chk3 (v199 : IVec S16 32) : Prop :=
  (∀ a x, ((![v199] : Fin 1 → IVec S16 32) a x).toNat < S8192.size a) ∧
  (∀ a x, ((![v199] : Fin 1 → IVec S16 32) a x).toNat < S8192.size a)
theorem k0_idx5_inb : ∀ (v199 : IVec S16 32) (k0_hw3 : k0_chk3 v199), ∀ a x, ((![v199] : Fin 1 → IVec S16 32) a x).toNat < S8192.size a := fun v199 k0_hw3 => k0_hw3.1
theorem k0_idx6_inb : ∀ (v199 : IVec S16 32) (k0_hw3 : k0_chk3 v199), ∀ a x, ((![v199] : Fin 1 → IVec S16 32) a x).toNat < S8192.size a := fun v199 k0_hw3 => k0_hw3.2
def k0_off12 (k0_t10 : Fin k0_t10_loop.trips) : Fin 1 → Nat :=
  let c0_i32_111 : BitVec 32 := 0#32
  let c0_i32_55 : BitVec 32 := 0#32
  let c1_i32_57 : BitVec 32 := 1#32
  let arg32 : BitVec 32 := Scf.iv c0_i32_55 c1_i32_57 k0_t10
  let c4_i32_109 : BitVec 32 := 4#32
  let v218 : BitVec 32 := Scalar.muli arg32 c4_i32_109
  let c3_i32 : BitVec 32 := 3#32
  let v219 : BitVec 32 := Scalar.addi v218 c3_i32
  let c16_i32_110 : BitVec 32 := 16#32
  let v220 : BitVec 32 := Scalar.muli v219 c16_i32_110
  let v221 : BitVec 32 := Scalar.addi c0_i32_111 v220
  let v222 : Index := Scalar.indexCast v221
  ![v222.toNat]

def k0_chk4 (v215 : IVec S16 32) : Prop :=
  (∀ a x, ((![v215] : Fin 1 → IVec S16 32) a x).toNat < S8192.size a) ∧
  (∀ a x, ((![v215] : Fin 1 → IVec S16 32) a x).toNat < S8192.size a)
theorem k0_idx7_inb : ∀ (v215 : IVec S16 32) (k0_hw4 : k0_chk4 v215), ∀ a x, ((![v215] : Fin 1 → IVec S16 32) a x).toNat < S8192.size a := fun v215 k0_hw4 => k0_hw4.1
theorem k0_idx8_inb : ∀ (v215 : IVec S16 32) (k0_hw4 : k0_chk4 v215), ∀ a x, ((![v215] : Fin 1 → IVec S16 32) a x).toNat < S8192.size a := fun v215 k0_hw4 => k0_hw4.2
def k0_off13 (k0_t10 : Fin k0_t10_loop.trips) : Fin 1 → Nat :=
  let c4096_i32_119 : BitVec 32 := 4096#32
  let c0_i32_55 : BitVec 32 := 0#32
  let c1_i32_57 : BitVec 32 := 1#32
  let arg32 : BitVec 32 := Scf.iv c0_i32_55 c1_i32_57 k0_t10
  let c4_i32_116 : BitVec 32 := 4#32
  let v234 : BitVec 32 := Scalar.muli arg32 c4_i32_116
  let c0_i32_117 : BitVec 32 := 0#32
  let v235 : BitVec 32 := Scalar.addi v234 c0_i32_117
  let c16_i32_118 : BitVec 32 := 16#32
  let v236 : BitVec 32 := Scalar.muli v235 c16_i32_118
  let v237 : BitVec 32 := Scalar.addi c4096_i32_119 v236
  let v238 : Index := Scalar.indexCast v237
  ![v238.toNat]

def k0_chk5 (arg34 : IVec S16 32) : Prop :=
  (∀ a x, ((![arg34] : Fin 1 → IVec S16 32) a x).toNat < S8192.size a) ∧
  (∀ a x, ((![arg34] : Fin 1 → IVec S16 32) a x).toNat < S8192.size a)
theorem k0_idx9_inb : ∀ (arg34 : IVec S16 32) (k0_hw5 : k0_chk5 arg34), ∀ a x, ((![arg34] : Fin 1 → IVec S16 32) a x).toNat < S8192.size a := fun arg34 k0_hw5 => k0_hw5.1
theorem k0_idx10_inb : ∀ (arg34 : IVec S16 32) (k0_hw5 : k0_chk5 arg34), ∀ a x, ((![arg34] : Fin 1 → IVec S16 32) a x).toNat < S8192.size a := fun arg34 k0_hw5 => k0_hw5.2
def k0_off14 (k0_t10 : Fin k0_t10_loop.trips) : Fin 1 → Nat :=
  let c4096_i32_127 : BitVec 32 := 4096#32
  let c0_i32_55 : BitVec 32 := 0#32
  let c1_i32_57 : BitVec 32 := 1#32
  let arg32 : BitVec 32 := Scf.iv c0_i32_55 c1_i32_57 k0_t10
  let c4_i32_124 : BitVec 32 := 4#32
  let v250 : BitVec 32 := Scalar.muli arg32 c4_i32_124
  let c1_i32_125 : BitVec 32 := 1#32
  let v251 : BitVec 32 := Scalar.addi v250 c1_i32_125
  let c16_i32_126 : BitVec 32 := 16#32
  let v252 : BitVec 32 := Scalar.muli v251 c16_i32_126
  let v253 : BitVec 32 := Scalar.addi c4096_i32_127 v252
  let v254 : Index := Scalar.indexCast v253
  ![v254.toNat]

def k0_chk6 (v247 : IVec S16 32) : Prop :=
  (∀ a x, ((![v247] : Fin 1 → IVec S16 32) a x).toNat < S8192.size a) ∧
  (∀ a x, ((![v247] : Fin 1 → IVec S16 32) a x).toNat < S8192.size a)
theorem k0_idx11_inb : ∀ (v247 : IVec S16 32) (k0_hw6 : k0_chk6 v247), ∀ a x, ((![v247] : Fin 1 → IVec S16 32) a x).toNat < S8192.size a := fun v247 k0_hw6 => k0_hw6.1
theorem k0_idx12_inb : ∀ (v247 : IVec S16 32) (k0_hw6 : k0_chk6 v247), ∀ a x, ((![v247] : Fin 1 → IVec S16 32) a x).toNat < S8192.size a := fun v247 k0_hw6 => k0_hw6.2
def k0_off15 (k0_t10 : Fin k0_t10_loop.trips) : Fin 1 → Nat :=
  let c4096_i32_135 : BitVec 32 := 4096#32
  let c0_i32_55 : BitVec 32 := 0#32
  let c1_i32_57 : BitVec 32 := 1#32
  let arg32 : BitVec 32 := Scf.iv c0_i32_55 c1_i32_57 k0_t10
  let c4_i32_132 : BitVec 32 := 4#32
  let v266 : BitVec 32 := Scalar.muli arg32 c4_i32_132
  let c2_i32_133 : BitVec 32 := 2#32
  let v267 : BitVec 32 := Scalar.addi v266 c2_i32_133
  let c16_i32_134 : BitVec 32 := 16#32
  let v268 : BitVec 32 := Scalar.muli v267 c16_i32_134
  let v269 : BitVec 32 := Scalar.addi c4096_i32_135 v268
  let v270 : Index := Scalar.indexCast v269
  ![v270.toNat]

def k0_chk7 (v263 : IVec S16 32) : Prop :=
  (∀ a x, ((![v263] : Fin 1 → IVec S16 32) a x).toNat < S8192.size a) ∧
  (∀ a x, ((![v263] : Fin 1 → IVec S16 32) a x).toNat < S8192.size a)
theorem k0_idx13_inb : ∀ (v263 : IVec S16 32) (k0_hw7 : k0_chk7 v263), ∀ a x, ((![v263] : Fin 1 → IVec S16 32) a x).toNat < S8192.size a := fun v263 k0_hw7 => k0_hw7.1
theorem k0_idx14_inb : ∀ (v263 : IVec S16 32) (k0_hw7 : k0_chk7 v263), ∀ a x, ((![v263] : Fin 1 → IVec S16 32) a x).toNat < S8192.size a := fun v263 k0_hw7 => k0_hw7.2
def k0_off16 (k0_t10 : Fin k0_t10_loop.trips) : Fin 1 → Nat :=
  let c4096_i32_143 : BitVec 32 := 4096#32
  let c0_i32_55 : BitVec 32 := 0#32
  let c1_i32_57 : BitVec 32 := 1#32
  let arg32 : BitVec 32 := Scf.iv c0_i32_55 c1_i32_57 k0_t10
  let c4_i32_140 : BitVec 32 := 4#32
  let v282 : BitVec 32 := Scalar.muli arg32 c4_i32_140
  let c3_i32_141 : BitVec 32 := 3#32
  let v283 : BitVec 32 := Scalar.addi v282 c3_i32_141
  let c16_i32_142 : BitVec 32 := 16#32
  let v284 : BitVec 32 := Scalar.muli v283 c16_i32_142
  let v285 : BitVec 32 := Scalar.addi c4096_i32_143 v284
  let v286 : Index := Scalar.indexCast v285
  ![v286.toNat]

def k0_chk8 (v279 : IVec S16 32) : Prop :=
  (∀ a x, ((![v279] : Fin 1 → IVec S16 32) a x).toNat < S8192.size a) ∧
  (∀ a x, ((![v279] : Fin 1 → IVec S16 32) a x).toNat < S8192.size a)
theorem k0_idx15_inb : ∀ (v279 : IVec S16 32) (k0_hw8 : k0_chk8 v279), ∀ a x, ((![v279] : Fin 1 → IVec S16 32) a x).toNat < S8192.size a := fun v279 k0_hw8 => k0_hw8.1
theorem k0_idx16_inb : ∀ (v279 : IVec S16 32) (k0_hw8 : k0_chk8 v279), ∀ a x, ((![v279] : Fin 1 → IVec S16 32) a x).toNat < S8192.size a := fun v279 k0_hw8 => k0_hw8.2
def k0_off17 (k0_t10 : Fin k0_t10_loop.trips) : Fin 1 → Nat :=
  let c8192_i32 : BitVec 32 := 8192#32
  let c0_i32_55 : BitVec 32 := 0#32
  let c1_i32_57 : BitVec 32 := 1#32
  let arg32 : BitVec 32 := Scf.iv c0_i32_55 c1_i32_57 k0_t10
  let c4_i32_148 : BitVec 32 := 4#32
  let v298 : BitVec 32 := Scalar.muli arg32 c4_i32_148
  let c0_i32_149 : BitVec 32 := 0#32
  let v299 : BitVec 32 := Scalar.addi v298 c0_i32_149
  let c16_i32_150 : BitVec 32 := 16#32
  let v300 : BitVec 32 := Scalar.muli v299 c16_i32_150
  let v301 : BitVec 32 := Scalar.addi c8192_i32 v300
  let v302 : Index := Scalar.indexCast v301
  ![v302.toNat]

def k0_chk9 (arg35 : IVec S16 32) : Prop :=
  (∀ a x, ((![arg35] : Fin 1 → IVec S16 32) a x).toNat < S8192.size a) ∧
  (∀ a x, ((![arg35] : Fin 1 → IVec S16 32) a x).toNat < S8192.size a)
theorem k0_idx17_inb : ∀ (arg35 : IVec S16 32) (k0_hw9 : k0_chk9 arg35), ∀ a x, ((![arg35] : Fin 1 → IVec S16 32) a x).toNat < S8192.size a := fun arg35 k0_hw9 => k0_hw9.1
theorem k0_idx18_inb : ∀ (arg35 : IVec S16 32) (k0_hw9 : k0_chk9 arg35), ∀ a x, ((![arg35] : Fin 1 → IVec S16 32) a x).toNat < S8192.size a := fun arg35 k0_hw9 => k0_hw9.2
def k0_off18 (k0_t10 : Fin k0_t10_loop.trips) : Fin 1 → Nat :=
  let c8192_i32_158 : BitVec 32 := 8192#32
  let c0_i32_55 : BitVec 32 := 0#32
  let c1_i32_57 : BitVec 32 := 1#32
  let arg32 : BitVec 32 := Scf.iv c0_i32_55 c1_i32_57 k0_t10
  let c4_i32_155 : BitVec 32 := 4#32
  let v314 : BitVec 32 := Scalar.muli arg32 c4_i32_155
  let c1_i32_156 : BitVec 32 := 1#32
  let v315 : BitVec 32 := Scalar.addi v314 c1_i32_156
  let c16_i32_157 : BitVec 32 := 16#32
  let v316 : BitVec 32 := Scalar.muli v315 c16_i32_157
  let v317 : BitVec 32 := Scalar.addi c8192_i32_158 v316
  let v318 : Index := Scalar.indexCast v317
  ![v318.toNat]

def k0_chk10 (v311 : IVec S16 32) : Prop :=
  (∀ a x, ((![v311] : Fin 1 → IVec S16 32) a x).toNat < S8192.size a) ∧
  (∀ a x, ((![v311] : Fin 1 → IVec S16 32) a x).toNat < S8192.size a)
theorem k0_idx19_inb : ∀ (v311 : IVec S16 32) (k0_hw10 : k0_chk10 v311), ∀ a x, ((![v311] : Fin 1 → IVec S16 32) a x).toNat < S8192.size a := fun v311 k0_hw10 => k0_hw10.1
theorem k0_idx20_inb : ∀ (v311 : IVec S16 32) (k0_hw10 : k0_chk10 v311), ∀ a x, ((![v311] : Fin 1 → IVec S16 32) a x).toNat < S8192.size a := fun v311 k0_hw10 => k0_hw10.2
def k0_off19 (k0_t10 : Fin k0_t10_loop.trips) : Fin 1 → Nat :=
  let c8192_i32_166 : BitVec 32 := 8192#32
  let c0_i32_55 : BitVec 32 := 0#32
  let c1_i32_57 : BitVec 32 := 1#32
  let arg32 : BitVec 32 := Scf.iv c0_i32_55 c1_i32_57 k0_t10
  let c4_i32_163 : BitVec 32 := 4#32
  let v330 : BitVec 32 := Scalar.muli arg32 c4_i32_163
  let c2_i32_164 : BitVec 32 := 2#32
  let v331 : BitVec 32 := Scalar.addi v330 c2_i32_164
  let c16_i32_165 : BitVec 32 := 16#32
  let v332 : BitVec 32 := Scalar.muli v331 c16_i32_165
  let v333 : BitVec 32 := Scalar.addi c8192_i32_166 v332
  let v334 : Index := Scalar.indexCast v333
  ![v334.toNat]

def k0_chk11 (v327 : IVec S16 32) : Prop :=
  (∀ a x, ((![v327] : Fin 1 → IVec S16 32) a x).toNat < S8192.size a) ∧
  (∀ a x, ((![v327] : Fin 1 → IVec S16 32) a x).toNat < S8192.size a)
theorem k0_idx21_inb : ∀ (v327 : IVec S16 32) (k0_hw11 : k0_chk11 v327), ∀ a x, ((![v327] : Fin 1 → IVec S16 32) a x).toNat < S8192.size a := fun v327 k0_hw11 => k0_hw11.1
theorem k0_idx22_inb : ∀ (v327 : IVec S16 32) (k0_hw11 : k0_chk11 v327), ∀ a x, ((![v327] : Fin 1 → IVec S16 32) a x).toNat < S8192.size a := fun v327 k0_hw11 => k0_hw11.2
def k0_off20 (k0_t10 : Fin k0_t10_loop.trips) : Fin 1 → Nat :=
  let c8192_i32_174 : BitVec 32 := 8192#32
  let c0_i32_55 : BitVec 32 := 0#32
  let c1_i32_57 : BitVec 32 := 1#32
  let arg32 : BitVec 32 := Scf.iv c0_i32_55 c1_i32_57 k0_t10
  let c4_i32_171 : BitVec 32 := 4#32
  let v346 : BitVec 32 := Scalar.muli arg32 c4_i32_171
  let c3_i32_172 : BitVec 32 := 3#32
  let v347 : BitVec 32 := Scalar.addi v346 c3_i32_172
  let c16_i32_173 : BitVec 32 := 16#32
  let v348 : BitVec 32 := Scalar.muli v347 c16_i32_173
  let v349 : BitVec 32 := Scalar.addi c8192_i32_174 v348
  let v350 : Index := Scalar.indexCast v349
  ![v350.toNat]

def k0_chk12 (v343 : IVec S16 32) : Prop :=
  (∀ a x, ((![v343] : Fin 1 → IVec S16 32) a x).toNat < S8192.size a) ∧
  (∀ a x, ((![v343] : Fin 1 → IVec S16 32) a x).toNat < S8192.size a)
theorem k0_idx23_inb : ∀ (v343 : IVec S16 32) (k0_hw12 : k0_chk12 v343), ∀ a x, ((![v343] : Fin 1 → IVec S16 32) a x).toNat < S8192.size a := fun v343 k0_hw12 => k0_hw12.1
theorem k0_idx24_inb : ∀ (v343 : IVec S16 32) (k0_hw12 : k0_chk12 v343), ∀ a x, ((![v343] : Fin 1 → IVec S16 32) a x).toNat < S8192.size a := fun v343 k0_hw12 => k0_hw12.2
def k0_off21 (k0_t10 : Fin k0_t10_loop.trips) : Fin 1 → Nat :=
  let c12288_i32 : BitVec 32 := 12288#32
  let c0_i32_55 : BitVec 32 := 0#32
  let c1_i32_57 : BitVec 32 := 1#32
  let arg32 : BitVec 32 := Scf.iv c0_i32_55 c1_i32_57 k0_t10
  let c4_i32_179 : BitVec 32 := 4#32
  let v362 : BitVec 32 := Scalar.muli arg32 c4_i32_179
  let c0_i32_180 : BitVec 32 := 0#32
  let v363 : BitVec 32 := Scalar.addi v362 c0_i32_180
  let c16_i32_181 : BitVec 32 := 16#32
  let v364 : BitVec 32 := Scalar.muli v363 c16_i32_181
  let v365 : BitVec 32 := Scalar.addi c12288_i32 v364
  let v366 : Index := Scalar.indexCast v365
  ![v366.toNat]

def k0_chk13 (arg36 : IVec S16 32) : Prop :=
  (∀ a x, ((![arg36] : Fin 1 → IVec S16 32) a x).toNat < S8192.size a) ∧
  (∀ a x, ((![arg36] : Fin 1 → IVec S16 32) a x).toNat < S8192.size a)
theorem k0_idx25_inb : ∀ (arg36 : IVec S16 32) (k0_hw13 : k0_chk13 arg36), ∀ a x, ((![arg36] : Fin 1 → IVec S16 32) a x).toNat < S8192.size a := fun arg36 k0_hw13 => k0_hw13.1
theorem k0_idx26_inb : ∀ (arg36 : IVec S16 32) (k0_hw13 : k0_chk13 arg36), ∀ a x, ((![arg36] : Fin 1 → IVec S16 32) a x).toNat < S8192.size a := fun arg36 k0_hw13 => k0_hw13.2
def k0_off22 (k0_t10 : Fin k0_t10_loop.trips) : Fin 1 → Nat :=
  let c12288_i32_189 : BitVec 32 := 12288#32
  let c0_i32_55 : BitVec 32 := 0#32
  let c1_i32_57 : BitVec 32 := 1#32
  let arg32 : BitVec 32 := Scf.iv c0_i32_55 c1_i32_57 k0_t10
  let c4_i32_186 : BitVec 32 := 4#32
  let v378 : BitVec 32 := Scalar.muli arg32 c4_i32_186
  let c1_i32_187 : BitVec 32 := 1#32
  let v379 : BitVec 32 := Scalar.addi v378 c1_i32_187
  let c16_i32_188 : BitVec 32 := 16#32
  let v380 : BitVec 32 := Scalar.muli v379 c16_i32_188
  let v381 : BitVec 32 := Scalar.addi c12288_i32_189 v380
  let v382 : Index := Scalar.indexCast v381
  ![v382.toNat]

def k0_chk14 (v375 : IVec S16 32) : Prop :=
  (∀ a x, ((![v375] : Fin 1 → IVec S16 32) a x).toNat < S8192.size a) ∧
  (∀ a x, ((![v375] : Fin 1 → IVec S16 32) a x).toNat < S8192.size a)
theorem k0_idx27_inb : ∀ (v375 : IVec S16 32) (k0_hw14 : k0_chk14 v375), ∀ a x, ((![v375] : Fin 1 → IVec S16 32) a x).toNat < S8192.size a := fun v375 k0_hw14 => k0_hw14.1
theorem k0_idx28_inb : ∀ (v375 : IVec S16 32) (k0_hw14 : k0_chk14 v375), ∀ a x, ((![v375] : Fin 1 → IVec S16 32) a x).toNat < S8192.size a := fun v375 k0_hw14 => k0_hw14.2
def k0_off23 (k0_t10 : Fin k0_t10_loop.trips) : Fin 1 → Nat :=
  let c12288_i32_197 : BitVec 32 := 12288#32
  let c0_i32_55 : BitVec 32 := 0#32
  let c1_i32_57 : BitVec 32 := 1#32
  let arg32 : BitVec 32 := Scf.iv c0_i32_55 c1_i32_57 k0_t10
  let c4_i32_194 : BitVec 32 := 4#32
  let v394 : BitVec 32 := Scalar.muli arg32 c4_i32_194
  let c2_i32_195 : BitVec 32 := 2#32
  let v395 : BitVec 32 := Scalar.addi v394 c2_i32_195
  let c16_i32_196 : BitVec 32 := 16#32
  let v396 : BitVec 32 := Scalar.muli v395 c16_i32_196
  let v397 : BitVec 32 := Scalar.addi c12288_i32_197 v396
  let v398 : Index := Scalar.indexCast v397
  ![v398.toNat]

def k0_chk15 (v391 : IVec S16 32) : Prop :=
  (∀ a x, ((![v391] : Fin 1 → IVec S16 32) a x).toNat < S8192.size a) ∧
  (∀ a x, ((![v391] : Fin 1 → IVec S16 32) a x).toNat < S8192.size a)
theorem k0_idx29_inb : ∀ (v391 : IVec S16 32) (k0_hw15 : k0_chk15 v391), ∀ a x, ((![v391] : Fin 1 → IVec S16 32) a x).toNat < S8192.size a := fun v391 k0_hw15 => k0_hw15.1
theorem k0_idx30_inb : ∀ (v391 : IVec S16 32) (k0_hw15 : k0_chk15 v391), ∀ a x, ((![v391] : Fin 1 → IVec S16 32) a x).toNat < S8192.size a := fun v391 k0_hw15 => k0_hw15.2
def k0_off24 (k0_t10 : Fin k0_t10_loop.trips) : Fin 1 → Nat :=
  let c12288_i32_205 : BitVec 32 := 12288#32
  let c0_i32_55 : BitVec 32 := 0#32
  let c1_i32_57 : BitVec 32 := 1#32
  let arg32 : BitVec 32 := Scf.iv c0_i32_55 c1_i32_57 k0_t10
  let c4_i32_202 : BitVec 32 := 4#32
  let v410 : BitVec 32 := Scalar.muli arg32 c4_i32_202
  let c3_i32_203 : BitVec 32 := 3#32
  let v411 : BitVec 32 := Scalar.addi v410 c3_i32_203
  let c16_i32_204 : BitVec 32 := 16#32
  let v412 : BitVec 32 := Scalar.muli v411 c16_i32_204
  let v413 : BitVec 32 := Scalar.addi c12288_i32_205 v412
  let v414 : Index := Scalar.indexCast v413
  ![v414.toNat]

def k0_chk16 (v407 : IVec S16 32) : Prop :=
  (∀ a x, ((![v407] : Fin 1 → IVec S16 32) a x).toNat < S8192.size a) ∧
  (∀ a x, ((![v407] : Fin 1 → IVec S16 32) a x).toNat < S8192.size a)
theorem k0_idx31_inb : ∀ (v407 : IVec S16 32) (k0_hw16 : k0_chk16 v407), ∀ a x, ((![v407] : Fin 1 → IVec S16 32) a x).toNat < S8192.size a := fun v407 k0_hw16 => k0_hw16.1
theorem k0_idx32_inb : ∀ (v407 : IVec S16 32) (k0_hw16 : k0_chk16 v407), ∀ a x, ((![v407] : Fin 1 → IVec S16 32) a x).toNat < S8192.size a := fun v407 k0_hw16 => k0_hw16.2
def k0_off25 (k0_t10 : Fin k0_t10_loop.trips) : Fin 1 → Nat :=
  let c16384_i32 : BitVec 32 := 16384#32
  let c0_i32_55 : BitVec 32 := 0#32
  let c1_i32_57 : BitVec 32 := 1#32
  let arg32 : BitVec 32 := Scf.iv c0_i32_55 c1_i32_57 k0_t10
  let c4_i32_210 : BitVec 32 := 4#32
  let v426 : BitVec 32 := Scalar.muli arg32 c4_i32_210
  let c0_i32_211 : BitVec 32 := 0#32
  let v427 : BitVec 32 := Scalar.addi v426 c0_i32_211
  let c16_i32_212 : BitVec 32 := 16#32
  let v428 : BitVec 32 := Scalar.muli v427 c16_i32_212
  let v429 : BitVec 32 := Scalar.addi c16384_i32 v428
  let v430 : Index := Scalar.indexCast v429
  ![v430.toNat]

def k0_chk17 (arg37 : IVec S16 32) : Prop :=
  (∀ a x, ((![arg37] : Fin 1 → IVec S16 32) a x).toNat < S8192.size a) ∧
  (∀ a x, ((![arg37] : Fin 1 → IVec S16 32) a x).toNat < S8192.size a)
theorem k0_idx33_inb : ∀ (arg37 : IVec S16 32) (k0_hw17 : k0_chk17 arg37), ∀ a x, ((![arg37] : Fin 1 → IVec S16 32) a x).toNat < S8192.size a := fun arg37 k0_hw17 => k0_hw17.1
theorem k0_idx34_inb : ∀ (arg37 : IVec S16 32) (k0_hw17 : k0_chk17 arg37), ∀ a x, ((![arg37] : Fin 1 → IVec S16 32) a x).toNat < S8192.size a := fun arg37 k0_hw17 => k0_hw17.2
def k0_off26 (k0_t10 : Fin k0_t10_loop.trips) : Fin 1 → Nat :=
  let c16384_i32_220 : BitVec 32 := 16384#32
  let c0_i32_55 : BitVec 32 := 0#32
  let c1_i32_57 : BitVec 32 := 1#32
  let arg32 : BitVec 32 := Scf.iv c0_i32_55 c1_i32_57 k0_t10
  let c4_i32_217 : BitVec 32 := 4#32
  let v442 : BitVec 32 := Scalar.muli arg32 c4_i32_217
  let c1_i32_218 : BitVec 32 := 1#32
  let v443 : BitVec 32 := Scalar.addi v442 c1_i32_218
  let c16_i32_219 : BitVec 32 := 16#32
  let v444 : BitVec 32 := Scalar.muli v443 c16_i32_219
  let v445 : BitVec 32 := Scalar.addi c16384_i32_220 v444
  let v446 : Index := Scalar.indexCast v445
  ![v446.toNat]

def k0_chk18 (v439 : IVec S16 32) : Prop :=
  (∀ a x, ((![v439] : Fin 1 → IVec S16 32) a x).toNat < S8192.size a) ∧
  (∀ a x, ((![v439] : Fin 1 → IVec S16 32) a x).toNat < S8192.size a)
theorem k0_idx35_inb : ∀ (v439 : IVec S16 32) (k0_hw18 : k0_chk18 v439), ∀ a x, ((![v439] : Fin 1 → IVec S16 32) a x).toNat < S8192.size a := fun v439 k0_hw18 => k0_hw18.1
theorem k0_idx36_inb : ∀ (v439 : IVec S16 32) (k0_hw18 : k0_chk18 v439), ∀ a x, ((![v439] : Fin 1 → IVec S16 32) a x).toNat < S8192.size a := fun v439 k0_hw18 => k0_hw18.2
def k0_off27 (k0_t10 : Fin k0_t10_loop.trips) : Fin 1 → Nat :=
  let c16384_i32_228 : BitVec 32 := 16384#32
  let c0_i32_55 : BitVec 32 := 0#32
  let c1_i32_57 : BitVec 32 := 1#32
  let arg32 : BitVec 32 := Scf.iv c0_i32_55 c1_i32_57 k0_t10
  let c4_i32_225 : BitVec 32 := 4#32
  let v458 : BitVec 32 := Scalar.muli arg32 c4_i32_225
  let c2_i32_226 : BitVec 32 := 2#32
  let v459 : BitVec 32 := Scalar.addi v458 c2_i32_226
  let c16_i32_227 : BitVec 32 := 16#32
  let v460 : BitVec 32 := Scalar.muli v459 c16_i32_227
  let v461 : BitVec 32 := Scalar.addi c16384_i32_228 v460
  let v462 : Index := Scalar.indexCast v461
  ![v462.toNat]

def k0_chk19 (v455 : IVec S16 32) : Prop :=
  (∀ a x, ((![v455] : Fin 1 → IVec S16 32) a x).toNat < S8192.size a) ∧
  (∀ a x, ((![v455] : Fin 1 → IVec S16 32) a x).toNat < S8192.size a)
theorem k0_idx37_inb : ∀ (v455 : IVec S16 32) (k0_hw19 : k0_chk19 v455), ∀ a x, ((![v455] : Fin 1 → IVec S16 32) a x).toNat < S8192.size a := fun v455 k0_hw19 => k0_hw19.1
theorem k0_idx38_inb : ∀ (v455 : IVec S16 32) (k0_hw19 : k0_chk19 v455), ∀ a x, ((![v455] : Fin 1 → IVec S16 32) a x).toNat < S8192.size a := fun v455 k0_hw19 => k0_hw19.2
def k0_off28 (k0_t10 : Fin k0_t10_loop.trips) : Fin 1 → Nat :=
  let c16384_i32_236 : BitVec 32 := 16384#32
  let c0_i32_55 : BitVec 32 := 0#32
  let c1_i32_57 : BitVec 32 := 1#32
  let arg32 : BitVec 32 := Scf.iv c0_i32_55 c1_i32_57 k0_t10
  let c4_i32_233 : BitVec 32 := 4#32
  let v474 : BitVec 32 := Scalar.muli arg32 c4_i32_233
  let c3_i32_234 : BitVec 32 := 3#32
  let v475 : BitVec 32 := Scalar.addi v474 c3_i32_234
  let c16_i32_235 : BitVec 32 := 16#32
  let v476 : BitVec 32 := Scalar.muli v475 c16_i32_235
  let v477 : BitVec 32 := Scalar.addi c16384_i32_236 v476
  let v478 : Index := Scalar.indexCast v477
  ![v478.toNat]

def k0_chk20 (v471 : IVec S16 32) : Prop :=
  (∀ a x, ((![v471] : Fin 1 → IVec S16 32) a x).toNat < S8192.size a) ∧
  (∀ a x, ((![v471] : Fin 1 → IVec S16 32) a x).toNat < S8192.size a)
theorem k0_idx39_inb : ∀ (v471 : IVec S16 32) (k0_hw20 : k0_chk20 v471), ∀ a x, ((![v471] : Fin 1 → IVec S16 32) a x).toNat < S8192.size a := fun v471 k0_hw20 => k0_hw20.1
theorem k0_idx40_inb : ∀ (v471 : IVec S16 32) (k0_hw20 : k0_chk20 v471), ∀ a x, ((![v471] : Fin 1 → IVec S16 32) a x).toNat < S8192.size a := fun v471 k0_hw20 => k0_hw20.2
def k0_off29 (k0_t10 : Fin k0_t10_loop.trips) : Fin 1 → Nat :=
  let c20480_i32 : BitVec 32 := 20480#32
  let c0_i32_55 : BitVec 32 := 0#32
  let c1_i32_57 : BitVec 32 := 1#32
  let arg32 : BitVec 32 := Scf.iv c0_i32_55 c1_i32_57 k0_t10
  let c4_i32_241 : BitVec 32 := 4#32
  let v490 : BitVec 32 := Scalar.muli arg32 c4_i32_241
  let c0_i32_242 : BitVec 32 := 0#32
  let v491 : BitVec 32 := Scalar.addi v490 c0_i32_242
  let c16_i32_243 : BitVec 32 := 16#32
  let v492 : BitVec 32 := Scalar.muli v491 c16_i32_243
  let v493 : BitVec 32 := Scalar.addi c20480_i32 v492
  let v494 : Index := Scalar.indexCast v493
  ![v494.toNat]

def k0_chk21 (arg38 : IVec S16 32) : Prop :=
  (∀ a x, ((![arg38] : Fin 1 → IVec S16 32) a x).toNat < S8192.size a) ∧
  (∀ a x, ((![arg38] : Fin 1 → IVec S16 32) a x).toNat < S8192.size a)
theorem k0_idx41_inb : ∀ (arg38 : IVec S16 32) (k0_hw21 : k0_chk21 arg38), ∀ a x, ((![arg38] : Fin 1 → IVec S16 32) a x).toNat < S8192.size a := fun arg38 k0_hw21 => k0_hw21.1
theorem k0_idx42_inb : ∀ (arg38 : IVec S16 32) (k0_hw21 : k0_chk21 arg38), ∀ a x, ((![arg38] : Fin 1 → IVec S16 32) a x).toNat < S8192.size a := fun arg38 k0_hw21 => k0_hw21.2
def k0_off30 (k0_t10 : Fin k0_t10_loop.trips) : Fin 1 → Nat :=
  let c20480_i32_251 : BitVec 32 := 20480#32
  let c0_i32_55 : BitVec 32 := 0#32
  let c1_i32_57 : BitVec 32 := 1#32
  let arg32 : BitVec 32 := Scf.iv c0_i32_55 c1_i32_57 k0_t10
  let c4_i32_248 : BitVec 32 := 4#32
  let v506 : BitVec 32 := Scalar.muli arg32 c4_i32_248
  let c1_i32_249 : BitVec 32 := 1#32
  let v507 : BitVec 32 := Scalar.addi v506 c1_i32_249
  let c16_i32_250 : BitVec 32 := 16#32
  let v508 : BitVec 32 := Scalar.muli v507 c16_i32_250
  let v509 : BitVec 32 := Scalar.addi c20480_i32_251 v508
  let v510 : Index := Scalar.indexCast v509
  ![v510.toNat]

def k0_chk22 (v503 : IVec S16 32) : Prop :=
  (∀ a x, ((![v503] : Fin 1 → IVec S16 32) a x).toNat < S8192.size a) ∧
  (∀ a x, ((![v503] : Fin 1 → IVec S16 32) a x).toNat < S8192.size a)
theorem k0_idx43_inb : ∀ (v503 : IVec S16 32) (k0_hw22 : k0_chk22 v503), ∀ a x, ((![v503] : Fin 1 → IVec S16 32) a x).toNat < S8192.size a := fun v503 k0_hw22 => k0_hw22.1
theorem k0_idx44_inb : ∀ (v503 : IVec S16 32) (k0_hw22 : k0_chk22 v503), ∀ a x, ((![v503] : Fin 1 → IVec S16 32) a x).toNat < S8192.size a := fun v503 k0_hw22 => k0_hw22.2
def k0_off31 (k0_t10 : Fin k0_t10_loop.trips) : Fin 1 → Nat :=
  let c20480_i32_259 : BitVec 32 := 20480#32
  let c0_i32_55 : BitVec 32 := 0#32
  let c1_i32_57 : BitVec 32 := 1#32
  let arg32 : BitVec 32 := Scf.iv c0_i32_55 c1_i32_57 k0_t10
  let c4_i32_256 : BitVec 32 := 4#32
  let v522 : BitVec 32 := Scalar.muli arg32 c4_i32_256
  let c2_i32_257 : BitVec 32 := 2#32
  let v523 : BitVec 32 := Scalar.addi v522 c2_i32_257
  let c16_i32_258 : BitVec 32 := 16#32
  let v524 : BitVec 32 := Scalar.muli v523 c16_i32_258
  let v525 : BitVec 32 := Scalar.addi c20480_i32_259 v524
  let v526 : Index := Scalar.indexCast v525
  ![v526.toNat]

def k0_chk23 (v519 : IVec S16 32) : Prop :=
  (∀ a x, ((![v519] : Fin 1 → IVec S16 32) a x).toNat < S8192.size a) ∧
  (∀ a x, ((![v519] : Fin 1 → IVec S16 32) a x).toNat < S8192.size a)
theorem k0_idx45_inb : ∀ (v519 : IVec S16 32) (k0_hw23 : k0_chk23 v519), ∀ a x, ((![v519] : Fin 1 → IVec S16 32) a x).toNat < S8192.size a := fun v519 k0_hw23 => k0_hw23.1
theorem k0_idx46_inb : ∀ (v519 : IVec S16 32) (k0_hw23 : k0_chk23 v519), ∀ a x, ((![v519] : Fin 1 → IVec S16 32) a x).toNat < S8192.size a := fun v519 k0_hw23 => k0_hw23.2
def k0_off32 (k0_t10 : Fin k0_t10_loop.trips) : Fin 1 → Nat :=
  let c20480_i32_267 : BitVec 32 := 20480#32
  let c0_i32_55 : BitVec 32 := 0#32
  let c1_i32_57 : BitVec 32 := 1#32
  let arg32 : BitVec 32 := Scf.iv c0_i32_55 c1_i32_57 k0_t10
  let c4_i32_264 : BitVec 32 := 4#32
  let v538 : BitVec 32 := Scalar.muli arg32 c4_i32_264
  let c3_i32_265 : BitVec 32 := 3#32
  let v539 : BitVec 32 := Scalar.addi v538 c3_i32_265
  let c16_i32_266 : BitVec 32 := 16#32
  let v540 : BitVec 32 := Scalar.muli v539 c16_i32_266
  let v541 : BitVec 32 := Scalar.addi c20480_i32_267 v540
  let v542 : Index := Scalar.indexCast v541
  ![v542.toNat]

def k0_chk24 (v535 : IVec S16 32) : Prop :=
  (∀ a x, ((![v535] : Fin 1 → IVec S16 32) a x).toNat < S8192.size a) ∧
  (∀ a x, ((![v535] : Fin 1 → IVec S16 32) a x).toNat < S8192.size a)
theorem k0_idx47_inb : ∀ (v535 : IVec S16 32) (k0_hw24 : k0_chk24 v535), ∀ a x, ((![v535] : Fin 1 → IVec S16 32) a x).toNat < S8192.size a := fun v535 k0_hw24 => k0_hw24.1
theorem k0_idx48_inb : ∀ (v535 : IVec S16 32) (k0_hw24 : k0_chk24 v535), ∀ a x, ((![v535] : Fin 1 → IVec S16 32) a x).toNat < S8192.size a := fun v535 k0_hw24 => k0_hw24.2
def k0_off33 (k0_t10 : Fin k0_t10_loop.trips) : Fin 1 → Nat :=
  let c24576_i32 : BitVec 32 := 24576#32
  let c0_i32_55 : BitVec 32 := 0#32
  let c1_i32_57 : BitVec 32 := 1#32
  let arg32 : BitVec 32 := Scf.iv c0_i32_55 c1_i32_57 k0_t10
  let c4_i32_272 : BitVec 32 := 4#32
  let v554 : BitVec 32 := Scalar.muli arg32 c4_i32_272
  let c0_i32_273 : BitVec 32 := 0#32
  let v555 : BitVec 32 := Scalar.addi v554 c0_i32_273
  let c16_i32_274 : BitVec 32 := 16#32
  let v556 : BitVec 32 := Scalar.muli v555 c16_i32_274
  let v557 : BitVec 32 := Scalar.addi c24576_i32 v556
  let v558 : Index := Scalar.indexCast v557
  ![v558.toNat]

def k0_chk25 (arg39 : IVec S16 32) : Prop :=
  (∀ a x, ((![arg39] : Fin 1 → IVec S16 32) a x).toNat < S8192.size a) ∧
  (∀ a x, ((![arg39] : Fin 1 → IVec S16 32) a x).toNat < S8192.size a)
theorem k0_idx49_inb : ∀ (arg39 : IVec S16 32) (k0_hw25 : k0_chk25 arg39), ∀ a x, ((![arg39] : Fin 1 → IVec S16 32) a x).toNat < S8192.size a := fun arg39 k0_hw25 => k0_hw25.1
theorem k0_idx50_inb : ∀ (arg39 : IVec S16 32) (k0_hw25 : k0_chk25 arg39), ∀ a x, ((![arg39] : Fin 1 → IVec S16 32) a x).toNat < S8192.size a := fun arg39 k0_hw25 => k0_hw25.2
def k0_off34 (k0_t10 : Fin k0_t10_loop.trips) : Fin 1 → Nat :=
  let c24576_i32_282 : BitVec 32 := 24576#32
  let c0_i32_55 : BitVec 32 := 0#32
  let c1_i32_57 : BitVec 32 := 1#32
  let arg32 : BitVec 32 := Scf.iv c0_i32_55 c1_i32_57 k0_t10
  let c4_i32_279 : BitVec 32 := 4#32
  let v570 : BitVec 32 := Scalar.muli arg32 c4_i32_279
  let c1_i32_280 : BitVec 32 := 1#32
  let v571 : BitVec 32 := Scalar.addi v570 c1_i32_280
  let c16_i32_281 : BitVec 32 := 16#32
  let v572 : BitVec 32 := Scalar.muli v571 c16_i32_281
  let v573 : BitVec 32 := Scalar.addi c24576_i32_282 v572
  let v574 : Index := Scalar.indexCast v573
  ![v574.toNat]

def k0_chk26 (v567 : IVec S16 32) : Prop :=
  (∀ a x, ((![v567] : Fin 1 → IVec S16 32) a x).toNat < S8192.size a) ∧
  (∀ a x, ((![v567] : Fin 1 → IVec S16 32) a x).toNat < S8192.size a)
theorem k0_idx51_inb : ∀ (v567 : IVec S16 32) (k0_hw26 : k0_chk26 v567), ∀ a x, ((![v567] : Fin 1 → IVec S16 32) a x).toNat < S8192.size a := fun v567 k0_hw26 => k0_hw26.1
theorem k0_idx52_inb : ∀ (v567 : IVec S16 32) (k0_hw26 : k0_chk26 v567), ∀ a x, ((![v567] : Fin 1 → IVec S16 32) a x).toNat < S8192.size a := fun v567 k0_hw26 => k0_hw26.2
def k0_off35 (k0_t10 : Fin k0_t10_loop.trips) : Fin 1 → Nat :=
  let c24576_i32_290 : BitVec 32 := 24576#32
  let c0_i32_55 : BitVec 32 := 0#32
  let c1_i32_57 : BitVec 32 := 1#32
  let arg32 : BitVec 32 := Scf.iv c0_i32_55 c1_i32_57 k0_t10
  let c4_i32_287 : BitVec 32 := 4#32
  let v586 : BitVec 32 := Scalar.muli arg32 c4_i32_287
  let c2_i32_288 : BitVec 32 := 2#32
  let v587 : BitVec 32 := Scalar.addi v586 c2_i32_288
  let c16_i32_289 : BitVec 32 := 16#32
  let v588 : BitVec 32 := Scalar.muli v587 c16_i32_289
  let v589 : BitVec 32 := Scalar.addi c24576_i32_290 v588
  let v590 : Index := Scalar.indexCast v589
  ![v590.toNat]

def k0_chk27 (v583 : IVec S16 32) : Prop :=
  (∀ a x, ((![v583] : Fin 1 → IVec S16 32) a x).toNat < S8192.size a) ∧
  (∀ a x, ((![v583] : Fin 1 → IVec S16 32) a x).toNat < S8192.size a)
theorem k0_idx53_inb : ∀ (v583 : IVec S16 32) (k0_hw27 : k0_chk27 v583), ∀ a x, ((![v583] : Fin 1 → IVec S16 32) a x).toNat < S8192.size a := fun v583 k0_hw27 => k0_hw27.1
theorem k0_idx54_inb : ∀ (v583 : IVec S16 32) (k0_hw27 : k0_chk27 v583), ∀ a x, ((![v583] : Fin 1 → IVec S16 32) a x).toNat < S8192.size a := fun v583 k0_hw27 => k0_hw27.2
def k0_off36 (k0_t10 : Fin k0_t10_loop.trips) : Fin 1 → Nat :=
  let c24576_i32_298 : BitVec 32 := 24576#32
  let c0_i32_55 : BitVec 32 := 0#32
  let c1_i32_57 : BitVec 32 := 1#32
  let arg32 : BitVec 32 := Scf.iv c0_i32_55 c1_i32_57 k0_t10
  let c4_i32_295 : BitVec 32 := 4#32
  let v602 : BitVec 32 := Scalar.muli arg32 c4_i32_295
  let c3_i32_296 : BitVec 32 := 3#32
  let v603 : BitVec 32 := Scalar.addi v602 c3_i32_296
  let c16_i32_297 : BitVec 32 := 16#32
  let v604 : BitVec 32 := Scalar.muli v603 c16_i32_297
  let v605 : BitVec 32 := Scalar.addi c24576_i32_298 v604
  let v606 : Index := Scalar.indexCast v605
  ![v606.toNat]

def k0_chk28 (v599 : IVec S16 32) : Prop :=
  (∀ a x, ((![v599] : Fin 1 → IVec S16 32) a x).toNat < S8192.size a) ∧
  (∀ a x, ((![v599] : Fin 1 → IVec S16 32) a x).toNat < S8192.size a)
theorem k0_idx55_inb : ∀ (v599 : IVec S16 32) (k0_hw28 : k0_chk28 v599), ∀ a x, ((![v599] : Fin 1 → IVec S16 32) a x).toNat < S8192.size a := fun v599 k0_hw28 => k0_hw28.1
theorem k0_idx56_inb : ∀ (v599 : IVec S16 32) (k0_hw28 : k0_chk28 v599), ∀ a x, ((![v599] : Fin 1 → IVec S16 32) a x).toNat < S8192.size a := fun v599 k0_hw28 => k0_hw28.2
def k0_off37 (k0_t10 : Fin k0_t10_loop.trips) : Fin 1 → Nat :=
  let c28672_i32 : BitVec 32 := 28672#32
  let c0_i32_55 : BitVec 32 := 0#32
  let c1_i32_57 : BitVec 32 := 1#32
  let arg32 : BitVec 32 := Scf.iv c0_i32_55 c1_i32_57 k0_t10
  let c4_i32_303 : BitVec 32 := 4#32
  let v618 : BitVec 32 := Scalar.muli arg32 c4_i32_303
  let c0_i32_304 : BitVec 32 := 0#32
  let v619 : BitVec 32 := Scalar.addi v618 c0_i32_304
  let c16_i32_305 : BitVec 32 := 16#32
  let v620 : BitVec 32 := Scalar.muli v619 c16_i32_305
  let v621 : BitVec 32 := Scalar.addi c28672_i32 v620
  let v622 : Index := Scalar.indexCast v621
  ![v622.toNat]

def k0_chk29 (arg40 : IVec S16 32) : Prop :=
  (∀ a x, ((![arg40] : Fin 1 → IVec S16 32) a x).toNat < S8192.size a) ∧
  (∀ a x, ((![arg40] : Fin 1 → IVec S16 32) a x).toNat < S8192.size a)
theorem k0_idx57_inb : ∀ (arg40 : IVec S16 32) (k0_hw29 : k0_chk29 arg40), ∀ a x, ((![arg40] : Fin 1 → IVec S16 32) a x).toNat < S8192.size a := fun arg40 k0_hw29 => k0_hw29.1
theorem k0_idx58_inb : ∀ (arg40 : IVec S16 32) (k0_hw29 : k0_chk29 arg40), ∀ a x, ((![arg40] : Fin 1 → IVec S16 32) a x).toNat < S8192.size a := fun arg40 k0_hw29 => k0_hw29.2
def k0_off38 (k0_t10 : Fin k0_t10_loop.trips) : Fin 1 → Nat :=
  let c28672_i32_313 : BitVec 32 := 28672#32
  let c0_i32_55 : BitVec 32 := 0#32
  let c1_i32_57 : BitVec 32 := 1#32
  let arg32 : BitVec 32 := Scf.iv c0_i32_55 c1_i32_57 k0_t10
  let c4_i32_310 : BitVec 32 := 4#32
  let v634 : BitVec 32 := Scalar.muli arg32 c4_i32_310
  let c1_i32_311 : BitVec 32 := 1#32
  let v635 : BitVec 32 := Scalar.addi v634 c1_i32_311
  let c16_i32_312 : BitVec 32 := 16#32
  let v636 : BitVec 32 := Scalar.muli v635 c16_i32_312
  let v637 : BitVec 32 := Scalar.addi c28672_i32_313 v636
  let v638 : Index := Scalar.indexCast v637
  ![v638.toNat]

def k0_chk30 (v631 : IVec S16 32) : Prop :=
  (∀ a x, ((![v631] : Fin 1 → IVec S16 32) a x).toNat < S8192.size a) ∧
  (∀ a x, ((![v631] : Fin 1 → IVec S16 32) a x).toNat < S8192.size a)
theorem k0_idx59_inb : ∀ (v631 : IVec S16 32) (k0_hw30 : k0_chk30 v631), ∀ a x, ((![v631] : Fin 1 → IVec S16 32) a x).toNat < S8192.size a := fun v631 k0_hw30 => k0_hw30.1
theorem k0_idx60_inb : ∀ (v631 : IVec S16 32) (k0_hw30 : k0_chk30 v631), ∀ a x, ((![v631] : Fin 1 → IVec S16 32) a x).toNat < S8192.size a := fun v631 k0_hw30 => k0_hw30.2
def k0_off39 (k0_t10 : Fin k0_t10_loop.trips) : Fin 1 → Nat :=
  let c28672_i32_321 : BitVec 32 := 28672#32
  let c0_i32_55 : BitVec 32 := 0#32
  let c1_i32_57 : BitVec 32 := 1#32
  let arg32 : BitVec 32 := Scf.iv c0_i32_55 c1_i32_57 k0_t10
  let c4_i32_318 : BitVec 32 := 4#32
  let v650 : BitVec 32 := Scalar.muli arg32 c4_i32_318
  let c2_i32_319 : BitVec 32 := 2#32
  let v651 : BitVec 32 := Scalar.addi v650 c2_i32_319
  let c16_i32_320 : BitVec 32 := 16#32
  let v652 : BitVec 32 := Scalar.muli v651 c16_i32_320
  let v653 : BitVec 32 := Scalar.addi c28672_i32_321 v652
  let v654 : Index := Scalar.indexCast v653
  ![v654.toNat]

def k0_chk31 (v647 : IVec S16 32) : Prop :=
  (∀ a x, ((![v647] : Fin 1 → IVec S16 32) a x).toNat < S8192.size a) ∧
  (∀ a x, ((![v647] : Fin 1 → IVec S16 32) a x).toNat < S8192.size a)
theorem k0_idx61_inb : ∀ (v647 : IVec S16 32) (k0_hw31 : k0_chk31 v647), ∀ a x, ((![v647] : Fin 1 → IVec S16 32) a x).toNat < S8192.size a := fun v647 k0_hw31 => k0_hw31.1
theorem k0_idx62_inb : ∀ (v647 : IVec S16 32) (k0_hw31 : k0_chk31 v647), ∀ a x, ((![v647] : Fin 1 → IVec S16 32) a x).toNat < S8192.size a := fun v647 k0_hw31 => k0_hw31.2
def k0_off40 (k0_t10 : Fin k0_t10_loop.trips) : Fin 1 → Nat :=
  let c28672_i32_329 : BitVec 32 := 28672#32
  let c0_i32_55 : BitVec 32 := 0#32
  let c1_i32_57 : BitVec 32 := 1#32
  let arg32 : BitVec 32 := Scf.iv c0_i32_55 c1_i32_57 k0_t10
  let c4_i32_326 : BitVec 32 := 4#32
  let v666 : BitVec 32 := Scalar.muli arg32 c4_i32_326
  let c3_i32_327 : BitVec 32 := 3#32
  let v667 : BitVec 32 := Scalar.addi v666 c3_i32_327
  let c16_i32_328 : BitVec 32 := 16#32
  let v668 : BitVec 32 := Scalar.muli v667 c16_i32_328
  let v669 : BitVec 32 := Scalar.addi c28672_i32_329 v668
  let v670 : Index := Scalar.indexCast v669
  ![v670.toNat]

def k0_chk32 (v663 : IVec S16 32) : Prop :=
  (∀ a x, ((![v663] : Fin 1 → IVec S16 32) a x).toNat < S8192.size a) ∧
  (∀ a x, ((![v663] : Fin 1 → IVec S16 32) a x).toNat < S8192.size a)
theorem k0_idx63_inb : ∀ (v663 : IVec S16 32) (k0_hw32 : k0_chk32 v663), ∀ a x, ((![v663] : Fin 1 → IVec S16 32) a x).toNat < S8192.size a := fun v663 k0_hw32 => k0_hw32.1
theorem k0_idx64_inb : ∀ (v663 : IVec S16 32) (k0_hw32 : k0_chk32 v663), ∀ a x, ((![v663] : Fin 1 → IVec S16 32) a x).toNat < S8192.size a := fun v663 k0_hw32 => k0_hw32.2
def k0_cond3 (k0_t9 : Fin k0_t9_loop.trips) : BitVec 1 :=
  let c0_i32_28 : BitVec 32 := 0#32
  let c1_i32_30 : BitVec 32 := 1#32
  let arg15 : BitVec 32 := Scf.iv c0_i32_28 c1_i32_30 k0_t9
  let c7_i32 : BitVec 32 := 7#32
  let v140 : BitVec 1 := Scalar.cmpi .slt arg15 c7_i32
  let v141 : BitVec 32 := Scalar.extui v140
  let c0_i32_67 : BitVec 32 := 0#32
  let v142 : BitVec 1 := Scalar.cmpi .ne v141 c0_i32_67
  v142

def k0_off41 (i : grid0.Coords) (k0_t1 : Fin k0_t1_loop.trips) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c2_i32_87 : BitVec 32 := 2#32
  let c0_i32_28 : BitVec 32 := 0#32
  let c1_i32_30 : BitVec 32 := 1#32
  let arg15 : BitVec 32 := Scf.iv c0_i32_28 c1_i32_30 k0_t9
  let v170 : BitVec 32 := Scalar.muli c2_i32_87 arg15
  let c2_i32_88 : BitVec 32 := 2#32
  let v171 : BitVec 32 := Scalar.addi v170 c2_i32_88
  let c32768_i32_89 : BitVec 32 := 32768#32
  let v172 : BitVec 32 := Scalar.muli v171 c32768_i32_89
  ![v9.toNat, v172.toNat]
@[reducible] def k0_t11_loop : Scf.Loop 32 :=
  let c0_i32_73 : BitVec 32 := 0#32
  let c64_i32_74 : BitVec 32 := 64#32
  let v149 : BitVec 32 := Scalar.addi c0_i32_73 c64_i32_74
  let c1_i32_75 : BitVec 32 := 1#32
  ⟨c0_i32_73, v149, c1_i32_75⟩
def k0_off42 (k0_t11 : Fin k0_t11_loop.trips) : Fin 1 → Nat :=
  let c0_i32_88 : BitVec 32 := 0#32
  let c0_i32_73 : BitVec 32 := 0#32
  let c1_i32_75 : BitVec 32 := 1#32
  let arg32 : BitVec 32 := Scf.iv c0_i32_73 c1_i32_75 k0_t11
  let c4_i32 : BitVec 32 := 4#32
  let v170 : BitVec 32 := Scalar.muli arg32 c4_i32
  let c0_i32_87 : BitVec 32 := 0#32
  let v171 : BitVec 32 := Scalar.addi v170 c0_i32_87
  let c16_i32 : BitVec 32 := 16#32
  let v172 : BitVec 32 := Scalar.muli v171 c16_i32
  let v173 : BitVec 32 := Scalar.addi c0_i32_88 v172
  let v174 : Index := Scalar.indexCast v173
  ![v174.toNat]

def k0_chk33 (arg33 : IVec S16 32) : Prop :=
  (∀ a x, ((![arg33] : Fin 1 → IVec S16 32) a x).toNat < S8192.size a) ∧
  (∀ a x, ((![arg33] : Fin 1 → IVec S16 32) a x).toNat < S8192.size a)
theorem k0_idx65_inb : ∀ (arg33 : IVec S16 32) (k0_hw33 : k0_chk33 arg33), ∀ a x, ((![arg33] : Fin 1 → IVec S16 32) a x).toNat < S8192.size a := fun arg33 k0_hw33 => k0_hw33.1
theorem k0_idx66_inb : ∀ (arg33 : IVec S16 32) (k0_hw33 : k0_chk33 arg33), ∀ a x, ((![arg33] : Fin 1 → IVec S16 32) a x).toNat < S8192.size a := fun arg33 k0_hw33 => k0_hw33.2
def k0_off43 (k0_t11 : Fin k0_t11_loop.trips) : Fin 1 → Nat :=
  let c0_i32_96 : BitVec 32 := 0#32
  let c0_i32_73 : BitVec 32 := 0#32
  let c1_i32_75 : BitVec 32 := 1#32
  let arg32 : BitVec 32 := Scf.iv c0_i32_73 c1_i32_75 k0_t11
  let c4_i32_93 : BitVec 32 := 4#32
  let v186 : BitVec 32 := Scalar.muli arg32 c4_i32_93
  let c1_i32_94 : BitVec 32 := 1#32
  let v187 : BitVec 32 := Scalar.addi v186 c1_i32_94
  let c16_i32_95 : BitVec 32 := 16#32
  let v188 : BitVec 32 := Scalar.muli v187 c16_i32_95
  let v189 : BitVec 32 := Scalar.addi c0_i32_96 v188
  let v190 : Index := Scalar.indexCast v189
  ![v190.toNat]

def k0_chk34 (v183 : IVec S16 32) : Prop :=
  (∀ a x, ((![v183] : Fin 1 → IVec S16 32) a x).toNat < S8192.size a) ∧
  (∀ a x, ((![v183] : Fin 1 → IVec S16 32) a x).toNat < S8192.size a)
theorem k0_idx67_inb : ∀ (v183 : IVec S16 32) (k0_hw34 : k0_chk34 v183), ∀ a x, ((![v183] : Fin 1 → IVec S16 32) a x).toNat < S8192.size a := fun v183 k0_hw34 => k0_hw34.1
theorem k0_idx68_inb : ∀ (v183 : IVec S16 32) (k0_hw34 : k0_chk34 v183), ∀ a x, ((![v183] : Fin 1 → IVec S16 32) a x).toNat < S8192.size a := fun v183 k0_hw34 => k0_hw34.2
def k0_off44 (k0_t11 : Fin k0_t11_loop.trips) : Fin 1 → Nat :=
  let c0_i32_104 : BitVec 32 := 0#32
  let c0_i32_73 : BitVec 32 := 0#32
  let c1_i32_75 : BitVec 32 := 1#32
  let arg32 : BitVec 32 := Scf.iv c0_i32_73 c1_i32_75 k0_t11
  let c4_i32_101 : BitVec 32 := 4#32
  let v202 : BitVec 32 := Scalar.muli arg32 c4_i32_101
  let c2_i32_102 : BitVec 32 := 2#32
  let v203 : BitVec 32 := Scalar.addi v202 c2_i32_102
  let c16_i32_103 : BitVec 32 := 16#32
  let v204 : BitVec 32 := Scalar.muli v203 c16_i32_103
  let v205 : BitVec 32 := Scalar.addi c0_i32_104 v204
  let v206 : Index := Scalar.indexCast v205
  ![v206.toNat]

def k0_chk35 (v199 : IVec S16 32) : Prop :=
  (∀ a x, ((![v199] : Fin 1 → IVec S16 32) a x).toNat < S8192.size a) ∧
  (∀ a x, ((![v199] : Fin 1 → IVec S16 32) a x).toNat < S8192.size a)
theorem k0_idx69_inb : ∀ (v199 : IVec S16 32) (k0_hw35 : k0_chk35 v199), ∀ a x, ((![v199] : Fin 1 → IVec S16 32) a x).toNat < S8192.size a := fun v199 k0_hw35 => k0_hw35.1
theorem k0_idx70_inb : ∀ (v199 : IVec S16 32) (k0_hw35 : k0_chk35 v199), ∀ a x, ((![v199] : Fin 1 → IVec S16 32) a x).toNat < S8192.size a := fun v199 k0_hw35 => k0_hw35.2
def k0_off45 (k0_t11 : Fin k0_t11_loop.trips) : Fin 1 → Nat :=
  let c0_i32_111 : BitVec 32 := 0#32
  let c0_i32_73 : BitVec 32 := 0#32
  let c1_i32_75 : BitVec 32 := 1#32
  let arg32 : BitVec 32 := Scf.iv c0_i32_73 c1_i32_75 k0_t11
  let c4_i32_109 : BitVec 32 := 4#32
  let v218 : BitVec 32 := Scalar.muli arg32 c4_i32_109
  let c3_i32 : BitVec 32 := 3#32
  let v219 : BitVec 32 := Scalar.addi v218 c3_i32
  let c16_i32_110 : BitVec 32 := 16#32
  let v220 : BitVec 32 := Scalar.muli v219 c16_i32_110
  let v221 : BitVec 32 := Scalar.addi c0_i32_111 v220
  let v222 : Index := Scalar.indexCast v221
  ![v222.toNat]

def k0_chk36 (v215 : IVec S16 32) : Prop :=
  (∀ a x, ((![v215] : Fin 1 → IVec S16 32) a x).toNat < S8192.size a) ∧
  (∀ a x, ((![v215] : Fin 1 → IVec S16 32) a x).toNat < S8192.size a)
theorem k0_idx71_inb : ∀ (v215 : IVec S16 32) (k0_hw36 : k0_chk36 v215), ∀ a x, ((![v215] : Fin 1 → IVec S16 32) a x).toNat < S8192.size a := fun v215 k0_hw36 => k0_hw36.1
theorem k0_idx72_inb : ∀ (v215 : IVec S16 32) (k0_hw36 : k0_chk36 v215), ∀ a x, ((![v215] : Fin 1 → IVec S16 32) a x).toNat < S8192.size a := fun v215 k0_hw36 => k0_hw36.2
def k0_off46 (k0_t11 : Fin k0_t11_loop.trips) : Fin 1 → Nat :=
  let c4096_i32_119 : BitVec 32 := 4096#32
  let c0_i32_73 : BitVec 32 := 0#32
  let c1_i32_75 : BitVec 32 := 1#32
  let arg32 : BitVec 32 := Scf.iv c0_i32_73 c1_i32_75 k0_t11
  let c4_i32_116 : BitVec 32 := 4#32
  let v234 : BitVec 32 := Scalar.muli arg32 c4_i32_116
  let c0_i32_117 : BitVec 32 := 0#32
  let v235 : BitVec 32 := Scalar.addi v234 c0_i32_117
  let c16_i32_118 : BitVec 32 := 16#32
  let v236 : BitVec 32 := Scalar.muli v235 c16_i32_118
  let v237 : BitVec 32 := Scalar.addi c4096_i32_119 v236
  let v238 : Index := Scalar.indexCast v237
  ![v238.toNat]

def k0_chk37 (arg34 : IVec S16 32) : Prop :=
  (∀ a x, ((![arg34] : Fin 1 → IVec S16 32) a x).toNat < S8192.size a) ∧
  (∀ a x, ((![arg34] : Fin 1 → IVec S16 32) a x).toNat < S8192.size a)
theorem k0_idx73_inb : ∀ (arg34 : IVec S16 32) (k0_hw37 : k0_chk37 arg34), ∀ a x, ((![arg34] : Fin 1 → IVec S16 32) a x).toNat < S8192.size a := fun arg34 k0_hw37 => k0_hw37.1
theorem k0_idx74_inb : ∀ (arg34 : IVec S16 32) (k0_hw37 : k0_chk37 arg34), ∀ a x, ((![arg34] : Fin 1 → IVec S16 32) a x).toNat < S8192.size a := fun arg34 k0_hw37 => k0_hw37.2
def k0_off47 (k0_t11 : Fin k0_t11_loop.trips) : Fin 1 → Nat :=
  let c4096_i32_127 : BitVec 32 := 4096#32
  let c0_i32_73 : BitVec 32 := 0#32
  let c1_i32_75 : BitVec 32 := 1#32
  let arg32 : BitVec 32 := Scf.iv c0_i32_73 c1_i32_75 k0_t11
  let c4_i32_124 : BitVec 32 := 4#32
  let v250 : BitVec 32 := Scalar.muli arg32 c4_i32_124
  let c1_i32_125 : BitVec 32 := 1#32
  let v251 : BitVec 32 := Scalar.addi v250 c1_i32_125
  let c16_i32_126 : BitVec 32 := 16#32
  let v252 : BitVec 32 := Scalar.muli v251 c16_i32_126
  let v253 : BitVec 32 := Scalar.addi c4096_i32_127 v252
  let v254 : Index := Scalar.indexCast v253
  ![v254.toNat]

def k0_chk38 (v247 : IVec S16 32) : Prop :=
  (∀ a x, ((![v247] : Fin 1 → IVec S16 32) a x).toNat < S8192.size a) ∧
  (∀ a x, ((![v247] : Fin 1 → IVec S16 32) a x).toNat < S8192.size a)
theorem k0_idx75_inb : ∀ (v247 : IVec S16 32) (k0_hw38 : k0_chk38 v247), ∀ a x, ((![v247] : Fin 1 → IVec S16 32) a x).toNat < S8192.size a := fun v247 k0_hw38 => k0_hw38.1
theorem k0_idx76_inb : ∀ (v247 : IVec S16 32) (k0_hw38 : k0_chk38 v247), ∀ a x, ((![v247] : Fin 1 → IVec S16 32) a x).toNat < S8192.size a := fun v247 k0_hw38 => k0_hw38.2
def k0_off48 (k0_t11 : Fin k0_t11_loop.trips) : Fin 1 → Nat :=
  let c4096_i32_135 : BitVec 32 := 4096#32
  let c0_i32_73 : BitVec 32 := 0#32
  let c1_i32_75 : BitVec 32 := 1#32
  let arg32 : BitVec 32 := Scf.iv c0_i32_73 c1_i32_75 k0_t11
  let c4_i32_132 : BitVec 32 := 4#32
  let v266 : BitVec 32 := Scalar.muli arg32 c4_i32_132
  let c2_i32_133 : BitVec 32 := 2#32
  let v267 : BitVec 32 := Scalar.addi v266 c2_i32_133
  let c16_i32_134 : BitVec 32 := 16#32
  let v268 : BitVec 32 := Scalar.muli v267 c16_i32_134
  let v269 : BitVec 32 := Scalar.addi c4096_i32_135 v268
  let v270 : Index := Scalar.indexCast v269
  ![v270.toNat]

def k0_chk39 (v263 : IVec S16 32) : Prop :=
  (∀ a x, ((![v263] : Fin 1 → IVec S16 32) a x).toNat < S8192.size a) ∧
  (∀ a x, ((![v263] : Fin 1 → IVec S16 32) a x).toNat < S8192.size a)
theorem k0_idx77_inb : ∀ (v263 : IVec S16 32) (k0_hw39 : k0_chk39 v263), ∀ a x, ((![v263] : Fin 1 → IVec S16 32) a x).toNat < S8192.size a := fun v263 k0_hw39 => k0_hw39.1
theorem k0_idx78_inb : ∀ (v263 : IVec S16 32) (k0_hw39 : k0_chk39 v263), ∀ a x, ((![v263] : Fin 1 → IVec S16 32) a x).toNat < S8192.size a := fun v263 k0_hw39 => k0_hw39.2
def k0_off49 (k0_t11 : Fin k0_t11_loop.trips) : Fin 1 → Nat :=
  let c4096_i32_143 : BitVec 32 := 4096#32
  let c0_i32_73 : BitVec 32 := 0#32
  let c1_i32_75 : BitVec 32 := 1#32
  let arg32 : BitVec 32 := Scf.iv c0_i32_73 c1_i32_75 k0_t11
  let c4_i32_140 : BitVec 32 := 4#32
  let v282 : BitVec 32 := Scalar.muli arg32 c4_i32_140
  let c3_i32_141 : BitVec 32 := 3#32
  let v283 : BitVec 32 := Scalar.addi v282 c3_i32_141
  let c16_i32_142 : BitVec 32 := 16#32
  let v284 : BitVec 32 := Scalar.muli v283 c16_i32_142
  let v285 : BitVec 32 := Scalar.addi c4096_i32_143 v284
  let v286 : Index := Scalar.indexCast v285
  ![v286.toNat]

def k0_chk40 (v279 : IVec S16 32) : Prop :=
  (∀ a x, ((![v279] : Fin 1 → IVec S16 32) a x).toNat < S8192.size a) ∧
  (∀ a x, ((![v279] : Fin 1 → IVec S16 32) a x).toNat < S8192.size a)
theorem k0_idx79_inb : ∀ (v279 : IVec S16 32) (k0_hw40 : k0_chk40 v279), ∀ a x, ((![v279] : Fin 1 → IVec S16 32) a x).toNat < S8192.size a := fun v279 k0_hw40 => k0_hw40.1
theorem k0_idx80_inb : ∀ (v279 : IVec S16 32) (k0_hw40 : k0_chk40 v279), ∀ a x, ((![v279] : Fin 1 → IVec S16 32) a x).toNat < S8192.size a := fun v279 k0_hw40 => k0_hw40.2
def k0_off50 (k0_t11 : Fin k0_t11_loop.trips) : Fin 1 → Nat :=
  let c8192_i32 : BitVec 32 := 8192#32
  let c0_i32_73 : BitVec 32 := 0#32
  let c1_i32_75 : BitVec 32 := 1#32
  let arg32 : BitVec 32 := Scf.iv c0_i32_73 c1_i32_75 k0_t11
  let c4_i32_148 : BitVec 32 := 4#32
  let v298 : BitVec 32 := Scalar.muli arg32 c4_i32_148
  let c0_i32_149 : BitVec 32 := 0#32
  let v299 : BitVec 32 := Scalar.addi v298 c0_i32_149
  let c16_i32_150 : BitVec 32 := 16#32
  let v300 : BitVec 32 := Scalar.muli v299 c16_i32_150
  let v301 : BitVec 32 := Scalar.addi c8192_i32 v300
  let v302 : Index := Scalar.indexCast v301
  ![v302.toNat]

def k0_chk41 (arg35 : IVec S16 32) : Prop :=
  (∀ a x, ((![arg35] : Fin 1 → IVec S16 32) a x).toNat < S8192.size a) ∧
  (∀ a x, ((![arg35] : Fin 1 → IVec S16 32) a x).toNat < S8192.size a)
theorem k0_idx81_inb : ∀ (arg35 : IVec S16 32) (k0_hw41 : k0_chk41 arg35), ∀ a x, ((![arg35] : Fin 1 → IVec S16 32) a x).toNat < S8192.size a := fun arg35 k0_hw41 => k0_hw41.1
theorem k0_idx82_inb : ∀ (arg35 : IVec S16 32) (k0_hw41 : k0_chk41 arg35), ∀ a x, ((![arg35] : Fin 1 → IVec S16 32) a x).toNat < S8192.size a := fun arg35 k0_hw41 => k0_hw41.2
def k0_off51 (k0_t11 : Fin k0_t11_loop.trips) : Fin 1 → Nat :=
  let c8192_i32_158 : BitVec 32 := 8192#32
  let c0_i32_73 : BitVec 32 := 0#32
  let c1_i32_75 : BitVec 32 := 1#32
  let arg32 : BitVec 32 := Scf.iv c0_i32_73 c1_i32_75 k0_t11
  let c4_i32_155 : BitVec 32 := 4#32
  let v314 : BitVec 32 := Scalar.muli arg32 c4_i32_155
  let c1_i32_156 : BitVec 32 := 1#32
  let v315 : BitVec 32 := Scalar.addi v314 c1_i32_156
  let c16_i32_157 : BitVec 32 := 16#32
  let v316 : BitVec 32 := Scalar.muli v315 c16_i32_157
  let v317 : BitVec 32 := Scalar.addi c8192_i32_158 v316
  let v318 : Index := Scalar.indexCast v317
  ![v318.toNat]

def k0_chk42 (v311 : IVec S16 32) : Prop :=
  (∀ a x, ((![v311] : Fin 1 → IVec S16 32) a x).toNat < S8192.size a) ∧
  (∀ a x, ((![v311] : Fin 1 → IVec S16 32) a x).toNat < S8192.size a)
theorem k0_idx83_inb : ∀ (v311 : IVec S16 32) (k0_hw42 : k0_chk42 v311), ∀ a x, ((![v311] : Fin 1 → IVec S16 32) a x).toNat < S8192.size a := fun v311 k0_hw42 => k0_hw42.1
theorem k0_idx84_inb : ∀ (v311 : IVec S16 32) (k0_hw42 : k0_chk42 v311), ∀ a x, ((![v311] : Fin 1 → IVec S16 32) a x).toNat < S8192.size a := fun v311 k0_hw42 => k0_hw42.2
def k0_off52 (k0_t11 : Fin k0_t11_loop.trips) : Fin 1 → Nat :=
  let c8192_i32_166 : BitVec 32 := 8192#32
  let c0_i32_73 : BitVec 32 := 0#32
  let c1_i32_75 : BitVec 32 := 1#32
  let arg32 : BitVec 32 := Scf.iv c0_i32_73 c1_i32_75 k0_t11
  let c4_i32_163 : BitVec 32 := 4#32
  let v330 : BitVec 32 := Scalar.muli arg32 c4_i32_163
  let c2_i32_164 : BitVec 32 := 2#32
  let v331 : BitVec 32 := Scalar.addi v330 c2_i32_164
  let c16_i32_165 : BitVec 32 := 16#32
  let v332 : BitVec 32 := Scalar.muli v331 c16_i32_165
  let v333 : BitVec 32 := Scalar.addi c8192_i32_166 v332
  let v334 : Index := Scalar.indexCast v333
  ![v334.toNat]

def k0_chk43 (v327 : IVec S16 32) : Prop :=
  (∀ a x, ((![v327] : Fin 1 → IVec S16 32) a x).toNat < S8192.size a) ∧
  (∀ a x, ((![v327] : Fin 1 → IVec S16 32) a x).toNat < S8192.size a)
theorem k0_idx85_inb : ∀ (v327 : IVec S16 32) (k0_hw43 : k0_chk43 v327), ∀ a x, ((![v327] : Fin 1 → IVec S16 32) a x).toNat < S8192.size a := fun v327 k0_hw43 => k0_hw43.1
theorem k0_idx86_inb : ∀ (v327 : IVec S16 32) (k0_hw43 : k0_chk43 v327), ∀ a x, ((![v327] : Fin 1 → IVec S16 32) a x).toNat < S8192.size a := fun v327 k0_hw43 => k0_hw43.2
def k0_off53 (k0_t11 : Fin k0_t11_loop.trips) : Fin 1 → Nat :=
  let c8192_i32_174 : BitVec 32 := 8192#32
  let c0_i32_73 : BitVec 32 := 0#32
  let c1_i32_75 : BitVec 32 := 1#32
  let arg32 : BitVec 32 := Scf.iv c0_i32_73 c1_i32_75 k0_t11
  let c4_i32_171 : BitVec 32 := 4#32
  let v346 : BitVec 32 := Scalar.muli arg32 c4_i32_171
  let c3_i32_172 : BitVec 32 := 3#32
  let v347 : BitVec 32 := Scalar.addi v346 c3_i32_172
  let c16_i32_173 : BitVec 32 := 16#32
  let v348 : BitVec 32 := Scalar.muli v347 c16_i32_173
  let v349 : BitVec 32 := Scalar.addi c8192_i32_174 v348
  let v350 : Index := Scalar.indexCast v349
  ![v350.toNat]

def k0_chk44 (v343 : IVec S16 32) : Prop :=
  (∀ a x, ((![v343] : Fin 1 → IVec S16 32) a x).toNat < S8192.size a) ∧
  (∀ a x, ((![v343] : Fin 1 → IVec S16 32) a x).toNat < S8192.size a)
theorem k0_idx87_inb : ∀ (v343 : IVec S16 32) (k0_hw44 : k0_chk44 v343), ∀ a x, ((![v343] : Fin 1 → IVec S16 32) a x).toNat < S8192.size a := fun v343 k0_hw44 => k0_hw44.1
theorem k0_idx88_inb : ∀ (v343 : IVec S16 32) (k0_hw44 : k0_chk44 v343), ∀ a x, ((![v343] : Fin 1 → IVec S16 32) a x).toNat < S8192.size a := fun v343 k0_hw44 => k0_hw44.2
def k0_off54 (k0_t11 : Fin k0_t11_loop.trips) : Fin 1 → Nat :=
  let c12288_i32 : BitVec 32 := 12288#32
  let c0_i32_73 : BitVec 32 := 0#32
  let c1_i32_75 : BitVec 32 := 1#32
  let arg32 : BitVec 32 := Scf.iv c0_i32_73 c1_i32_75 k0_t11
  let c4_i32_179 : BitVec 32 := 4#32
  let v362 : BitVec 32 := Scalar.muli arg32 c4_i32_179
  let c0_i32_180 : BitVec 32 := 0#32
  let v363 : BitVec 32 := Scalar.addi v362 c0_i32_180
  let c16_i32_181 : BitVec 32 := 16#32
  let v364 : BitVec 32 := Scalar.muli v363 c16_i32_181
  let v365 : BitVec 32 := Scalar.addi c12288_i32 v364
  let v366 : Index := Scalar.indexCast v365
  ![v366.toNat]

def k0_chk45 (arg36 : IVec S16 32) : Prop :=
  (∀ a x, ((![arg36] : Fin 1 → IVec S16 32) a x).toNat < S8192.size a) ∧
  (∀ a x, ((![arg36] : Fin 1 → IVec S16 32) a x).toNat < S8192.size a)
theorem k0_idx89_inb : ∀ (arg36 : IVec S16 32) (k0_hw45 : k0_chk45 arg36), ∀ a x, ((![arg36] : Fin 1 → IVec S16 32) a x).toNat < S8192.size a := fun arg36 k0_hw45 => k0_hw45.1
theorem k0_idx90_inb : ∀ (arg36 : IVec S16 32) (k0_hw45 : k0_chk45 arg36), ∀ a x, ((![arg36] : Fin 1 → IVec S16 32) a x).toNat < S8192.size a := fun arg36 k0_hw45 => k0_hw45.2
def k0_off55 (k0_t11 : Fin k0_t11_loop.trips) : Fin 1 → Nat :=
  let c12288_i32_189 : BitVec 32 := 12288#32
  let c0_i32_73 : BitVec 32 := 0#32
  let c1_i32_75 : BitVec 32 := 1#32
  let arg32 : BitVec 32 := Scf.iv c0_i32_73 c1_i32_75 k0_t11
  let c4_i32_186 : BitVec 32 := 4#32
  let v378 : BitVec 32 := Scalar.muli arg32 c4_i32_186
  let c1_i32_187 : BitVec 32 := 1#32
  let v379 : BitVec 32 := Scalar.addi v378 c1_i32_187
  let c16_i32_188 : BitVec 32 := 16#32
  let v380 : BitVec 32 := Scalar.muli v379 c16_i32_188
  let v381 : BitVec 32 := Scalar.addi c12288_i32_189 v380
  let v382 : Index := Scalar.indexCast v381
  ![v382.toNat]

def k0_chk46 (v375 : IVec S16 32) : Prop :=
  (∀ a x, ((![v375] : Fin 1 → IVec S16 32) a x).toNat < S8192.size a) ∧
  (∀ a x, ((![v375] : Fin 1 → IVec S16 32) a x).toNat < S8192.size a)
theorem k0_idx91_inb : ∀ (v375 : IVec S16 32) (k0_hw46 : k0_chk46 v375), ∀ a x, ((![v375] : Fin 1 → IVec S16 32) a x).toNat < S8192.size a := fun v375 k0_hw46 => k0_hw46.1
theorem k0_idx92_inb : ∀ (v375 : IVec S16 32) (k0_hw46 : k0_chk46 v375), ∀ a x, ((![v375] : Fin 1 → IVec S16 32) a x).toNat < S8192.size a := fun v375 k0_hw46 => k0_hw46.2
def k0_off56 (k0_t11 : Fin k0_t11_loop.trips) : Fin 1 → Nat :=
  let c12288_i32_197 : BitVec 32 := 12288#32
  let c0_i32_73 : BitVec 32 := 0#32
  let c1_i32_75 : BitVec 32 := 1#32
  let arg32 : BitVec 32 := Scf.iv c0_i32_73 c1_i32_75 k0_t11
  let c4_i32_194 : BitVec 32 := 4#32
  let v394 : BitVec 32 := Scalar.muli arg32 c4_i32_194
  let c2_i32_195 : BitVec 32 := 2#32
  let v395 : BitVec 32 := Scalar.addi v394 c2_i32_195
  let c16_i32_196 : BitVec 32 := 16#32
  let v396 : BitVec 32 := Scalar.muli v395 c16_i32_196
  let v397 : BitVec 32 := Scalar.addi c12288_i32_197 v396
  let v398 : Index := Scalar.indexCast v397
  ![v398.toNat]

def k0_chk47 (v391 : IVec S16 32) : Prop :=
  (∀ a x, ((![v391] : Fin 1 → IVec S16 32) a x).toNat < S8192.size a) ∧
  (∀ a x, ((![v391] : Fin 1 → IVec S16 32) a x).toNat < S8192.size a)
theorem k0_idx93_inb : ∀ (v391 : IVec S16 32) (k0_hw47 : k0_chk47 v391), ∀ a x, ((![v391] : Fin 1 → IVec S16 32) a x).toNat < S8192.size a := fun v391 k0_hw47 => k0_hw47.1
theorem k0_idx94_inb : ∀ (v391 : IVec S16 32) (k0_hw47 : k0_chk47 v391), ∀ a x, ((![v391] : Fin 1 → IVec S16 32) a x).toNat < S8192.size a := fun v391 k0_hw47 => k0_hw47.2
def k0_off57 (k0_t11 : Fin k0_t11_loop.trips) : Fin 1 → Nat :=
  let c12288_i32_205 : BitVec 32 := 12288#32
  let c0_i32_73 : BitVec 32 := 0#32
  let c1_i32_75 : BitVec 32 := 1#32
  let arg32 : BitVec 32 := Scf.iv c0_i32_73 c1_i32_75 k0_t11
  let c4_i32_202 : BitVec 32 := 4#32
  let v410 : BitVec 32 := Scalar.muli arg32 c4_i32_202
  let c3_i32_203 : BitVec 32 := 3#32
  let v411 : BitVec 32 := Scalar.addi v410 c3_i32_203
  let c16_i32_204 : BitVec 32 := 16#32
  let v412 : BitVec 32 := Scalar.muli v411 c16_i32_204
  let v413 : BitVec 32 := Scalar.addi c12288_i32_205 v412
  let v414 : Index := Scalar.indexCast v413
  ![v414.toNat]

def k0_chk48 (v407 : IVec S16 32) : Prop :=
  (∀ a x, ((![v407] : Fin 1 → IVec S16 32) a x).toNat < S8192.size a) ∧
  (∀ a x, ((![v407] : Fin 1 → IVec S16 32) a x).toNat < S8192.size a)
theorem k0_idx95_inb : ∀ (v407 : IVec S16 32) (k0_hw48 : k0_chk48 v407), ∀ a x, ((![v407] : Fin 1 → IVec S16 32) a x).toNat < S8192.size a := fun v407 k0_hw48 => k0_hw48.1
theorem k0_idx96_inb : ∀ (v407 : IVec S16 32) (k0_hw48 : k0_chk48 v407), ∀ a x, ((![v407] : Fin 1 → IVec S16 32) a x).toNat < S8192.size a := fun v407 k0_hw48 => k0_hw48.2
def k0_off58 (k0_t11 : Fin k0_t11_loop.trips) : Fin 1 → Nat :=
  let c16384_i32 : BitVec 32 := 16384#32
  let c0_i32_73 : BitVec 32 := 0#32
  let c1_i32_75 : BitVec 32 := 1#32
  let arg32 : BitVec 32 := Scf.iv c0_i32_73 c1_i32_75 k0_t11
  let c4_i32_210 : BitVec 32 := 4#32
  let v426 : BitVec 32 := Scalar.muli arg32 c4_i32_210
  let c0_i32_211 : BitVec 32 := 0#32
  let v427 : BitVec 32 := Scalar.addi v426 c0_i32_211
  let c16_i32_212 : BitVec 32 := 16#32
  let v428 : BitVec 32 := Scalar.muli v427 c16_i32_212
  let v429 : BitVec 32 := Scalar.addi c16384_i32 v428
  let v430 : Index := Scalar.indexCast v429
  ![v430.toNat]

def k0_chk49 (arg37 : IVec S16 32) : Prop :=
  (∀ a x, ((![arg37] : Fin 1 → IVec S16 32) a x).toNat < S8192.size a) ∧
  (∀ a x, ((![arg37] : Fin 1 → IVec S16 32) a x).toNat < S8192.size a)
theorem k0_idx97_inb : ∀ (arg37 : IVec S16 32) (k0_hw49 : k0_chk49 arg37), ∀ a x, ((![arg37] : Fin 1 → IVec S16 32) a x).toNat < S8192.size a := fun arg37 k0_hw49 => k0_hw49.1
theorem k0_idx98_inb : ∀ (arg37 : IVec S16 32) (k0_hw49 : k0_chk49 arg37), ∀ a x, ((![arg37] : Fin 1 → IVec S16 32) a x).toNat < S8192.size a := fun arg37 k0_hw49 => k0_hw49.2
def k0_off59 (k0_t11 : Fin k0_t11_loop.trips) : Fin 1 → Nat :=
  let c16384_i32_220 : BitVec 32 := 16384#32
  let c0_i32_73 : BitVec 32 := 0#32
  let c1_i32_75 : BitVec 32 := 1#32
  let arg32 : BitVec 32 := Scf.iv c0_i32_73 c1_i32_75 k0_t11
  let c4_i32_217 : BitVec 32 := 4#32
  let v442 : BitVec 32 := Scalar.muli arg32 c4_i32_217
  let c1_i32_218 : BitVec 32 := 1#32
  let v443 : BitVec 32 := Scalar.addi v442 c1_i32_218
  let c16_i32_219 : BitVec 32 := 16#32
  let v444 : BitVec 32 := Scalar.muli v443 c16_i32_219
  let v445 : BitVec 32 := Scalar.addi c16384_i32_220 v444
  let v446 : Index := Scalar.indexCast v445
  ![v446.toNat]

def k0_chk50 (v439 : IVec S16 32) : Prop :=
  (∀ a x, ((![v439] : Fin 1 → IVec S16 32) a x).toNat < S8192.size a) ∧
  (∀ a x, ((![v439] : Fin 1 → IVec S16 32) a x).toNat < S8192.size a)
theorem k0_idx99_inb : ∀ (v439 : IVec S16 32) (k0_hw50 : k0_chk50 v439), ∀ a x, ((![v439] : Fin 1 → IVec S16 32) a x).toNat < S8192.size a := fun v439 k0_hw50 => k0_hw50.1
theorem k0_idx100_inb : ∀ (v439 : IVec S16 32) (k0_hw50 : k0_chk50 v439), ∀ a x, ((![v439] : Fin 1 → IVec S16 32) a x).toNat < S8192.size a := fun v439 k0_hw50 => k0_hw50.2
def k0_off60 (k0_t11 : Fin k0_t11_loop.trips) : Fin 1 → Nat :=
  let c16384_i32_228 : BitVec 32 := 16384#32
  let c0_i32_73 : BitVec 32 := 0#32
  let c1_i32_75 : BitVec 32 := 1#32
  let arg32 : BitVec 32 := Scf.iv c0_i32_73 c1_i32_75 k0_t11
  let c4_i32_225 : BitVec 32 := 4#32
  let v458 : BitVec 32 := Scalar.muli arg32 c4_i32_225
  let c2_i32_226 : BitVec 32 := 2#32
  let v459 : BitVec 32 := Scalar.addi v458 c2_i32_226
  let c16_i32_227 : BitVec 32 := 16#32
  let v460 : BitVec 32 := Scalar.muli v459 c16_i32_227
  let v461 : BitVec 32 := Scalar.addi c16384_i32_228 v460
  let v462 : Index := Scalar.indexCast v461
  ![v462.toNat]

def k0_chk51 (v455 : IVec S16 32) : Prop :=
  (∀ a x, ((![v455] : Fin 1 → IVec S16 32) a x).toNat < S8192.size a) ∧
  (∀ a x, ((![v455] : Fin 1 → IVec S16 32) a x).toNat < S8192.size a)
theorem k0_idx101_inb : ∀ (v455 : IVec S16 32) (k0_hw51 : k0_chk51 v455), ∀ a x, ((![v455] : Fin 1 → IVec S16 32) a x).toNat < S8192.size a := fun v455 k0_hw51 => k0_hw51.1
theorem k0_idx102_inb : ∀ (v455 : IVec S16 32) (k0_hw51 : k0_chk51 v455), ∀ a x, ((![v455] : Fin 1 → IVec S16 32) a x).toNat < S8192.size a := fun v455 k0_hw51 => k0_hw51.2
def k0_off61 (k0_t11 : Fin k0_t11_loop.trips) : Fin 1 → Nat :=
  let c16384_i32_236 : BitVec 32 := 16384#32
  let c0_i32_73 : BitVec 32 := 0#32
  let c1_i32_75 : BitVec 32 := 1#32
  let arg32 : BitVec 32 := Scf.iv c0_i32_73 c1_i32_75 k0_t11
  let c4_i32_233 : BitVec 32 := 4#32
  let v474 : BitVec 32 := Scalar.muli arg32 c4_i32_233
  let c3_i32_234 : BitVec 32 := 3#32
  let v475 : BitVec 32 := Scalar.addi v474 c3_i32_234
  let c16_i32_235 : BitVec 32 := 16#32
  let v476 : BitVec 32 := Scalar.muli v475 c16_i32_235
  let v477 : BitVec 32 := Scalar.addi c16384_i32_236 v476
  let v478 : Index := Scalar.indexCast v477
  ![v478.toNat]

def k0_chk52 (v471 : IVec S16 32) : Prop :=
  (∀ a x, ((![v471] : Fin 1 → IVec S16 32) a x).toNat < S8192.size a) ∧
  (∀ a x, ((![v471] : Fin 1 → IVec S16 32) a x).toNat < S8192.size a)
theorem k0_idx103_inb : ∀ (v471 : IVec S16 32) (k0_hw52 : k0_chk52 v471), ∀ a x, ((![v471] : Fin 1 → IVec S16 32) a x).toNat < S8192.size a := fun v471 k0_hw52 => k0_hw52.1
theorem k0_idx104_inb : ∀ (v471 : IVec S16 32) (k0_hw52 : k0_chk52 v471), ∀ a x, ((![v471] : Fin 1 → IVec S16 32) a x).toNat < S8192.size a := fun v471 k0_hw52 => k0_hw52.2
def k0_off62 (k0_t11 : Fin k0_t11_loop.trips) : Fin 1 → Nat :=
  let c20480_i32 : BitVec 32 := 20480#32
  let c0_i32_73 : BitVec 32 := 0#32
  let c1_i32_75 : BitVec 32 := 1#32
  let arg32 : BitVec 32 := Scf.iv c0_i32_73 c1_i32_75 k0_t11
  let c4_i32_241 : BitVec 32 := 4#32
  let v490 : BitVec 32 := Scalar.muli arg32 c4_i32_241
  let c0_i32_242 : BitVec 32 := 0#32
  let v491 : BitVec 32 := Scalar.addi v490 c0_i32_242
  let c16_i32_243 : BitVec 32 := 16#32
  let v492 : BitVec 32 := Scalar.muli v491 c16_i32_243
  let v493 : BitVec 32 := Scalar.addi c20480_i32 v492
  let v494 : Index := Scalar.indexCast v493
  ![v494.toNat]

def k0_chk53 (arg38 : IVec S16 32) : Prop :=
  (∀ a x, ((![arg38] : Fin 1 → IVec S16 32) a x).toNat < S8192.size a) ∧
  (∀ a x, ((![arg38] : Fin 1 → IVec S16 32) a x).toNat < S8192.size a)
theorem k0_idx105_inb : ∀ (arg38 : IVec S16 32) (k0_hw53 : k0_chk53 arg38), ∀ a x, ((![arg38] : Fin 1 → IVec S16 32) a x).toNat < S8192.size a := fun arg38 k0_hw53 => k0_hw53.1
theorem k0_idx106_inb : ∀ (arg38 : IVec S16 32) (k0_hw53 : k0_chk53 arg38), ∀ a x, ((![arg38] : Fin 1 → IVec S16 32) a x).toNat < S8192.size a := fun arg38 k0_hw53 => k0_hw53.2
def k0_off63 (k0_t11 : Fin k0_t11_loop.trips) : Fin 1 → Nat :=
  let c20480_i32_251 : BitVec 32 := 20480#32
  let c0_i32_73 : BitVec 32 := 0#32
  let c1_i32_75 : BitVec 32 := 1#32
  let arg32 : BitVec 32 := Scf.iv c0_i32_73 c1_i32_75 k0_t11
  let c4_i32_248 : BitVec 32 := 4#32
  let v506 : BitVec 32 := Scalar.muli arg32 c4_i32_248
  let c1_i32_249 : BitVec 32 := 1#32
  let v507 : BitVec 32 := Scalar.addi v506 c1_i32_249
  let c16_i32_250 : BitVec 32 := 16#32
  let v508 : BitVec 32 := Scalar.muli v507 c16_i32_250
  let v509 : BitVec 32 := Scalar.addi c20480_i32_251 v508
  let v510 : Index := Scalar.indexCast v509
  ![v510.toNat]

def k0_chk54 (v503 : IVec S16 32) : Prop :=
  (∀ a x, ((![v503] : Fin 1 → IVec S16 32) a x).toNat < S8192.size a) ∧
  (∀ a x, ((![v503] : Fin 1 → IVec S16 32) a x).toNat < S8192.size a)
theorem k0_idx107_inb : ∀ (v503 : IVec S16 32) (k0_hw54 : k0_chk54 v503), ∀ a x, ((![v503] : Fin 1 → IVec S16 32) a x).toNat < S8192.size a := fun v503 k0_hw54 => k0_hw54.1
theorem k0_idx108_inb : ∀ (v503 : IVec S16 32) (k0_hw54 : k0_chk54 v503), ∀ a x, ((![v503] : Fin 1 → IVec S16 32) a x).toNat < S8192.size a := fun v503 k0_hw54 => k0_hw54.2
def k0_off64 (k0_t11 : Fin k0_t11_loop.trips) : Fin 1 → Nat :=
  let c20480_i32_259 : BitVec 32 := 20480#32
  let c0_i32_73 : BitVec 32 := 0#32
  let c1_i32_75 : BitVec 32 := 1#32
  let arg32 : BitVec 32 := Scf.iv c0_i32_73 c1_i32_75 k0_t11
  let c4_i32_256 : BitVec 32 := 4#32
  let v522 : BitVec 32 := Scalar.muli arg32 c4_i32_256
  let c2_i32_257 : BitVec 32 := 2#32
  let v523 : BitVec 32 := Scalar.addi v522 c2_i32_257
  let c16_i32_258 : BitVec 32 := 16#32
  let v524 : BitVec 32 := Scalar.muli v523 c16_i32_258
  let v525 : BitVec 32 := Scalar.addi c20480_i32_259 v524
  let v526 : Index := Scalar.indexCast v525
  ![v526.toNat]

def k0_chk55 (v519 : IVec S16 32) : Prop :=
  (∀ a x, ((![v519] : Fin 1 → IVec S16 32) a x).toNat < S8192.size a) ∧
  (∀ a x, ((![v519] : Fin 1 → IVec S16 32) a x).toNat < S8192.size a)
theorem k0_idx109_inb : ∀ (v519 : IVec S16 32) (k0_hw55 : k0_chk55 v519), ∀ a x, ((![v519] : Fin 1 → IVec S16 32) a x).toNat < S8192.size a := fun v519 k0_hw55 => k0_hw55.1
theorem k0_idx110_inb : ∀ (v519 : IVec S16 32) (k0_hw55 : k0_chk55 v519), ∀ a x, ((![v519] : Fin 1 → IVec S16 32) a x).toNat < S8192.size a := fun v519 k0_hw55 => k0_hw55.2
def k0_off65 (k0_t11 : Fin k0_t11_loop.trips) : Fin 1 → Nat :=
  let c20480_i32_267 : BitVec 32 := 20480#32
  let c0_i32_73 : BitVec 32 := 0#32
  let c1_i32_75 : BitVec 32 := 1#32
  let arg32 : BitVec 32 := Scf.iv c0_i32_73 c1_i32_75 k0_t11
  let c4_i32_264 : BitVec 32 := 4#32
  let v538 : BitVec 32 := Scalar.muli arg32 c4_i32_264
  let c3_i32_265 : BitVec 32 := 3#32
  let v539 : BitVec 32 := Scalar.addi v538 c3_i32_265
  let c16_i32_266 : BitVec 32 := 16#32
  let v540 : BitVec 32 := Scalar.muli v539 c16_i32_266
  let v541 : BitVec 32 := Scalar.addi c20480_i32_267 v540
  let v542 : Index := Scalar.indexCast v541
  ![v542.toNat]

def k0_chk56 (v535 : IVec S16 32) : Prop :=
  (∀ a x, ((![v535] : Fin 1 → IVec S16 32) a x).toNat < S8192.size a) ∧
  (∀ a x, ((![v535] : Fin 1 → IVec S16 32) a x).toNat < S8192.size a)
theorem k0_idx111_inb : ∀ (v535 : IVec S16 32) (k0_hw56 : k0_chk56 v535), ∀ a x, ((![v535] : Fin 1 → IVec S16 32) a x).toNat < S8192.size a := fun v535 k0_hw56 => k0_hw56.1
theorem k0_idx112_inb : ∀ (v535 : IVec S16 32) (k0_hw56 : k0_chk56 v535), ∀ a x, ((![v535] : Fin 1 → IVec S16 32) a x).toNat < S8192.size a := fun v535 k0_hw56 => k0_hw56.2
def k0_off66 (k0_t11 : Fin k0_t11_loop.trips) : Fin 1 → Nat :=
  let c24576_i32 : BitVec 32 := 24576#32
  let c0_i32_73 : BitVec 32 := 0#32
  let c1_i32_75 : BitVec 32 := 1#32
  let arg32 : BitVec 32 := Scf.iv c0_i32_73 c1_i32_75 k0_t11
  let c4_i32_272 : BitVec 32 := 4#32
  let v554 : BitVec 32 := Scalar.muli arg32 c4_i32_272
  let c0_i32_273 : BitVec 32 := 0#32
  let v555 : BitVec 32 := Scalar.addi v554 c0_i32_273
  let c16_i32_274 : BitVec 32 := 16#32
  let v556 : BitVec 32 := Scalar.muli v555 c16_i32_274
  let v557 : BitVec 32 := Scalar.addi c24576_i32 v556
  let v558 : Index := Scalar.indexCast v557
  ![v558.toNat]

def k0_chk57 (arg39 : IVec S16 32) : Prop :=
  (∀ a x, ((![arg39] : Fin 1 → IVec S16 32) a x).toNat < S8192.size a) ∧
  (∀ a x, ((![arg39] : Fin 1 → IVec S16 32) a x).toNat < S8192.size a)
theorem k0_idx113_inb : ∀ (arg39 : IVec S16 32) (k0_hw57 : k0_chk57 arg39), ∀ a x, ((![arg39] : Fin 1 → IVec S16 32) a x).toNat < S8192.size a := fun arg39 k0_hw57 => k0_hw57.1
theorem k0_idx114_inb : ∀ (arg39 : IVec S16 32) (k0_hw57 : k0_chk57 arg39), ∀ a x, ((![arg39] : Fin 1 → IVec S16 32) a x).toNat < S8192.size a := fun arg39 k0_hw57 => k0_hw57.2
def k0_off67 (k0_t11 : Fin k0_t11_loop.trips) : Fin 1 → Nat :=
  let c24576_i32_282 : BitVec 32 := 24576#32
  let c0_i32_73 : BitVec 32 := 0#32
  let c1_i32_75 : BitVec 32 := 1#32
  let arg32 : BitVec 32 := Scf.iv c0_i32_73 c1_i32_75 k0_t11
  let c4_i32_279 : BitVec 32 := 4#32
  let v570 : BitVec 32 := Scalar.muli arg32 c4_i32_279
  let c1_i32_280 : BitVec 32 := 1#32
  let v571 : BitVec 32 := Scalar.addi v570 c1_i32_280
  let c16_i32_281 : BitVec 32 := 16#32
  let v572 : BitVec 32 := Scalar.muli v571 c16_i32_281
  let v573 : BitVec 32 := Scalar.addi c24576_i32_282 v572
  let v574 : Index := Scalar.indexCast v573
  ![v574.toNat]

def k0_chk58 (v567 : IVec S16 32) : Prop :=
  (∀ a x, ((![v567] : Fin 1 → IVec S16 32) a x).toNat < S8192.size a) ∧
  (∀ a x, ((![v567] : Fin 1 → IVec S16 32) a x).toNat < S8192.size a)
theorem k0_idx115_inb : ∀ (v567 : IVec S16 32) (k0_hw58 : k0_chk58 v567), ∀ a x, ((![v567] : Fin 1 → IVec S16 32) a x).toNat < S8192.size a := fun v567 k0_hw58 => k0_hw58.1
theorem k0_idx116_inb : ∀ (v567 : IVec S16 32) (k0_hw58 : k0_chk58 v567), ∀ a x, ((![v567] : Fin 1 → IVec S16 32) a x).toNat < S8192.size a := fun v567 k0_hw58 => k0_hw58.2
def k0_off68 (k0_t11 : Fin k0_t11_loop.trips) : Fin 1 → Nat :=
  let c24576_i32_290 : BitVec 32 := 24576#32
  let c0_i32_73 : BitVec 32 := 0#32
  let c1_i32_75 : BitVec 32 := 1#32
  let arg32 : BitVec 32 := Scf.iv c0_i32_73 c1_i32_75 k0_t11
  let c4_i32_287 : BitVec 32 := 4#32
  let v586 : BitVec 32 := Scalar.muli arg32 c4_i32_287
  let c2_i32_288 : BitVec 32 := 2#32
  let v587 : BitVec 32 := Scalar.addi v586 c2_i32_288
  let c16_i32_289 : BitVec 32 := 16#32
  let v588 : BitVec 32 := Scalar.muli v587 c16_i32_289
  let v589 : BitVec 32 := Scalar.addi c24576_i32_290 v588
  let v590 : Index := Scalar.indexCast v589
  ![v590.toNat]

def k0_chk59 (v583 : IVec S16 32) : Prop :=
  (∀ a x, ((![v583] : Fin 1 → IVec S16 32) a x).toNat < S8192.size a) ∧
  (∀ a x, ((![v583] : Fin 1 → IVec S16 32) a x).toNat < S8192.size a)
theorem k0_idx117_inb : ∀ (v583 : IVec S16 32) (k0_hw59 : k0_chk59 v583), ∀ a x, ((![v583] : Fin 1 → IVec S16 32) a x).toNat < S8192.size a := fun v583 k0_hw59 => k0_hw59.1
theorem k0_idx118_inb : ∀ (v583 : IVec S16 32) (k0_hw59 : k0_chk59 v583), ∀ a x, ((![v583] : Fin 1 → IVec S16 32) a x).toNat < S8192.size a := fun v583 k0_hw59 => k0_hw59.2
def k0_off69 (k0_t11 : Fin k0_t11_loop.trips) : Fin 1 → Nat :=
  let c24576_i32_298 : BitVec 32 := 24576#32
  let c0_i32_73 : BitVec 32 := 0#32
  let c1_i32_75 : BitVec 32 := 1#32
  let arg32 : BitVec 32 := Scf.iv c0_i32_73 c1_i32_75 k0_t11
  let c4_i32_295 : BitVec 32 := 4#32
  let v602 : BitVec 32 := Scalar.muli arg32 c4_i32_295
  let c3_i32_296 : BitVec 32 := 3#32
  let v603 : BitVec 32 := Scalar.addi v602 c3_i32_296
  let c16_i32_297 : BitVec 32 := 16#32
  let v604 : BitVec 32 := Scalar.muli v603 c16_i32_297
  let v605 : BitVec 32 := Scalar.addi c24576_i32_298 v604
  let v606 : Index := Scalar.indexCast v605
  ![v606.toNat]

def k0_chk60 (v599 : IVec S16 32) : Prop :=
  (∀ a x, ((![v599] : Fin 1 → IVec S16 32) a x).toNat < S8192.size a) ∧
  (∀ a x, ((![v599] : Fin 1 → IVec S16 32) a x).toNat < S8192.size a)
theorem k0_idx119_inb : ∀ (v599 : IVec S16 32) (k0_hw60 : k0_chk60 v599), ∀ a x, ((![v599] : Fin 1 → IVec S16 32) a x).toNat < S8192.size a := fun v599 k0_hw60 => k0_hw60.1
theorem k0_idx120_inb : ∀ (v599 : IVec S16 32) (k0_hw60 : k0_chk60 v599), ∀ a x, ((![v599] : Fin 1 → IVec S16 32) a x).toNat < S8192.size a := fun v599 k0_hw60 => k0_hw60.2
def k0_off70 (k0_t11 : Fin k0_t11_loop.trips) : Fin 1 → Nat :=
  let c28672_i32 : BitVec 32 := 28672#32
  let c0_i32_73 : BitVec 32 := 0#32
  let c1_i32_75 : BitVec 32 := 1#32
  let arg32 : BitVec 32 := Scf.iv c0_i32_73 c1_i32_75 k0_t11
  let c4_i32_303 : BitVec 32 := 4#32
  let v618 : BitVec 32 := Scalar.muli arg32 c4_i32_303
  let c0_i32_304 : BitVec 32 := 0#32
  let v619 : BitVec 32 := Scalar.addi v618 c0_i32_304
  let c16_i32_305 : BitVec 32 := 16#32
  let v620 : BitVec 32 := Scalar.muli v619 c16_i32_305
  let v621 : BitVec 32 := Scalar.addi c28672_i32 v620
  let v622 : Index := Scalar.indexCast v621
  ![v622.toNat]

def k0_chk61 (arg40 : IVec S16 32) : Prop :=
  (∀ a x, ((![arg40] : Fin 1 → IVec S16 32) a x).toNat < S8192.size a) ∧
  (∀ a x, ((![arg40] : Fin 1 → IVec S16 32) a x).toNat < S8192.size a)
theorem k0_idx121_inb : ∀ (arg40 : IVec S16 32) (k0_hw61 : k0_chk61 arg40), ∀ a x, ((![arg40] : Fin 1 → IVec S16 32) a x).toNat < S8192.size a := fun arg40 k0_hw61 => k0_hw61.1
theorem k0_idx122_inb : ∀ (arg40 : IVec S16 32) (k0_hw61 : k0_chk61 arg40), ∀ a x, ((![arg40] : Fin 1 → IVec S16 32) a x).toNat < S8192.size a := fun arg40 k0_hw61 => k0_hw61.2
def k0_off71 (k0_t11 : Fin k0_t11_loop.trips) : Fin 1 → Nat :=
  let c28672_i32_313 : BitVec 32 := 28672#32
  let c0_i32_73 : BitVec 32 := 0#32
  let c1_i32_75 : BitVec 32 := 1#32
  let arg32 : BitVec 32 := Scf.iv c0_i32_73 c1_i32_75 k0_t11
  let c4_i32_310 : BitVec 32 := 4#32
  let v634 : BitVec 32 := Scalar.muli arg32 c4_i32_310
  let c1_i32_311 : BitVec 32 := 1#32
  let v635 : BitVec 32 := Scalar.addi v634 c1_i32_311
  let c16_i32_312 : BitVec 32 := 16#32
  let v636 : BitVec 32 := Scalar.muli v635 c16_i32_312
  let v637 : BitVec 32 := Scalar.addi c28672_i32_313 v636
  let v638 : Index := Scalar.indexCast v637
  ![v638.toNat]

def k0_chk62 (v631 : IVec S16 32) : Prop :=
  (∀ a x, ((![v631] : Fin 1 → IVec S16 32) a x).toNat < S8192.size a) ∧
  (∀ a x, ((![v631] : Fin 1 → IVec S16 32) a x).toNat < S8192.size a)
theorem k0_idx123_inb : ∀ (v631 : IVec S16 32) (k0_hw62 : k0_chk62 v631), ∀ a x, ((![v631] : Fin 1 → IVec S16 32) a x).toNat < S8192.size a := fun v631 k0_hw62 => k0_hw62.1
theorem k0_idx124_inb : ∀ (v631 : IVec S16 32) (k0_hw62 : k0_chk62 v631), ∀ a x, ((![v631] : Fin 1 → IVec S16 32) a x).toNat < S8192.size a := fun v631 k0_hw62 => k0_hw62.2
def k0_off72 (k0_t11 : Fin k0_t11_loop.trips) : Fin 1 → Nat :=
  let c28672_i32_321 : BitVec 32 := 28672#32
  let c0_i32_73 : BitVec 32 := 0#32
  let c1_i32_75 : BitVec 32 := 1#32
  let arg32 : BitVec 32 := Scf.iv c0_i32_73 c1_i32_75 k0_t11
  let c4_i32_318 : BitVec 32 := 4#32
  let v650 : BitVec 32 := Scalar.muli arg32 c4_i32_318
  let c2_i32_319 : BitVec 32 := 2#32
  let v651 : BitVec 32 := Scalar.addi v650 c2_i32_319
  let c16_i32_320 : BitVec 32 := 16#32
  let v652 : BitVec 32 := Scalar.muli v651 c16_i32_320
  let v653 : BitVec 32 := Scalar.addi c28672_i32_321 v652
  let v654 : Index := Scalar.indexCast v653
  ![v654.toNat]

def k0_chk63 (v647 : IVec S16 32) : Prop :=
  (∀ a x, ((![v647] : Fin 1 → IVec S16 32) a x).toNat < S8192.size a) ∧
  (∀ a x, ((![v647] : Fin 1 → IVec S16 32) a x).toNat < S8192.size a)
theorem k0_idx125_inb : ∀ (v647 : IVec S16 32) (k0_hw63 : k0_chk63 v647), ∀ a x, ((![v647] : Fin 1 → IVec S16 32) a x).toNat < S8192.size a := fun v647 k0_hw63 => k0_hw63.1
theorem k0_idx126_inb : ∀ (v647 : IVec S16 32) (k0_hw63 : k0_chk63 v647), ∀ a x, ((![v647] : Fin 1 → IVec S16 32) a x).toNat < S8192.size a := fun v647 k0_hw63 => k0_hw63.2
def k0_off73 (k0_t11 : Fin k0_t11_loop.trips) : Fin 1 → Nat :=
  let c28672_i32_329 : BitVec 32 := 28672#32
  let c0_i32_73 : BitVec 32 := 0#32
  let c1_i32_75 : BitVec 32 := 1#32
  let arg32 : BitVec 32 := Scf.iv c0_i32_73 c1_i32_75 k0_t11
  let c4_i32_326 : BitVec 32 := 4#32
  let v666 : BitVec 32 := Scalar.muli arg32 c4_i32_326
  let c3_i32_327 : BitVec 32 := 3#32
  let v667 : BitVec 32 := Scalar.addi v666 c3_i32_327
  let c16_i32_328 : BitVec 32 := 16#32
  let v668 : BitVec 32 := Scalar.muli v667 c16_i32_328
  let v669 : BitVec 32 := Scalar.addi c28672_i32_329 v668
  let v670 : Index := Scalar.indexCast v669
  ![v670.toNat]

def k0_chk64 (v663 : IVec S16 32) : Prop :=
  (∀ a x, ((![v663] : Fin 1 → IVec S16 32) a x).toNat < S8192.size a) ∧
  (∀ a x, ((![v663] : Fin 1 → IVec S16 32) a x).toNat < S8192.size a)
theorem k0_idx127_inb : ∀ (v663 : IVec S16 32) (k0_hw64 : k0_chk64 v663), ∀ a x, ((![v663] : Fin 1 → IVec S16 32) a x).toNat < S8192.size a := fun v663 k0_hw64 => k0_hw64.1
theorem k0_idx128_inb : ∀ (v663 : IVec S16 32) (k0_hw64 : k0_chk64 v663), ∀ a x, ((![v663] : Fin 1 → IVec S16 32) a x).toNat < S8192.size a := fun v663 k0_hw64 => k0_hw64.2
def k0_cond4 (k0_t9 : Fin k0_t9_loop.trips) : BitVec 1 :=
  let c0_i32_28 : BitVec 32 := 0#32
  let c1_i32_30 : BitVec 32 := 1#32
  let arg15 : BitVec 32 := Scf.iv c0_i32_28 c1_i32_30 k0_t9
  let c7_i32_85 : BitVec 32 := 7#32
  let v167 : BitVec 1 := Scalar.cmpi .slt arg15 c7_i32_85
  let v168 : BitVec 32 := Scalar.extui v167
  let c0_i32_86 : BitVec 32 := 0#32
  let v169 : BitVec 1 := Scalar.cmpi .ne v168 c0_i32_86
  v169

def k0_off74 (i : grid0.Coords) (k0_t1 : Fin k0_t1_loop.trips) (k0_t9 : Fin k0_t9_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c2_i32_87 : BitVec 32 := 2#32
  let c0_i32_28 : BitVec 32 := 0#32
  let c1_i32_30 : BitVec 32 := 1#32
  let arg15 : BitVec 32 := Scf.iv c0_i32_28 c1_i32_30 k0_t9
  let v170 : BitVec 32 := Scalar.muli c2_i32_87 arg15
  let c3_i32 : BitVec 32 := 3#32
  let v171 : BitVec 32 := Scalar.addi v170 c3_i32
  let c32768_i32_88 : BitVec 32 := 32768#32
  let v172 : BitVec 32 := Scalar.muli v171 c32768_i32_88
  ![v9.toNat, v172.toNat]
@[reducible] def k0_t12_loop : Scf.Loop 32 :=
  let c0_i32_47 : BitVec 32 := 0#32
  let c32_i32 : BitVec 32 := 32#32
  let v115 : BitVec 32 := Scalar.addi c0_i32_47 c32_i32
  let c1_i32_48 : BitVec 32 := 1#32
  ⟨c0_i32_47, v115, c1_i32_48⟩
def k0_off75 (k0_t12 : Fin k0_t12_loop.trips) (c0_i32_58 : BitVec 32) : Fin 1 → Nat :=
  let c0_i32_47 : BitVec 32 := 0#32
  let c1_i32_48 : BitVec 32 := 1#32
  let arg15 : BitVec 32 := Scf.iv c0_i32_47 c1_i32_48 k0_t12
  let c16_i32 : BitVec 32 := 16#32
  let v136 : BitVec 32 := Scalar.muli arg15 c16_i32
  let v137 : BitVec 32 := Scalar.addi v136 c0_i32_58
  let c16_i32_59 : BitVec 32 := 16#32
  let v138 : BitVec 32 := Scalar.muli v137 c16_i32_59
  let v139 : Index := Scalar.indexCast v138
  ![v139.toNat]
@[reducible] def k0_t13_loop : Scf.Loop 32 :=
  let c0_i32_146 : BitVec 32 := 0#32
  let c6_i32_147 : BitVec 32 := 6#32
  let v1176 : BitVec 32 := Scalar.addi c0_i32_146 c6_i32_147
  let c1_i32_148 : BitVec 32 := 1#32
  ⟨c0_i32_146, v1176, c1_i32_148⟩
def k0_off76 (k0_t13 : Fin k0_t13_loop.trips) (c0_i32_152 : BitVec 32) (c0_i32_154 : BitVec 32) : Fin 1 → Nat :=
  let c32_i32_150 : BitVec 32 := 32#32
  let c0_i32_146 : BitVec 32 := 0#32
  let c1_i32_148 : BitVec 32 := 1#32
  let arg17 : BitVec 32 := Scf.iv c0_i32_146 c1_i32_148 k0_t13
  let v1178 : BitVec 32 := Scalar.shrsi c32_i32_150 arg17
  let c1_i32_151 : BitVec 32 := 1#32
  let v1179 : BitVec 32 := Scalar.subi v1178 c1_i32_151
  let c_m1_i32 : BitVec 32 := 4294967295#32
  let v1180 : BitVec 32 := Scalar.xori v1179 c_m1_i32
  let v1181 : BitVec 32 := Scalar.andi c0_i32_152 v1180
  let c1_i32_153 : BitVec 32 := 1#32
  let v1182 : BitVec 32 := Scalar.shli v1181 c1_i32_153
  let v1183 : BitVec 32 := Scalar.andi c0_i32_154 v1179
  let v1184 : BitVec 32 := Scalar.ori v1182 v1183
  let c16_i32_155 : BitVec 32 := 16#32
  let v1185 : BitVec 32 := Scalar.muli v1184 c16_i32_155
  let v1188 : Index := Scalar.indexCast v1185
  ![v1188.toNat]
def k0_off76_at (r : Fin 32) : BitVec 32 × BitVec 32 :=
  if r.val < 16 then
    if r.val < 8 then
      if r.val < 4 then
        if r.val < 2 then
          if r.val < 1 then
            (0#32, 0#32)
          else
            (1#32, 1#32)
        else
          if r.val < 3 then
            (2#32, 2#32)
          else
            (3#32, 3#32)
      else
        if r.val < 6 then
          if r.val < 5 then
            (4#32, 4#32)
          else
            (5#32, 5#32)
        else
          if r.val < 7 then
            (6#32, 6#32)
          else
            (7#32, 7#32)
    else
      if r.val < 12 then
        if r.val < 10 then
          if r.val < 9 then
            (8#32, 8#32)
          else
            (9#32, 9#32)
        else
          if r.val < 11 then
            (10#32, 10#32)
          else
            (11#32, 11#32)
      else
        if r.val < 14 then
          if r.val < 13 then
            (12#32, 12#32)
          else
            (13#32, 13#32)
        else
          if r.val < 15 then
            (14#32, 14#32)
          else
            (15#32, 15#32)
  else
    if r.val < 24 then
      if r.val < 20 then
        if r.val < 18 then
          if r.val < 17 then
            (16#32, 16#32)
          else
            (17#32, 17#32)
        else
          if r.val < 19 then
            (18#32, 18#32)
          else
            (19#32, 19#32)
      else
        if r.val < 22 then
          if r.val < 21 then
            (20#32, 20#32)
          else
            (21#32, 21#32)
        else
          if r.val < 23 then
            (22#32, 22#32)
          else
            (23#32, 23#32)
    else
      if r.val < 28 then
        if r.val < 26 then
          if r.val < 25 then
            (24#32, 24#32)
          else
            (25#32, 25#32)
        else
          if r.val < 27 then
            (26#32, 26#32)
          else
            (27#32, 27#32)
      else
        if r.val < 30 then
          if r.val < 29 then
            (28#32, 28#32)
          else
            (29#32, 29#32)
        else
          if r.val < 31 then
            (30#32, 30#32)
          else
            (31#32, 31#32)
def k0_off77 (k0_t13 : Fin k0_t13_loop.trips) (c0_i32_152 : BitVec 32) (c0_i32_154 : BitVec 32) : Fin 1 → Nat :=
  let c32_i32_150 : BitVec 32 := 32#32
  let c0_i32_146 : BitVec 32 := 0#32
  let c1_i32_148 : BitVec 32 := 1#32
  let arg17 : BitVec 32 := Scf.iv c0_i32_146 c1_i32_148 k0_t13
  let v1178 : BitVec 32 := Scalar.shrsi c32_i32_150 arg17
  let c1_i32_151 : BitVec 32 := 1#32
  let v1179 : BitVec 32 := Scalar.subi v1178 c1_i32_151
  let c_m1_i32 : BitVec 32 := 4294967295#32
  let v1180 : BitVec 32 := Scalar.xori v1179 c_m1_i32
  let v1181 : BitVec 32 := Scalar.andi c0_i32_152 v1180
  let c1_i32_153 : BitVec 32 := 1#32
  let v1182 : BitVec 32 := Scalar.shli v1181 c1_i32_153
  let v1183 : BitVec 32 := Scalar.andi c0_i32_154 v1179
  let v1184 : BitVec 32 := Scalar.ori v1182 v1183
  let c16_i32_155 : BitVec 32 := 16#32
  let v1185 : BitVec 32 := Scalar.muli v1184 c16_i32_155
  let c16_i32_156 : BitVec 32 := 16#32
  let v1186 : BitVec 32 := Scalar.muli v1178 c16_i32_156
  let v1187 : BitVec 32 := Scalar.addi v1185 v1186
  let v1192 : Index := Scalar.indexCast v1187
  ![v1192.toNat]
def k0_off77_at (r : Fin 32) : BitVec 32 × BitVec 32 :=
  if r.val < 16 then
    if r.val < 8 then
      if r.val < 4 then
        if r.val < 2 then
          if r.val < 1 then
            (0#32, 0#32)
          else
            (1#32, 1#32)
        else
          if r.val < 3 then
            (2#32, 2#32)
          else
            (3#32, 3#32)
      else
        if r.val < 6 then
          if r.val < 5 then
            (4#32, 4#32)
          else
            (5#32, 5#32)
        else
          if r.val < 7 then
            (6#32, 6#32)
          else
            (7#32, 7#32)
    else
      if r.val < 12 then
        if r.val < 10 then
          if r.val < 9 then
            (8#32, 8#32)
          else
            (9#32, 9#32)
        else
          if r.val < 11 then
            (10#32, 10#32)
          else
            (11#32, 11#32)
      else
        if r.val < 14 then
          if r.val < 13 then
            (12#32, 12#32)
          else
            (13#32, 13#32)
        else
          if r.val < 15 then
            (14#32, 14#32)
          else
            (15#32, 15#32)
  else
    if r.val < 24 then
      if r.val < 20 then
        if r.val < 18 then
          if r.val < 17 then
            (16#32, 16#32)
          else
            (17#32, 17#32)
        else
          if r.val < 19 then
            (18#32, 18#32)
          else
            (19#32, 19#32)
      else
        if r.val < 22 then
          if r.val < 21 then
            (20#32, 20#32)
          else
            (21#32, 21#32)
        else
          if r.val < 23 then
            (22#32, 22#32)
          else
            (23#32, 23#32)
    else
      if r.val < 28 then
        if r.val < 26 then
          if r.val < 25 then
            (24#32, 24#32)
          else
            (25#32, 25#32)
        else
          if r.val < 27 then
            (26#32, 26#32)
          else
            (27#32, 27#32)
      else
        if r.val < 30 then
          if r.val < 29 then
            (28#32, 28#32)
          else
            (29#32, 29#32)
        else
          if r.val < 31 then
            (30#32, 30#32)
          else
            (31#32, 31#32)
def k0_off78 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2_i32_4 : BitVec 32 := 2#32
  let v8 : BitVec 32 := Scalar.muli v1 c2_i32_4
  let c0_i32_1 : BitVec 32 := 0#32
  let c1_i32 : BitVec 32 := 1#32
  let arg13 : BitVec 32 := Scf.iv c0_i32_1 c1_i32 k0_t1
  let v9 : BitVec 32 := Scalar.addi v8 arg13
  let c0_i32_51_r0 : BitVec 32 := 0#32
  ![v9.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x32768x16 : Shape := ⟨3, ![64, 32768, 16]⟩
abbrev S64x16x32768 : Shape := ⟨3, ![64, 16, 32768]⟩
abbrev S64x16x64 : Shape := ⟨3, ![64, 16, 64]⟩
abbrev S64x64x16 : Shape := ⟨3, ![64, 64, 16]⟩

abbrev nBuf : Space → Nat
  | .hbm => 6
  | .vmem => 0
  | .smem => 0
  | _ => 0

abbrev bufTy : (tb : Table) → Fin (tcTables nBuf tb) → BufTy
  | .hbm, ⟨0, _⟩ => ⟨S64x32768x16, .f32⟩
  | .hbm, ⟨1, _⟩ => ⟨S64x16x32768, .f32⟩
  | .hbm, ⟨2, _⟩ => ⟨S64x16x64, .f32⟩
  | .hbm, ⟨3, _⟩ => ⟨S64x16x64, .i32⟩
  | .hbm, ⟨4, _⟩ => ⟨S64x64x16, .f32⟩
  | .hbm, ⟨5, _⟩ => ⟨S64x64x16, .i32⟩
  | _, _ => ⟨S64x32768x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Base.lean ====
/-
  The setting of the run: the program as its launch theorem sees it, the resource algebra, and the
  assertion "this memory reference holds these contents" with the steps a task takes on it.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb

instance EH_landsIn : (EH : Emb UH 𝕄).LandsIn (upEmb : UEmb _ 𝕄) := by unfold EH; infer_instance

abbrev EC : UEmb Counters 𝕄 := countersEmb

/-! ## A reference holding contents -/

variable [FloatOps F] {c : Thread nD τ} {α : Type}

/-- A position among sixteen lanes. -/
abbrev S16v : Shape := S16

/-- Memory reference `M` of `n` words is held outright, its word `p` being `g p`. -/
def own (c : Thread nD τ) {n : ℕ} {sp : Space} {e : EltTy} (M : Memref sig c.2.kind sp ⟨1, ![n]⟩ e) (g : ℕ → Elt F e) : sProp 𝕄 :=
  iprop(∃ f : Buf (Elt F) (M.view.loc c), ⌜∀ x, M.view.read (Elt F) f x = g (x 0).val⌝ ∗ (M.view.loc c ↦[M.view.set]{fullShare} f))

/-- Lane `k` (taken modulo sixteen). -/
def ln (k : ℕ) : S16.Idx := fun a => ⟨k % 16, by obtain rfl : a = 0 := Subsingleton.elim _ _; exact Nat.mod_lt _ (by decide)⟩

theorem ln_val (i : S16.Idx) : ln (i 0).val = i := by
  funext a; obtain rfl : a = 0 := Subsingleton.elim _ _
  exact Fin.ext (Nat.mod_eq_of_lt (i 0).isLt)

/-- The contents after sixteen words `v` are put at `o`. -/
def put {β : Type} (g : ℕ → β) (o : ℕ) (v : S16.Idx → β) : ℕ → β :=
  fun p => if o ≤ p ∧ p < o + 16 then v (ln (p - o)) else g p

/-- Sixteen words read at `o`. -/
def get {β : Type} (g : ℕ → β) (o : ℕ) : S16.Idx → β := fun i => g (o + (i 0).val)

variable {n : ℕ} {e : EltTy} {M : Memref sig c.2.kind .vmem ⟨1, ![n]⟩ e}
variable {Q : α → sProp (MT nD τ sig (HIx 1) (Elt F) ℕ UU ℕ)}

theorem read_access {r : Rect ⟨1, ![n]⟩} (f : Buf (Elt F) (M.view.loc c)) (i : r.shape.Idx) :
    (M.access r).read (Elt F) f i = M.view.read (Elt F) f (r.emb i) := rfl

/-- Loading sixteen words at `o` of a held reference. -/
theorem wp_own_load {bd : Option 𝒱₀.V} {off : Fin 1 → ℕ} {inb : ∀ a, off a + S16.size a ≤ (⟨1, ![n]⟩ : Shape).size a}
    {hl : M.view.LoadsAt (Rect.unit (s := ⟨1, ![n]⟩) off S16.size inb).toLoadRect}
    {k : Vec F S16 e → Prog (TpuEff nD τ sig (Elt F) Λ₀ c.2) α} {g : ℕ → Elt F e} :
    own c M g ⊢ iprop((own c M g -∗ wp frame (wpE (defs₀ (F := F)) 𝒱₀ c bd) Set.univ (k (get g (off 0))) Q)
      -∗ wp frame (wpE (defs₀ (F := F)) 𝒱₀ c bd) Set.univ (.op (.load M (Rect.unit (s := ⟨1, ![n]⟩) off S16.size inb).toLoadRect hl) k) Q) := by
  unfold own
  iintro ⟨%f, %hf, H⟩ Hk
  iapply (wp_load_rect 𝒱₀ c bd Set.univ (m := M) (r := Rect.unit (s := ⟨1, ![n]⟩) off S16.size inb) (S := M.view.set) (f := f)
    (View.set_slice_subset _ _)) $$ H
  iintro H
  have he : (M.access (Rect.unit (s := ⟨1, ![n]⟩) off S16.size inb)).read (Elt F) f = get g (off 0) := by
    funext i
    refine (read_access f i).trans ((hf _).trans ?_)
    unfold get
    congr 1
    show off 0 + 1 * (i 0).val = _
    omega
  rw [he]
  iapply Hk
  iexists f
  isplitr
  · ipureintro; exact hf
  · iexact H

/-- Storing sixteen words at `o` of a held reference. -/
theorem wp_own_store {bd : Option 𝒱₀.V} {off : Fin 1 → ℕ} {inb : ∀ a, off a + S16.size a ≤ (⟨1, ![n]⟩ : Shape).size a}
    {w : Vec F S16 e} {hx : (M.access (Rect.unit (s := ⟨1, ![n]⟩) off S16.size inb)).Stores Finset.univ} {hm}
    {k : PUnit → Prog (TpuEff nD τ sig (Elt F) Λ₀ c.2) α} {g : ℕ → Elt F e} :
    own c M g ⊢ iprop((own c M (put g (off 0) w) -∗ wp frame (wpE (defs₀ (F := F)) 𝒱₀ c bd) Set.univ (k ⟨⟩) Q)
      -∗ wp frame (wpE (defs₀ (F := F)) 𝒱₀ c bd) Set.univ (.op (.store M (Rect.unit (s := ⟨1, ![n]⟩) off S16.size inb) w Finset.univ hx hm) k) Q) := by
  unfold own
  iintro ⟨%f, %hf, H⟩ Hk
  iapply (wp_store 𝒱₀ c bd Set.univ (m := M) (r := Rect.unit (s := ⟨1, ![n]⟩) off S16.size inb) (S := M.view.set) (f := f) (Mk := Finset.univ)
    (View.set_slice_subset _ _)) $$ H
  iintro H
  iapply Hk
  iexists _
  isplitr
  · ipureintro
    intro x
    unfold put
    by_cases h : off 0 ≤ (x 0).val ∧ (x 0).val < off 0 + 16
    · rw [if_pos h]
      have hx : x = (Rect.unit (s := ⟨1, ![n]⟩) off S16.size inb).emb (ln ((x 0).val - off 0)) := by
        funext a
        obtain rfl : a = 0 := Subsingleton.elim _ _
        apply Fin.ext
        show (x 0).val = off 0 + 1 * (((x 0).val - off 0) % 16)
        omega
      conv_lhs => rw [hx]
      exact View.read_write_of_mem (v := M.access (Rect.unit (s := ⟨1, ![n]⟩) off S16.size inb)) (Val := Elt F) f w (Finset.mem_univ _)
    · rw [if_neg h]
      refine Eq.trans ?_ (hf x)
      simp only [View.read_apply]
      congr 1
      refine View.write_of_not_mem _ _ _ ?_
      rw [View.setOn_univ, View.set_slice]
      intro hmem
      obtain ⟨y, hy, hyx⟩ := Finset.mem_map.mp hmem
      obtain rfl := M.view.emb.injective hyx
      exact h (Rect.mem_set_unit.mp hy 0)
  · iexact H

end Cert.Proof.Run

end
-- ==== Proof.Clean.lean ====
/-
  The kernel's straight-line bodies as short recursive programs: a row of maxima, a trip of the compaction,
  the block sort with its merge, one stage of the final merge. Each is the printed body by unfolding (`Shape.lean`).
-/
module

public import proofs.«01_k».proof.Proof.Base

@[expose] public section
noncomputable section
namespace Cert.Proof.Run
open Cert.KernelIdeal Cert.KernelIdeal.Gen
open Idealize.ShloMosaic
open Idealize.SL Idealize.SL.Sem

variable {F : FTy → Type} [FloatOps F]

/-- Place of one load of a trip: its offset and the proof that sixteen words fit there. -/
abbrev Off (n : ℕ) : Type := { o : Fin 1 → ℕ // ∀ a, o a + S16.size a ≤ (⟨1, ![n]⟩ : Shape).size a }

section
variable {p : Proc τ} {β : Type}

/-- The lanes that keep the loaded words. -/
def itMask (t v : FVec F S16 .f32) (lim : BitVec 32) (a : IVec S16 32) : IVec S16 1 :=
  andi (cmpf .oge v t) (cmpi .slt a (broadcast S16 lim))
/-- The next position of each lane. -/
def itAddr (t v : FVec F S16 .f32) (lim : BitVec 32) (a : IVec S16 32) : IVec S16 32 :=
  addi a (select (itMask t v lim a) (broadcast S16 16#32) (broadcast S16 0#32))
/-- The next row number. -/
def itRow (n : IVec S16 32) : IVec S16 32 := addi n (broadcast S16 1#32)

/-- Check a vector of positions. -/
def chk (a : IVec S16 32) (k : k0_chk1 a → Prog (TpuEff nD τ sig (Elt F) Λ₀ p) β) : Prog (TpuEff nD τ sig (Elt F) Λ₀ p) β :=
  .op (TpuEff.assume (k0_chk1 a) (k0_chk1.dec a)) fun h => k h.down

/-- The rows of one stream of one trip, each loaded, compared and scattered. -/
def items (bf : Memref sig p.kind .vmem S32768 .f32) (cv : Memref sig p.kind .vmem S8192 .f32) (ci : Memref sig p.kind .vmem S8192 .i32)
    (t : FVec F S16 .f32) (lim : BitVec 32) (K : IVec S16 32 → IVec S16 32 → Prog (TpuEff nD τ sig (Elt F) Λ₀ p) β) :
    List (Off 32768) → (a n : IVec S16 32) → k0_chk1 a → Prog (TpuEff nD τ sig (Elt F) Λ₀ p) β
  | [], a, n, _ => K a n
  | [o], a, n, h =>
    .op (.load bf (Rect.unit (s := S32768) o.1 S16.size o.2).toLoadRect (View.loadsAt_vmem h_S16)) fun v =>
    SparseCore.vectorStoreIdx cv ![a] v (itMask t v lim a) false h.1 (View.stores_vmem_bits_univ h_S8192 rfl) >>= fun _ =>
    SparseCore.vectorStoreIdx ci ![a] n (itMask t v lim a) false h.1 (View.stores_vmem_bits_univ h_S8192 rfl) >>= fun _ =>
    K (itAddr t v lim a) (itRow n)
  | o :: o' :: os, a, n, h =>
    .op (.load bf (Rect.unit (s := S32768) o.1 S16.size o.2).toLoadRect (View.loadsAt_vmem h_S16)) fun v =>
    SparseCore.vectorStoreIdx cv ![a] v (itMask t v lim a) false h.1 (View.stores_vmem_bits_univ h_S8192 rfl) >>= fun _ =>
    SparseCore.vectorStoreIdx ci ![a] n (itMask t v lim a) false h.1 (View.stores_vmem_bits_univ h_S8192 rfl) >>= fun _ =>
    chk (itAddr t v lim a) fun h' => items bf cv ci t lim K (o' :: os) (itAddr t v lim a) (itRow n) h'

/-- Eight positions and eight row numbers. -/
abbrev St8 : Type := IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32 × IVec S16 32

/-- One trip of the compaction: every stream's position is checked, then the eight streams' rows are taken in order. -/
def tripC (bf : Memref sig p.kind .vmem S32768 .f32) (cv : Memref sig p.kind .vmem S8192 .f32) (ci : Memref sig p.kind .vmem S8192 .i32)
    (t : FVec F S16 .f32) (o : Fin 8 → List (Off 32768)) : St8 → Prog (TpuEff nD τ sig (Elt F) Λ₀ p) St8 :=
  fun (a0, a1, a2, a3, a4, a5, a6, a7, n0, n1, n2, n3, n4, n5, n6, n7) =>
    chk a7 fun h7 =>
    chk a6 fun h6 =>
    chk a5 fun h5 =>
    chk a4 fun h4 =>
    chk a3 fun h3 =>
    chk a2 fun h2 =>
    chk a1 fun h1 =>
    chk a0 fun h0 =>
    items bf cv ci t 1024#32 (fun b0 m0 =>
    items bf cv ci t 2048#32 (fun b1 m1 =>
    items bf cv ci t 3072#32 (fun b2 m2 =>
    items bf cv ci t 4096#32 (fun b3 m3 =>
    items bf cv ci t 5120#32 (fun b4 m4 =>
    items bf cv ci t 6144#32 (fun b5 m5 =>
    items bf cv ci t 7168#32 (fun b6 m6 =>
    items bf cv ci t 8192#32 (fun b7 m7 =>
    .ret (b0, b1, b2, b3, b4, b5, b6, b7, m0, m1, m2, m3, m4, m5, m6, m7)
    ) (o 7) a7 n7 h7
    ) (o 6) a6 n6 h6
    ) (o 5) a5 n5 h5
    ) (o 4) a4 n4 h4
    ) (o 3) a3 n3 h3
    ) (o 2) a2 n2 h2
    ) (o 1) a1 n1 h1
    ) (o 0) a0 n0 h0
/-- Places of a trip's rows, by stream. -/
def offs10 (k0_t10 : Fin k0_t10_loop.trips) : Fin 8 → List (Off 32768) :=
  ![[⟨k0_off9 k0_t10, k0_off9_inb k0_t10⟩, ⟨k0_off10 k0_t10, k0_off10_inb k0_t10⟩, ⟨k0_off11 k0_t10, k0_off11_inb k0_t10⟩, ⟨k0_off12 k0_t10, k0_off12_inb k0_t10⟩],
    [⟨k0_off13 k0_t10, k0_off13_inb k0_t10⟩, ⟨k0_off14 k0_t10, k0_off14_inb k0_t10⟩, ⟨k0_off15 k0_t10, k0_off15_inb k0_t10⟩, ⟨k0_off16 k0_t10, k0_off16_inb k0_t10⟩],
    [⟨k0_off17 k0_t10, k0_off17_inb k0_t10⟩, ⟨k0_off18 k0_t10, k0_off18_inb k0_t10⟩, ⟨k0_off19 k0_t10, k0_off19_inb k0_t10⟩, ⟨k0_off20 k0_t10, k0_off20_inb k0_t10⟩],
    [⟨k0_off21 k0_t10, k0_off21_inb k0_t10⟩, ⟨k0_off22 k0_t10, k0_off22_inb k0_t10⟩, ⟨k0_off23 k0_t10, k0_off23_inb k0_t10⟩, ⟨k0_off24 k0_t10, k0_off24_inb k0_t10⟩],
    [⟨k0_off25 k0_t10, k0_off25_inb k0_t10⟩, ⟨k0_off26 k0_t10, k0_off26_inb k0_t10⟩, ⟨k0_off27 k0_t10, k0_off27_inb k0_t10⟩, ⟨k0_off28 k0_t10, k0_off28_inb k0_t10⟩],
    [⟨k0_off29 k0_t10, k0_off29_inb k0_t10⟩, ⟨k0_off30 k0_t10, k0_off30_inb k0_t10⟩, ⟨k0_off31 k0_t10, k0_off31_inb k0_t10⟩, ⟨k0_off32 k0_t10, k0_off32_inb k0_t10⟩],
    [⟨k0_off33 k0_t10, k0_off33_inb k0_t10⟩, ⟨k0_off34 k0_t10, k0_off34_inb k0_t10⟩, ⟨k0_off35 k0_t10, k0_off35_inb k0_t10⟩, ⟨k0_off36 k0_t10, k0_off36_inb k0_t10⟩],
    [⟨k0_off37 k0_t10, k0_off37_inb k0_t10⟩, ⟨k0_off38 k0_t10, k0_off38_inb k0_t10⟩, ⟨k0_off39 k0_t10, k0_off39_inb k0_t10⟩, ⟨k0_off40 k0_t10, k0_off40_inb k0_t10⟩]]

/-- Four running maxima. -/
abbrev V4 (F : FTy → Type) : Type := FVec F S16 .f32 × FVec F S16 .f32 × FVec F S16 .f32 × FVec F S16 .f32

/-- Rows loaded in turn, the four running maxima taking them in rotation. -/
def rowMax (bf : Memref sig p.kind .vmem S32768 .f32) (K : V4 F → Prog (TpuEff nD τ sig (Elt F) Λ₀ p) β) :
    List (Off 32768) → V4 F → Prog (TpuEff nD τ sig (Elt F) Λ₀ p) β
  | [], s => K s
  | o :: os, (a, b, c, d) =>
    .op (.load bf (Rect.unit (s := S32768) o.1 S16.size o.2).toLoadRect (View.loadsAt_vmem h_S16)) fun v =>
    rowMax bf K os (b, c, d, maximumf a v)

/-- Places of the rows one trip of the maxima reads. -/
def offs3 (g : Fin k0_t3_loop.trips) (j : Fin k0_t4_loop.trips) : List (Off 32768) :=
  (List.finRange 32).map fun u => ⟨_, k0_off3_inb g j u⟩

/-! ## Entries, each a value with its row number, sixteen lanes at a time -/

/-- Sixteen entries. -/
abbrev PV (F : FTy → Type) : Type := FVec F S16 .f32 × IVec S16 32

/-- The lanes where the first entry comes before the second: greater, or equal with the lesser number. -/
def gtV (a b : PV F) : IVec S16 1 := ori (cmpf .ogt a.1 b.1) (andi (cmpf .oeq a.1 b.1) (cmpi .slt a.2 b.2))
/-- The earlier entries. -/
def hiV (a b : PV F) : PV F := (select (gtV a b) a.1 b.1, select (gtV a b) a.2 b.2)
/-- The later entries. -/
def loV (a b : PV F) : PV F := (select (gtV a b) b.1 a.1, select (gtV a b) b.2 a.2)

/-- `2 ^ n` things, as a tree of pairs. -/
def Tr (α : Type) : ℕ → Type
  | 0 => α
  | n + 1 => Tr α n × Tr α n

/-- Two trees exchanged place by place: `h` of each pair goes left, `l` of it goes right. -/
def hcT {α : Type} (h l : α → α → α) : (n : ℕ) → Tr α n → Tr α n → Tr α n × Tr α n
  | 0, a, b => (h a b, l a b)
  | n + 1, a, b => (((hcT h l n a.1 b.1).1, (hcT h l n a.2 b.2).1), ((hcT h l n a.1 b.1).2, (hcT h l n a.2 b.2).2))

/-- The merge of a tree: its halves exchanged, then each half merged. -/
def mrgT {α : Type} (h l : α → α → α) : (n : ℕ) → Tr α n → Tr α n
  | 0, t => t
  | n + 1, t => (mrgT h l n (hcT h l n t.1 t.2).1, mrgT h l n (hcT h l n t.1 t.2).2)

/-- The sort of a tree: the left half sorted one way, the right half the other, the whole merged. -/
def srtT {α : Type} (h l : α → α → α) (w : Bool) : (n : ℕ) → Tr α n → Tr α n
  | 0, t => t
  | n + 1, t => bif w then mrgT h l (n + 1) (srtT h l true n t.1, srtT h l false n t.2) else mrgT l h (n + 1) (srtT h l true n t.1, srtT h l false n t.2)

/-- A tree's rows are loaded in turn from places `u, u + 1, …`. -/
def loadsC (cv : Memref sig p.kind .vmem S8192 .f32) (ci : Memref sig p.kind .vmem S8192 .i32) (o : ℕ → Off 8192) :
    (n : ℕ) → ℕ → (Tr (PV F) n → Prog (TpuEff nD τ sig (Elt F) Λ₀ p) β) → Prog (TpuEff nD τ sig (Elt F) Λ₀ p) β
  | 0, u, K =>
    .op (.load cv (Rect.unit (s := S8192) (o u).1 S16.size (o u).2).toLoadRect (View.loadsAt_vmem h_S16)) fun v =>
    .op (.load ci (Rect.unit (s := S8192) (o u).1 S16.size (o u).2).toLoadRect (View.loadsAt_vmem h_S16)) fun w => K (v, w)
  | n + 1, u, K => loadsC cv ci o n u fun l => loadsC cv ci o n (u + 2 ^ n) fun r => K (l, r)

/-- Sixteen words stored, after a load of what they replace. -/
def putC {n : ℕ} {e : EltTy} (M : Memref sig p.kind .vmem ⟨1, ![n]⟩ e) (he : e.bits = 32) (o : Off n) (w : Vec F S16 e) (K : Prog (TpuEff nD τ sig (Elt F) Λ₀ p) β) :
    Prog (TpuEff nD τ sig (Elt F) Λ₀ p) β :=
  .op (.load M (Rect.unit (s := ⟨1, ![n]⟩) o.1 S16.size o.2).toLoadRect (View.loadsAt_vmem h_S16)) fun _ =>
  .op (.store M (Rect.unit (s := ⟨1, ![n]⟩) o.1 S16.size o.2) w Finset.univ (View.stores_vmem_bits_univ h_S16 he) (.inl rfl)) fun _ => K

/-- The merge of a tree into rows of the result: the tree's last entries against the places `u, u + 1, …`. -/
def mergesC (rv : Memref sig p.kind .vmem S1024 .f32) (ri : Memref sig p.kind .vmem S1024 .i32) (o : ℕ → Off 1024) :
    (n : ℕ) → ℕ → Tr (PV F) n → Prog (TpuEff nD τ sig (Elt F) Λ₀ p) β → Prog (TpuEff nD τ sig (Elt F) Λ₀ p) β
  | 0, u, t, K =>
    .op (.load rv (Rect.unit (s := S1024) (o u).1 S16.size (o u).2).toLoadRect (View.loadsAt_vmem h_S16)) fun v =>
    .op (.load ri (Rect.unit (s := S1024) (o u).1 S16.size (o u).2).toLoadRect (View.loadsAt_vmem h_S16)) fun w =>
    putC rv rfl (o u) (hiV (v, w) t).1 <| putC ri rfl (o u) (hiV (v, w) t).2 K
  | n + 1, u, t, K => mergesC rv ri o n u t.2 (mergesC rv ri o n (u + 2 ^ n) t.1 K)

/-- One stage of the final merge: exchanges between rows of the result. -/
def stageC (rv : Memref sig p.kind .vmem S1024 .f32) (ri : Memref sig p.kind .vmem S1024 .i32)
    (K : Prog (TpuEff nD τ sig (Elt F) Λ₀ p) β) : List (Off 1024 × Off 1024) → Prog (TpuEff nD τ sig (Elt F) Λ₀ p) β
  | [] => K
  | (o, o') :: os =>
    .op (.load rv (Rect.unit (s := S1024) o.1 S16.size o.2).toLoadRect (View.loadsAt_vmem h_S16)) fun v =>
    .op (.load ri (Rect.unit (s := S1024) o.1 S16.size o.2).toLoadRect (View.loadsAt_vmem h_S16)) fun w =>
    .op (.load rv (Rect.unit (s := S1024) o'.1 S16.size o'.2).toLoadRect (View.loadsAt_vmem h_S16)) fun v' =>
    .op (.load ri (Rect.unit (s := S1024) o'.1 S16.size o'.2).toLoadRect (View.loadsAt_vmem h_S16)) fun w' =>
    putC rv rfl o (hiV (v, w) (v', w')).1 <| putC ri rfl o (hiV (v, w) (v', w')).2 <|
    putC rv rfl o' (loV (v, w) (v', w')).1 <| putC ri rfl o' (loV (v, w) (v', w')).2 <|
    stageC rv ri K os

/-- Places of the exchanges of stage `s`. -/
def offs76 (s : Fin k0_t13_loop.trips) : List (Off 1024 × Off 1024) :=
  (List.finRange 32).map fun r => (⟨_, k0_off76_inb s r⟩, ⟨_, k0_off77_inb s r⟩)

/-- Places of a block's rows. -/
def offs75 (b : Fin k0_t12_loop.trips) (u : ℕ) : Off 8192 :=
  if h : u < 16 then ⟨_, k0_off75_inb b ⟨u, h⟩⟩ else ⟨_, k0_off75_inb b 0⟩

/-- Places of the last sixteen rows of the result. -/
def offsR (u : ℕ) : Off 1024 :=
  if h : u < 16 then ⟨![768 + 16 * u], fun a => by obtain rfl : a = 0 := Subsingleton.elim _ _; show 768 + 16 * u + 16 ≤ 1024; omega⟩
  else ⟨![0], fun a => by obtain rfl : a = 0 := Subsingleton.elim _ _; show 0 + 16 ≤ 1024; omega⟩

/-- A block of candidates, sorted and merged. -/
def blockC (cv : Memref sig p.kind .vmem S8192 .f32) (ci : Memref sig p.kind .vmem S8192 .i32)
    (rv : Memref sig p.kind .vmem S1024 .f32) (ri : Memref sig p.kind .vmem S1024 .i32) (b : Fin k0_t12_loop.trips) :
    Prog (TpuEff nD τ sig (Elt F) Λ₀ p) (BitVec 32) :=
  loadsC cv ci (offs75 b) 4 0 fun t => mergesC rv ri offsR 4 0 (srtT hiV loV true 4 t)
    (Scf.Loop.for k0_t13_loop k0_t13_ok 0#32 (fun s _ => stageC rv ri (.ret 0#32) (offs76 s)) >>= fun _ => .ret 0#32)

/-! ## The whole task -/

/-- Place of a segment in the input. -/
abbrev Off2 : Type := { o : Fin 2 → ℕ // ∀ a, o a + S1x32768.size a ≤ S64x524288.size a }
/-- Place of a batch's row in an output. -/
abbrev OffO : Type := { o : Fin 2 → ℕ // ∀ a, o a + S1x1024.size a ≤ S64x1024.size a }

/-- A segment of the input. -/
def inV {κ : Kind} (x : Memref sig κ .hbm S64x524288 .f32) (o : Off2) : Memref sig κ .hbm S32768 .f32 :=
  (x.slice (Rect.unit (s := S64x524288) o.1 S1x32768.size o.2) (fun _ => rfl)).squeeze S32768 squeezes_S1x32768_S32768
/-- A batch's row of an output. -/
def outV {κ : Kind} {e : EltTy} (x : Memref sig κ .hbm S64x1024 e) (o : OffO) : Memref sig κ .hbm S1024 e :=
  (x.slice (Rect.unit (s := S64x1024) o.1 S1x1024.size o.2) (fun _ => rfl)).squeeze S1024 squeezes_S1x1024_S1024

/-- The least of the segments' fourth greatest group maxima, updated by one group. -/
def stepV (s a : V4 F) : V4 F :=
  (k0_pay849 s.1 a.1 a.2.1 a.2.2.1 a.2.2.2, k0_pay851 s.1 s.2.1 a.1 a.2.1 a.2.2.1 a.2.2.2,
   k0_pay853 s.1 s.2.1 s.2.2.1 a.1 a.2.1 a.2.2.1 a.2.2.2, k0_pay854 s.1 s.2.1 s.2.2.1 s.2.2.2 a.1 a.2.1 a.2.2.1 a.2.2.2)

/-- The least value, four times. -/
def ninf4 : V4 F := (k0_pay1, k0_pay1, k0_pay1, k0_pay1)

/-- One group of rows: its four maxima enter the running four. -/
def grpC (bf : Memref sig p.kind .vmem S32768 .f32) (g : Fin k0_t3_loop.trips) (s : V4 F) : Prog (TpuEff nD τ sig (Elt F) Λ₀ p) (V4 F) :=
  Scf.Loop.for k0_t4_loop k0_t4_ok ninf4 (fun j a => rowMax bf .ret (offs3 g j) a) >>= fun a => .ret (stepV s a)

/-- The maxima of one segment. -/
def segC (bf : Memref sig p.kind .vmem S32768 .f32) : Prog (TpuEff nD τ sig (Elt F) Λ₀ p) (V4 F) :=
  Scf.Loop.for k0_t3_loop k0_t3_ok ninf4 (grpC bf)

/-- The compaction of one segment. -/
def compC (bf : Memref sig p.kind .vmem S32768 .f32) (cv : Memref sig p.kind .vmem S8192 .f32) (ci : Memref sig p.kind .vmem S8192 .i32)
    (t : FVec F S16 .f32) (s : St8) : Prog (TpuEff nD τ sig (Elt F) Λ₀ p) St8 :=
  Scf.Loop.for k0_t10_loop k0_t10_ok s (fun i s => tripC bf cv ci t (offs10 i) s)

/-- The row numbers move on to the next segment. -/
def bump : St8 → St8 := fun (a0, a1, a2, a3, a4, a5, a6, a7, n0, n1, n2, n3, n4, n5, n6, n7) =>
  (a0, a1, a2, a3, a4, a5, a6, a7, k0_pay211 n0, k0_pay211 n1, k0_pay211 n2, k0_pay211 n3, k0_pay211 n4, k0_pay211 n5, k0_pay211 n6, k0_pay211 n7)

/-- The first positions and row numbers. -/
def st8₀ : St8 :=
  let l : IVec S16 32 := iota .scVector S16 32 [0] iota_S16_d0_w32_scVector
  (k0_pay867 l, k0_pay868 l, k0_pay869 l, k0_pay870 l, k0_pay871 l, k0_pay872 l, k0_pay874 l k0_pay873, k0_pay875 l,
   k0_pay876 k0_pay3, k0_pay877 k0_pay3, k0_pay878 k0_pay3, k0_pay879 k0_pay3, k0_pay880 k0_pay3, k0_pay881 k0_pay3, k0_pay882 k0_pay3, k0_pay883 k0_pay3)

/-- The greatest position of a stream. -/
def mx (a : IVec S16 32) : BitVec 32 := extractAt ![15] (k0_pay895 a) inpos_S16_p15

/-- Whether block `b` holds a candidate. -/
def blkCond (b : Fin k0_t12_loop.trips) : St8 → BitVec 1 := fun (a0, a1, a2, a3, a4, a5, a6, a7, _) =>
  let n : BitVec 32 := Scf.iv 0#32 1#32 b
  let k : BitVec 32 := Scalar.shrsi n 2#32
  let m6 : BitVec 32 := Scalar.select (Scalar.cmpi .eq k 6#32) (mx a6) (mx a7)
  let m5 : BitVec 32 := Scalar.select (Scalar.cmpi .eq k 5#32) (mx a5) m6
  let m4 : BitVec 32 := Scalar.select (Scalar.cmpi .eq k 4#32) (mx a4) m5
  let m3 : BitVec 32 := Scalar.select (Scalar.cmpi .eq k 3#32) (mx a3) m4
  let m2 : BitVec 32 := Scalar.select (Scalar.cmpi .eq k 2#32) (mx a2) m3
  let m1 : BitVec 32 := Scalar.select (Scalar.cmpi .eq k 1#32) (mx a1) m2
  let m0 : BitVec 32 := Scalar.select (Scalar.cmpi .eq k 0#32) (mx a0) m1
  Scalar.cmpi .ne (w := 32) (Scalar.extui (Scalar.cmpi .sgt m0 (Scalar.muli n 256#32))) 0#32

/-- The rows of a pair of references filled. -/
def fillC {n : ℕ} (rv : Memref sig p.kind .vmem ⟨1, ![n]⟩ .f32) (ri : Memref sig p.kind .vmem ⟨1, ![n]⟩ .i32) (o : Off n) :
    Prog (TpuEff nD τ sig (Elt F) Λ₀ p) (BitVec 32) :=
  putC rv rfl o k0_pay1 <| putC ri rfl o k0_pay2 <| .ret 0#32

end

section
variable {β : Type} {a : Fin τ.nSC} {b : Fin τ.nSub}

/-- A segment's copy is started. -/
def startC (x : Memref sig .scVector .hbm S64x524288 .f32) (o : Off2) (bf : Memref sig .scVector .vmem S32768 .f32) (hb : bf.IsWhole) (sm : DmaSems sig S_)
    (K : Prog (TpuEff nD τ sig (Elt F) Λ₀ (.scVector a b)) β) : Prog (TpuEff nD τ sig (Elt F) Λ₀ (.scVector a b)) β :=
  .op (.enqueueDma (inV x o) (.here bf) (.dma sm.sem) ((View.wordExact_bits rfl).reshape _ _) hb.wordExact ⟨Or.inl rfl, trivial⟩) fun _ => K

/-- A segment's copy is waited for. -/
def waitC (x : Memref sig .scVector .hbm S64x524288 .f32) (bf : Memref sig .scVector .vmem S32768 .f32) (hb : bf.IsWhole) (sm : DmaSems sig S_)
    (K : Prog (TpuEff nD τ sig (Elt F) Λ₀ (.scVector a b)) β) : Prog (TpuEff nD τ sig (Elt F) Λ₀ (.scVector a b)) β :=
  .op (.waitDma2 sm.sem (inV x ⟨![0, 0], inb_S64x524288_S1x32768_0_0⟩) bf ((View.wordExact_bits rfl).reshape _ _) hb.wordExact) fun _ => K

/-- A segment's copy is started if there is a next one. -/
def nextC (x : Memref sig .scVector .hbm S64x524288 .f32) (c : Prop) [Decidable c] (o : c → Off2) (bf : Memref sig .scVector .vmem S32768 .f32) (hb : bf.IsWhole)
    (sm : DmaSems sig S_) (K : Prog (TpuEff nD τ sig (Elt F) Λ₀ (.scVector a b)) β) : Prog (TpuEff nD τ sig (Elt F) Λ₀ (.scVector a b)) β :=
  if h : c then startC x (o h) bf hb sm K else K

/-- A result is written out and waited for. -/
def outC {e : EltTy} (he : e.bits = 32) (M : Memref sig .scVector .vmem S1024 e) (hM : M.IsWhole) (y : Memref sig .scVector .hbm S64x1024 e) (o : OffO) (sm : DmaSems sig S_)
    (K : Prog (TpuEff nD τ sig (Elt F) Λ₀ (.scVector a b)) β) : Prog (TpuEff nD τ sig (Elt F) Λ₀ (.scVector a b)) β :=
  .op (.enqueueDma M (.here (outV y o)) (.dma sm.sem) hM.wordExact ((View.wordExact_bits he).reshape _ _) ⟨Or.inl rfl, trivial⟩) fun _ =>
  .op (.waitDma2 sm.sem M (outV y o) hM.wordExact ((View.wordExact_bits he).reshape _ _)) fun _ => K

end

section
variable (i : grid0.Coords) (arg2 : Memref sig .scVector .hbm S64x524288 .f32) (harg2 : arg2.IsWhole) (arg3 : Memref sig .scVector .hbm S64x1024 .f32) (harg3 : arg3.IsWhole) (arg4 : Memref sig .scVector .hbm S64x1024 .i32) (harg4 : arg4.IsWhole) (arg5 : Memref sig .scVector .vmem S32768 .f32) (harg5 : arg5.IsWhole) (arg6 : Memref sig .scVector .vmem S32768 .f32) (harg6 : arg6.IsWhole) (arg7 : Memref sig .scVector .vmem S8192 .f32) (harg7 : arg7.IsWhole) (arg8 : Memref sig .scVector .vmem S8192 .i32) (harg8 : arg8.IsWhole) (arg9 : Memref sig .scVector .vmem S1024 .f32) (harg9 : arg9.IsWhole) (arg10 : Memref sig .scVector .vmem S1024 .i32) (harg10 : arg10.IsWhole) (arg11 : DmaSems sig S_) (arg12 : DmaSems sig S_) (v117_r0 : DmaSems sig S_) (v117_r1 : DmaSems sig S_)

/-- The vector subcore a coordinate names. -/
abbrev prc (i : grid0.Coords) : Proc τ := .scVector ((i 0).castLE hcore0) ((i 1).castLE hsub0)

/-- Two segments' maxima, each segment's successor started after it. -/
def ph1C (k0_t1 : Fin k0_t1_loop.trips) (r : Fin k0_t2_loop.trips) (m : FVec F S16 .f32) : Prog (TpuEff nD τ sig (Elt F) Λ₀ (prc i)) (FVec F S16 .f32) :=
  waitC arg2 arg5 harg5 arg11 <| segC arg5 >>= fun s0 =>
  nextC arg2 (k0_cond1 r = 1#1) (fun h => ⟨k0_off4 i k0_t1 r, k0_off4_inb i k0_t1 r h⟩) arg5 harg5 arg11 <|
  waitC arg2 arg6 harg6 arg12 <| segC arg6 >>= fun s1 =>
  nextC arg2 (k0_cond2 r = 1#1) (fun h => ⟨k0_off6 i k0_t1 r, k0_off6_inb i k0_t1 r h⟩) arg6 harg6 arg12 <|
  .ret (k0_pay866 m s0.2.2.2 s1.2.2.2)

/-- Two segments' compaction, each segment's successor started after it. -/
def ph2C (k0_t1 : Fin k0_t1_loop.trips) (t : FVec F S16 .f32) (r : Fin k0_t9_loop.trips) (s : St8) : Prog (TpuEff nD τ sig (Elt F) Λ₀ (prc i)) St8 :=
  waitC arg2 arg5 harg5 arg11 <| compC arg5 arg7 arg8 t s >>= fun s0 =>
  nextC arg2 (k0_cond3 r = 1#1) (fun h => ⟨k0_off41 i k0_t1 r, k0_off41_inb i k0_t1 r h⟩) arg5 harg5 arg11 <|
  waitC arg2 arg6 harg6 arg12 <| compC arg6 arg7 arg8 t (bump s0) >>= fun s1 =>
  nextC arg2 (k0_cond4 r = 1#1) (fun h => ⟨k0_off74 i k0_t1 r, k0_off74_inb i k0_t1 r h⟩) arg6 harg6 arg12 <|
  .ret (bump s1)

/-- The blocks that hold a candidate are merged in turn. -/
def ph3C (s : St8) (b : Fin k0_t12_loop.trips) : Prog (TpuEff nD τ sig (Elt F) Λ₀ (prc i)) (BitVec 32) :=
  if blkCond b s = 1#1 then blockC arg7 arg8 arg9 arg10 b else .ret 0#32

/-- One batch. -/
def batchC (k0_t1 : Fin k0_t1_loop.trips) : Prog (TpuEff nD τ sig (Elt F) Λ₀ (prc i)) (BitVec 32) :=
  startC arg2 ⟨k0_off1 i k0_t1, k0_off1_inb i k0_t1⟩ arg5 harg5 arg11 <|
  startC arg2 ⟨k0_off2 i k0_t1, k0_off2_inb i k0_t1⟩ arg6 harg6 arg12 <|
  Scf.Loop.for k0_t2_loop k0_t2_ok k0_pay843 (ph1C i arg2 arg5 harg5 arg6 harg6 arg11 arg12 k0_t1) >>= fun t =>
  Scf.Loop.for k0_t7_loop k0_t7_ok 0#32 (fun r _ => fillC arg9 arg10 ⟨_, k0_off7_inb r⟩) >>= fun _ =>
  Scf.Loop.for k0_t8_loop k0_t8_ok 0#32 (fun r _ => fillC arg7 arg8 ⟨_, k0_off8_inb r⟩) >>= fun _ =>
  startC arg2 ⟨k0_off1 i k0_t1, k0_off1_inb i k0_t1⟩ arg5 harg5 arg11 <|
  startC arg2 ⟨k0_off2 i k0_t1, k0_off2_inb i k0_t1⟩ arg6 harg6 arg12 <|
  Scf.Loop.for k0_t9_loop k0_t9_ok st8₀ (ph2C i arg2 arg5 harg5 arg6 harg6 arg7 arg8 arg11 arg12 k0_t1 t) >>= fun s =>
  Scf.Loop.for k0_t12_loop k0_t12_ok 0#32 (fun b _ => ph3C i arg7 arg8 arg9 arg10 s b) >>= fun _ =>
  outC rfl arg9 harg9 arg3 ⟨_, k0_off78_inb i k0_t1⟩ v117_r0 <|
  outC rfl arg10 harg10 arg4 ⟨_, k0_off78_inb i k0_t1⟩ v117_r1 <| .ret 0#32

end

end Cert.Proof.Run

end
-- ==== Proof.Model.lean ====
/-
  What a task computes, as plain functions of a batch's words: the threshold of each lane, the candidates of
  each stream in order, and the merge of the blocks into the result.
-/
module

public import proofs.«01_k».proof.Proof.Clean

@[expose] public section
noncomputable section
namespace Cert.Proof.Run
open Cert.KernelIdeal Cert.KernelIdeal.Gen
open Idealize.ShloMosaic
open Idealize.SL Idealize.SL.Sem

variable {F : FTy → Type} [FloatOps F]

/-- The state after the first `k` of `n` steps. -/
def iterTo {n : ℕ} {S : Type} (f : Fin n → S → S) : ℕ → S → S
  | 0, s => s
  | k + 1, s => if h : k < n then f ⟨k, h⟩ (iterTo f k s) else iterTo f k s

/-- One more step. -/
theorem iterTo_succ {n : ℕ} {S : Type} (f : Fin n → S → S) (k : Fin n) (s : S) : iterTo f (k.val + 1) s = f k (iterTo f k.val s) := by
  show (if h : k.val < n then f ⟨k.val, h⟩ (iterTo f k.val s) else iterTo f k.val s) = _
  rw [dif_pos k.isLt]

/-! ## The thresholds -/

/-- Four running maxima over rows in turn. -/
def rowMaxP (g : ℕ → Elt F .f32) : List (Off 32768) → V4 F → V4 F
  | [], s => s
  | o :: os, (a, b, c, d) => rowMaxP g os (b, c, d, maximumf a (get g (o.1 0)))

/-- One group of rows. -/
def grpP (g : ℕ → Elt F .f32) (i : Fin k0_t3_loop.trips) (s : V4 F) : V4 F :=
  stepV s (iterTo (fun j a => rowMaxP g (offs3 i j) a) k0_t4_loop.trips ninf4)

/-- The maxima of one segment. -/
def segP (g : ℕ → Elt F .f32) : V4 F := iterTo (grpP g) k0_t3_loop.trips ninf4

/-- Segment `s` of a batch's words. -/
def seg (X : ℕ → Elt F .f32) (s : ℕ) : ℕ → Elt F .f32 := fun p => X (s * 32768 + p)

/-- Two segments enter the running least threshold. -/
def ph1P (X : ℕ → Elt F .f32) (r : Fin k0_t2_loop.trips) (m : FVec F S16 .f32) : FVec F S16 .f32 :=
  k0_pay866 m (segP (seg X (2 * r.val))).2.2.2 (segP (seg X (2 * r.val + 1))).2.2.2

/-- The thresholds. -/
def thr (X : ℕ → Elt F .f32) : FVec F S16 .f32 := iterTo (ph1P X) k0_t2_loop.trips k0_pay843

/-! ## The candidates -/

/-- The row that stream `k` takes as its item `N`. -/
def rowNo (k N : ℕ) : ℕ := N / 256 * 2048 + k * 256 + N % 256

/-- Whether lane `l` keeps item `N` of stream `k`. -/
def keeps (X : ℕ → Elt F .f32) (k l N : ℕ) : Prop := FloatOps.cmpf (F := F) (φ := .f32) .oge (X (16 * rowNo k N + l)) (thr X (ln l)) = 1#1

instance (X : ℕ → Elt F .f32) (k l N : ℕ) : Decidable (keeps X k l N) := by unfold keeps; infer_instance

/-- An entry that is no candidate. -/
def dum : Elt F .f32 × BitVec 32 := (FloatOps.ofBits (F := F) (φ := .f32) 0xFF800000#32, 1073741824#32)

/-- The candidates among the first `N` items of stream `k`, lane `l`, in order. -/
def cands (X : ℕ → Elt F .f32) (k l N : ℕ) : List (Elt F .f32 × BitVec 32) :=
  ((List.range N).filter fun n => decide (keeps X k l n)).map fun n => (X (16 * rowNo k n + l), BitVec.ofNat 32 (rowNo k n))

theorem cands_succ (X : ℕ → Elt F .f32) (k l N : ℕ) :
    cands X k l (N + 1) = if keeps X k l N then cands X k l N ++ [(X (16 * rowNo k N + l), BitVec.ofNat 32 (rowNo k N))] else cands X k l N := by
  unfold cands
  rw [List.range_succ, List.filter_append, List.map_append]
  by_cases h : keeps X k l N
  · rw [if_pos h]; simp [h]
  · rw [if_neg h]; simp [h]

theorem cands_mono (X : ℕ → Elt F .f32) (k l : ℕ) {N M : ℕ} (h : N ≤ M) : (cands X k l N).length ≤ (cands X k l M).length := by
  induction M, h using Nat.le_induction with
  | base => exact le_rfl
  | succ M _ ih =>
    refine ih.trans ?_
    rw [cands_succ]
    by_cases h : keeps X k l M
    · rw [if_pos h]; simp
    · rw [if_neg h]

/-- Every stream keeps fewer than 64 of its items. -/
def Fits (X : ℕ → Elt F .f32) : Prop := ∀ k < 8, ∀ l < 16, (cands X k l 4096).length < 64

/-- The entry at word `p` of the candidates' storage when stream `k` has taken `d k` items. -/
def entC (X : ℕ → Elt F .f32) (d : ℕ → ℕ) (p : ℕ) : Elt F .f32 × BitVec 32 := (cands X (p / 1024) (p % 16) (d (p / 1024))).getD (p / 16 % 64) dum

/-- The values' storage. -/
def cvC (X : ℕ → Elt F .f32) (d : ℕ → ℕ) : ℕ → Elt F .f32 := fun p => (entC X d p).1
/-- The row numbers' storage. -/
def ciC (X : ℕ → Elt F .f32) (d : ℕ → ℕ) : ℕ → Elt F .i32 := fun p => (entC X d p).2

/-- The positions of stream `k` after `N` items. -/
def posC (X : ℕ → Elt F .f32) (k N : ℕ) : IVec S16 32 := fun i => BitVec.ofNat 32 (1024 * k + (i 0).val + 16 * (cands X k (i 0).val N).length)
/-- The row number `n` in every lane. -/
def numC (n : ℕ) : IVec S16 32 := fun _ => BitVec.ofNat 32 n

/-- Positions and numbers, the streams having taken `N` items each and their next row being `n + 256 k`. -/
def stC (X : ℕ → Elt F .f32) (N n : ℕ) : St8 :=
  (posC X 0 N, posC X 1 N, posC X 2 N, posC X 3 N, posC X 4 N, posC X 5 N, posC X 6 N, posC X 7 N,
   numC (n + 0), numC (n + 256), numC (n + 512), numC (n + 768), numC (n + 1024), numC (n + 1280), numC (n + 1536), numC (n + 1792))

/-! ## The merge -/

/-- The result's storage. -/
abbrev RS (F : FTy → Type) : Type := (ℕ → Elt F .f32) × (ℕ → Elt F .i32)

/-- The sixteen entries at `o`. -/
def rowG (r : RS F) (o : ℕ) : PV F := (get r.1 o, get r.2 o)
/-- Sixteen entries put at `o`. -/
def rowS (r : RS F) (o : ℕ) (v : PV F) : RS F := (put r.1 o v.1, put r.2 o v.2)

/-- A tree of rows read from places in turn. -/
def loadsP (r : RS F) (o : ℕ → ℕ) : (n : ℕ) → ℕ → Tr (PV F) n
  | 0, u => rowG r (o u)
  | n + 1, u => (loadsP r o n u, loadsP r o n (u + 2 ^ n))

/-- A tree of rows merged into places in turn, its last entries first. -/
def mergesP (o : ℕ → ℕ) : (n : ℕ) → ℕ → Tr (PV F) n → RS F → RS F
  | 0, u, t, r => rowS r (o u) (hiV (rowG r (o u)) t)
  | n + 1, u, t, r => mergesP o n (u + 2 ^ n) t.1 (mergesP o n u t.2 r)

/-- Exchanges between pairs of rows. -/
def stageP : List (ℕ × ℕ) → RS F → RS F
  | [], r => r
  | (o, o') :: os, r => stageP os (rowS (rowS r o (hiV (rowG r o) (rowG r o'))) o' (loV (rowG r o) (rowG r o')))

/-- The places of stage `s`. -/
def prs76 (s : Fin k0_t13_loop.trips) : List (ℕ × ℕ) := (offs76 s).map fun q => (q.1.1 0, q.2.1 0)

/-- A block merged. -/
def blockP (C : RS F) (b : Fin k0_t12_loop.trips) (r : RS F) : RS F :=
  iterTo (fun s r => stageP (prs76 s) r) k0_t13_loop.trips
    (mergesP (fun u => (offsR u).1 0) 4 0 (srtT hiV loV true 4 (loadsP C (fun u => (offs75 b u).1 0) 4 0)) r)

/-- A block merged if it holds a candidate. -/
def ph3P (C : RS F) (s : St8) (b : Fin k0_t12_loop.trips) (r : RS F) : RS F := if blkCond b s = 1#1 then blockP C b r else r

/-- The result of a batch: from dummies, the blocks of candidates merged in turn. -/
def resP (X : ℕ → Elt F .f32) : RS F :=
  iterTo (ph3P (cvC X fun _ => 4096, ciC X fun _ => 4096) (stC X 4096 32768)) k0_t12_loop.trips ((fun _ => (dum (F := F)).1, fun _ => (dum (F := F)).2) : RS F)

end Cert.Proof.Run

end
-- ==== Proof.Steps.lean ====
/-
  The steps of a task: an indexed store of lanes, the items of a stream, the rows of maxima, the exchanges of the merge,
  each from and to held references of known contents.
-/
module

public import proofs.«01_k».proof.Proof.Model

@[expose] public section
noncomputable section
namespace Cert.Proof.Run
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {c : Thread nD τ} {α β : Type}

/-! ## Held references -/

/-- Contents that agree on the reference's words are the same. -/
theorem own_congr {n : ℕ} {sp : Space} {e : EltTy} {M : Memref sig c.2.kind sp ⟨1, ![n]⟩ e} {g g' : ℕ → Elt F e} (h : ∀ p < n, g p = g' p) :
    own c M g ⊢ own c M g' := by
  unfold own
  iintro ⟨%f, %hf, H⟩
  iexists f
  isplitr
  · ipureintro; intro x; exact (hf x).trans (h _ (x 0).isLt)
  · iexact H

/-- The contents after the lanes `mask` of `v` are stored at the positions `a`, lane by lane. -/
def stI {γ : Type} (g : ℕ → γ) (a : IVec S16 32) (v : S16.Idx → γ) (mask : IVec S16 1) : ℕ → γ :=
  fun p => if mask (ln p) = 1 ∧ (a (ln p)).toNat = p then v (ln p) else g p

theorem ln_eq_of {x : S16.Idx} {p : ℕ} (h : p % 16 = (x 0).val) : ln p = x := by
  funext a; obtain rfl : a = 0 := Subsingleton.elim _ _
  exact Fin.ext h

/-- Updates one place at a time, each place named by at most one of them. -/
theorem foldl_upd {γ J A : Type} [DecidableEq A] (P : A → Prop) [DecidablePred P] (y : A → γ) (at' : A → J → Prop) [∀ k j, Decidable (at' k j)] (j : J) (kk : A)
    (hu : ∀ k, P k → at' k j → k = kk) (l : List A) :
    ∀ f : J → γ, l.foldl (fun g k => if P k then fun j => if at' k j then y k else g j else g) f j
      = if P kk ∧ at' kk j ∧ kk ∈ l then y kk else f j := by
  induction l with
  | nil => intro f; rw [if_neg (fun h => List.not_mem_nil h.2.2)]; rfl
  | cons k l ih =>
    intro f
    rw [List.foldl_cons, ih]
    by_cases hl : P kk ∧ at' kk j ∧ kk ∈ l
    · rw [if_pos hl, if_pos ⟨hl.1, hl.2.1, List.mem_cons_of_mem _ hl.2.2⟩]
    · rw [if_neg hl]
      by_cases hk : P k ∧ at' k j
      · have := hu k hk.1 hk.2
        subst this
        have e1 : (if P k then (fun j => if at' k j then y k else f j) else f) j = y k := by
          rw [if_pos hk.1]; exact if_pos hk.2
        rw [e1, if_pos ⟨hk.1, hk.2, List.mem_cons_self⟩]
      · have : (if P k then (fun j => if at' k j then y k else f j) else f) j = f j := by
          by_cases h1 : P k
          · rw [if_pos h1]; exact if_neg (fun h2 => hk ⟨h1, h2⟩)
          · rw [if_neg h1]
        rw [this, if_neg]
        rintro ⟨h1, h2, h3⟩
        rcases List.mem_cons.mp h3 with rfl | h3
        · exact hk ⟨h1, h2⟩
        · exact hl ⟨h1, h2, h3⟩

theorem storeIdx_apply {n : ℕ} {e : EltTy} (v : Vec F S16 e) (a : IVec S16 32) (mask : IVec S16 1)
    (h : ∀ b x, ((![a] : Fin 1 → IVec S16 32) b x).toNat < (⟨1, ![n]⟩ : Shape).size b) (ha : ∀ x, (a x).toNat % 16 = (x 0).val)
    (f : Vec F ⟨1, ![n]⟩ e) (g : ℕ → Elt F e) (hg : ∀ x, f x = g (x 0).val) (j : (⟨1, ![n]⟩ : Shape).Idx) :
    storeIdx (s := ⟨1, ![n]⟩) (d := ![16]) f (![a] : Fin 1 → IVec S16 32) v mask false h j = stI g a v mask (j 0).val := by
  have key : ∀ k : Fin ((![16] : Fin 1 → ℕ) 0), (∀ b, (j b).val = ((idxAt (s := ⟨1, ![n]⟩) (![a] : Fin 1 → IVec S16 32) h (Shape.ofLane (d := ![16]) k)) b).val)
      ↔ (a (Shape.ofLane (d := ![16]) k)).toNat = (j 0).val := by
    intro k
    constructor
    · intro H; exact (H 0).symm
    · intro H b; obtain rfl : b = 0 := Subsingleton.elim _ _; exact H.symm
  have hl : (Shape.ofLane (d := ![16]) (⟨(j 0).val % 16, Nat.mod_lt _ (by decide)⟩ : Fin 16) : S16.Idx) = ln (j 0).val := by
    funext b; obtain rfl : b = 0 := Subsingleton.elim _ _; rfl
  unfold storeIdx
  simp only [Bool.false_eq_true, if_false]
  refine (foldl_upd (A := Fin ((![16] : Fin 1 → ℕ) 0)) (fun k => mask (Shape.ofLane (d := ![16]) k) = 1) (fun k => v (Shape.ofLane (d := ![16]) k))
    (fun k j => ∀ b, (j b).val = ((idxAt (s := ⟨1, ![n]⟩) (![a] : Fin 1 → IVec S16 32) h (Shape.ofLane (d := ![16]) k)) b).val) j
    (⟨(j 0).val % 16, Nat.mod_lt _ (by decide)⟩ : Fin 16) ?_ (List.finRange _) f).trans ?_
  · intro k _ h2
    apply Fin.ext
    have := ha (Shape.ofLane (d := ![16]) k)
    rw [(key k).mp h2] at this
    exact this.symm
  · unfold stI
    have k' := key (⟨(j 0).val % 16, Nat.mod_lt _ (by decide)⟩ : Fin 16)
    rw [hl] at k' ⊢
    by_cases H : mask (ln (j 0).val) = 1 ∧ (a (ln (j 0).val)).toNat = (j 0).val
    · rw [if_pos H]; exact if_pos ⟨H.1, k'.mpr H.2, List.mem_finRange _⟩
    · rw [if_neg H]; exact (if_neg fun h' => H ⟨h'.1, k'.mp h'.2.1⟩).trans (hg j)

/-- An indexed store of lanes into a held reference, each lane's position being its own modulo sixteen. -/
theorem wp_own_sidx {bd : Option 𝒱₀.V} {n : ℕ} {e : EltTy} {M : Memref sig c.2.kind .vmem ⟨1, ![n]⟩ e} {a : IVec S16 32} {v : Vec F S16 e} {mask : IVec S16 1}
    {h : ∀ b x, ((![a] : Fin 1 → IVec S16 32) b x).toNat < (⟨1, ![n]⟩ : Shape).size b} {hs : (M.access (.whole ⟨1, ![n]⟩)).Stores Finset.univ}
    (ha : ∀ x, (a x).toNat % 16 = (x 0).val)
    {k : PUnit → Prog (TpuEff nD τ sig (Elt F) Λ₀ c.2) α} {g : ℕ → Elt F e} {Q : α → sProp (MT nD τ sig (HIx 1) (Elt F) ℕ UU ℕ)} :
    own c M g ⊢ iprop((own c M (stI g a v mask) -∗ wp frame (wpE (defs₀ (F := F)) 𝒱₀ c bd) Set.univ (k ⟨⟩) Q)
      -∗ wp frame (wpE (defs₀ (F := F)) 𝒱₀ c bd) Set.univ (SparseCore.vectorStoreIdx M ![a] v mask false h hs >>= k) Q) := by
  unfold own
  iintro ⟨%f, %hf, H⟩ Hk
  have hset : (M.access (.whole ⟨1, ![n]⟩)).set = M.view.set := by
    rw [View.set_slice, Rect.set_whole]; rfl
  rw [← hset]
  iapply (SparseCore.wp_vectorStoreIdx 𝒱₀ c bd Set.univ (base := M) (idxs := ![a]) (v := v) (mask := mask) (add := false) (h := h) (hs := hs) (k := k) (f := f)) $$ H
  iintro H
  iapply Hk
  iexists _
  isplitr
  · ipureintro
    intro x
    have hw : ∀ x, x = (Rect.whole ⟨1, ![n]⟩).emb x := fun x => by
      funext b; apply Fin.ext; show (x b).val = 0 + 1 * (x b).val; omega
    conv_lhs => rw [hw x]
    refine (View.read_write_of_mem (v := M.access (.whole ⟨1, ![n]⟩)) (Val := Elt F) f (storeIdx ((M.access (.whole ⟨1, ![n]⟩)).read (Elt F) f) ![a] v mask false h) (Finset.mem_univ _)).trans ?_
    exact storeIdx_apply v a mask h ha _ g (fun y => (read_access (M := M) (r := Rect.whole _) f y).trans (by rw [← hw y]; exact hf y)) x
  · iexact H

/-! ## Loops -/

/-- A loop at the head of a program, from its invariant. -/
theorem wp_loop {bd : Option 𝒱₀.V} {σ : Type} (l : Scf.Loop 32) (hok : l.OK) {init : σ} {body : Fin l.trips → σ → Prog (TpuEff nD τ sig (Elt F) Λ₀ c.2) σ}
    (I : ℕ → σ → sProp (MT nD τ sig (HIx 1) (Elt F) ℕ UU ℕ))
    (hbody : ∀ (k : Fin l.trips) (acc : σ), I k acc ⊢ wp frame (wpE (defs₀ (F := F)) 𝒱₀ c bd) Set.univ (body k acc) (I (k.val + 1)))
    {kk : σ → Prog (TpuEff nD τ sig (Elt F) Λ₀ c.2) β} {Q : β → sProp (MT nD τ sig (HIx 1) (Elt F) ℕ UU ℕ)} :
    I 0 init ⊢ iprop((∀ acc, I l.trips acc -∗ wp frame (wpE (defs₀ (F := F)) 𝒱₀ c bd) Set.univ (kk acc) Q)
      -∗ wp frame (wpE (defs₀ (F := F)) 𝒱₀ c bd) Set.univ (Scf.Loop.for l hok init body >>= kk) Q) :=
  Scf.wp_for_bind _ _ _ l.lb l.ub l.st hok init body I hbody

/-- A loop whose carried value is known at each trip. -/
theorem wp_loopP {bd : Option 𝒱₀.V} {σ : Type} (l : Scf.Loop 32) (hok : l.OK) {n : ℕ} (hn : l.trips = n) {init : σ} {body : Fin l.trips → σ → Prog (TpuEff nD τ sig (Elt F) Λ₀ c.2) σ}
    (v : ℕ → σ) (h0 : init = v 0) (I : ℕ → sProp (MT nD τ sig (HIx 1) (Elt F) ℕ UU ℕ))
    (hbody : ∀ (k : Fin l.trips) (_ : k.val < n) (R : σ → sProp (MT nD τ sig (HIx 1) (Elt F) ℕ UU ℕ)),
      I k ⊢ iprop((I (k.val + 1) -∗ R (v (k.val + 1))) -∗ wp frame (wpE (defs₀ (F := F)) 𝒱₀ c bd) Set.univ (body k (v k.val)) R))
    {kk : σ → Prog (TpuEff nD τ sig (Elt F) Λ₀ c.2) β} {Q : β → sProp (MT nD τ sig (HIx 1) (Elt F) ℕ UU ℕ)} :
    I 0 ⊢ iprop((I n -∗ wp frame (wpE (defs₀ (F := F)) 𝒱₀ c bd) Set.univ (kk (v n)) Q)
      -∗ wp frame (wpE (defs₀ (F := F)) 𝒱₀ c bd) Set.univ (Scf.Loop.for l hok init body >>= kk) Q) := by
  iintro HI HK
  iapply (wp_loop l hok (I := fun k acc => iprop(⌜acc = v k⌝ ∗ I k)) (fun k acc => by
    iintro ⟨%ha, HI⟩
    subst ha
    iapply (hbody k (hn ▸ k.isLt) _) $$ HI
    iintro HI
    isplitr
    · ipureintro; rfl
    · iexact HI)) $$ [HI]
  · isplitr
    · ipureintro; exact h0
    · iexact HI
  · iintro %acc ⟨%ha, HI⟩
    subst ha hn
    iapply HK; iexact HI

end Cert.Proof.Run

end
-- ==== Proof.Copy.lean ====
/-
  The copies of a task: a segment of the input brought in, waited for, a result's row written out.
-/
module

public import proofs.«01_k».proof.Proof.Steps
public import Idealize.ShloMosaic.Lib.Transfers

@[expose] public section
noncomputable section
namespace Cert.Proof.Run
open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {d : Dev nD} {a : Fin τ.nSC} {b : Fin τ.nSub} {β : Type}
variable {Q : β → sProp (MT nD τ sig (HIx 1) (Elt F) ℕ UU ℕ)}

/-- Word `p` of batch `n` of the input. -/
def xat (n p : ℕ) : S64x524288.Idx := fun j => match j with
  | 0 => ⟨n % 64, Nat.mod_lt _ (by decide)⟩
  | 1 => ⟨p % 524288, Nat.mod_lt _ (by decide)⟩

/-- Word `p` of batch `n` of an output. -/
def yat (n p : ℕ) : S64x1024.Idx := fun j => match j with
  | 0 => ⟨n % 64, Nat.mod_lt _ (by decide)⟩
  | 1 => ⟨p % 1024, Nat.mod_lt _ (by decide)⟩

/-- The words of batch `n`. -/
def batch (x : Memref sig .scVector .hbm S64x524288 .f32) (f : Buf (Elt F) (x.view.loc (V d a b))) (n : ℕ) : ℕ → Elt F .f32 :=
  fun p => x.view.read (Elt F) f (xat n p)

/-- The element a squeezed row's index names, of a rectangle of one row. -/
theorem reshape_row {N M r o : ℕ} (h : (⟨1, ![N]⟩ : Shape).numel = (⟨2, ![1, N]⟩ : Shape).numel) (i : (⟨1, ![N]⟩ : Shape).Idx) :
    ((Shape.reshapeEquiv h i) 0).val = 0 ∧ ((Shape.reshapeEquiv h i) 1).val = (i 0).val := by
  have h1 := Shape.rowMajor_reshapeEquiv h i
  rw [Shape.rowMajor_val_one, Shape.rowMajor_val_two] at h1
  have h0 : ((Shape.reshapeEquiv h i) 0).val < 1 := ((Shape.reshapeEquiv h i) 0).isLt
  have h0' : ((Shape.reshapeEquiv h i) 0).val = 0 := by omega
  refine ⟨h0', ?_⟩
  rw [h0'] at h1
  simpa using h1

theorem read_inV {x : Memref sig .scVector .hbm S64x524288 .f32} (f : Buf (Elt F) (x.view.loc (V d a b))) (o : Off2) {n s : ℕ} (h0 : o.1 0 = n) (h1 : o.1 1 = s * 32768)
    (hn : n < 64) (hs : s < 16) (i : S32768.Idx) : (inV x o).view.read (Elt F) f i = seg (batch x f n) s (i 0).val := by
  show x.view.read (Elt F) f ((Rect.unit (s := S64x524288) o.1 S1x32768.size o.2).emb (Shape.reshapeEquiv squeezes_S1x32768_S32768.numel_eq i)) = x.view.read (Elt F) f (xat n (s * 32768 + (i 0).val))
  congr 1
  have hi : (i 0).val < 32768 := (i 0).isLt
  have hr := reshape_row (N := 32768) (M := 0) (r := 0) (o := 0) squeezes_S1x32768_S32768.numel_eq i
  funext j
  apply Fin.ext
  match j with
  | 0 =>
    show o.1 0 + 1 * ((Shape.reshapeEquiv squeezes_S1x32768_S32768.numel_eq i) 0).val = n % 64
    rw [hr.1, h0]; omega
  | 1 =>
    show o.1 1 + 1 * ((Shape.reshapeEquiv squeezes_S1x32768_S32768.numel_eq i) 1).val = (s * 32768 + (i 0).val) % 524288
    rw [hr.2, h1]; omega

theorem read_outV {e : EltTy} {y : Memref sig .scVector .hbm S64x1024 e} (f : Buf (Elt F) (y.view.loc (V d a b))) (w : S1024.Idx → Elt F e) (o : OffO) {n : ℕ} (h0 : o.1 0 = n) (h1 : o.1 1 = 0)
    (hn : n < 64) (n' p : ℕ) (hn' : n' < 64) (hp : p < 1024) :
    y.view.read (Elt F) ((outV y o).view.write (Elt F) f w Finset.univ) (yat n' p)
      = if n' = n then w (fun j => match j with | 0 => ⟨p % 1024, Nat.mod_lt _ (by decide)⟩) else y.view.read (Elt F) f (yat n' p) := by
  have hpm : p % 1024 < 1024 := Nat.mod_lt _ (by decide)
  by_cases h : n' = n
  · rw [if_pos h]
    subst h
    set i : S1024.Idx := (fun j => match j with | 0 => ⟨p % 1024, Nat.mod_lt _ (by decide)⟩) with hi
    have hr := reshape_row (N := 1024) (M := 0) (r := 0) (o := 0) squeezes_S1x1024_S1024.numel_eq i
    have hy : yat n' p = (Rect.unit (s := S64x1024) o.1 S1x1024.size o.2).emb (Shape.reshapeEquiv squeezes_S1x1024_S1024.numel_eq i) := by
      funext j
      apply Fin.ext
      match j with
      | 0 =>
        show n' % 64 = o.1 0 + 1 * ((Shape.reshapeEquiv squeezes_S1x1024_S1024.numel_eq i) 0).val
        rw [hr.1, h0]; omega
      | 1 =>
        show p % 1024 = o.1 1 + 1 * ((Shape.reshapeEquiv squeezes_S1x1024_S1024.numel_eq i) 1).val
        rw [hr.2, h1]
        show p % 1024 = 0 + 1 * (p % 1024)
        omega
    rw [hy]
    exact View.read_write_of_mem (v := (outV y o).view) (Val := Elt F) f w (Finset.mem_univ _)
  · rw [if_neg h]
    suffices hw : (outV y o).view.write (Elt F) f w Finset.univ (y.view.emb (yat n' p)) = f (y.view.emb (yat n' p)) by
      exact congrArg (cast (congrArg (Elt F) y.view.elt_eq)) hw
    refine View.write_of_not_mem _ _ _ ?_
    rw [View.setOn_univ]
    show _ ∉ ((y.view.slice (Rect.unit (s := S64x1024) o.1 S1x1024.size o.2)).reshape S1024 squeezes_S1x1024_S1024.numel_eq).set
    rw [View.set_reshape, View.set_slice]
    intro hmem
    obtain ⟨z, hz, hzx⟩ := Finset.mem_map.mp hmem
    obtain rfl := y.view.emb.injective hzx
    have := Rect.mem_set_unit.mp hz 0
    rw [h0] at this
    have h2 : n ≤ n' % 64 ∧ n' % 64 < n + 1 := this
    omega

/-! ## The copies -/

/-- A share of the input. -/
def shX (q : PosShare TreeShare) (x : Memref sig .scVector .hbm S64x524288 .f32) (f : Buf (Elt F) (x.view.loc (V d a b))) :
    sProp (MT nD τ sig (HIx 1) (Elt F) ℕ UU ℕ) := (x.view.loc (V d a b) ↦[x.view.set]{q} f)

/-- What the task owes, its waits being its own. -/
def owe (d : Dev nD) (a : Fin τ.nSC) (b : Fin τ.nSub) (O : CellTallies nD τ sig (HIx 1)) (W : Waits sig (HIx 1)) : sProp (MT nD τ sig (HIx 1) (Elt F) ℕ UU ℕ) :=
  iprop(∃ W', ⌜∀ p ∈ W', p ∈ W ∨ p.2 = none⌝ ∗ owes (V d a b) O W')

/-- A flight carries what is held beside it. -/
theorem Flight_frame {sm : SemLoc sig} {N : ℕ} {D R : sProp (MT nD τ sig (HIx 1) (Elt F) ℕ UU ℕ)} :
    iprop(Flight EC (V d a b) sm none N D ∗ R) ⊢ Flight EC (V d a b) sm none N iprop(D ∗ R) := by
  unfold Flight
  iintro ⟨⟨⟨%R0, HR0, %hcap, %hpeek⟩, Hcred⟩, HR⟩
  isplitr [Hcred]
  · iexists iprop(R0 ∗ R)
    isplitl [HR0 HR]
    · isplitl [HR0] <;> iassumption
    isplit
    · ipureintro
      intro K
      refine BIBase.Entails.trans ?_ (hcap K)
      iintro ⟨⟨HR0, HR⟩, HK⟩
      isplitl [HR0]; · iexact HR0
      iintro ⟨Hs, HD⟩
      iapply HK
      isplitl [Hs]; · iexact Hs
      isplitl [HD] <;> iassumption
    · ipureintro
      intro K
      refine BIBase.Entails.trans ?_ (hpeek K)
      iintro ⟨⟨HR0, HR⟩, HK⟩
      isplitl [HR0]; · iexact HR0
      iintro HR0
      iapply HK
      isplitl [HR0] <;> iassumption
  · iexact Hcred

/-- A segment on its way. -/
def coming (bf : Memref sig .scVector .vmem S32768 .f32) (sm : DmaSems sig S_) (q : PosShare TreeShare) (x : Memref sig .scVector .hbm S64x524288 .f32)
    (f : Buf (Elt F) (x.view.loc (V d a b))) (n s : ℕ) : sProp (MT nD τ sig (HIx 1) (Elt F) ℕ UU ℕ) :=
  Flight EC (V d a b) (.dma sm.sem) none bf.view.dmaCredit iprop(own (V d a b) bf (seg (batch x f n) s) ∗ shX q x f)

/-- No segment on its way: the buffer, the share and the semaphore. -/
def idle (bf : Memref sig .scVector .vmem S32768 .f32) (sm : DmaSems sig S_) (q : PosShare TreeShare) (x : Memref sig .scVector .hbm S64x524288 .f32)
    (f : Buf (Elt F) (x.view.loc (V d a b))) : sProp (MT nD τ sig (HIx 1) (Elt F) ℕ UU ℕ) :=
  iprop((∃ g, own (V d a b) bf g) ∗ shX q x f ∗ semVal (V d a b, .dma sm.sem) 0)

variable {bf : Memref sig .scVector .vmem S32768 .f32} {hb : bf.IsWhole} {sm : DmaSems sig S_} {q : PosShare TreeShare} {x : Memref sig .scVector .hbm S64x524288 .f32}
  {f : Buf (Elt F) (x.view.loc (V d a b))} {K' : Prog (TpuEff nD τ sig (Elt F) Λ₀ (.scVector a b)) β} {bd : Option 𝒱₀.V}

/-- A segment's copy is started. -/
theorem wp_startC {o : Off2} {n s : ℕ} (h0 : o.1 0 = n) (h1 : o.1 1 = s * 32768) (hn : n < 64) (hs : s < 16) :
    idle bf sm q x f ⊢ iprop((coming bf sm q x f n s -∗ wp frame (wpE (defs₀ (F := F)) 𝒱₀ (V d a b) bd) Set.univ K' Q)
      -∗ wp frame (wpE (defs₀ (F := F)) 𝒱₀ (V d a b) bd) Set.univ (startC x o bf hb sm K') Q) := by
  unfold idle coming startC shX own
  iintro ⟨⟨%g, %fd, -, Hb⟩, Hx, Hs⟩ Hk
  have hsub : (inV x o).view.set ⊆ x.view.set := by
    show ((x.view.slice (Rect.unit (s := S64x524288) o.1 S1x32768.size o.2)).reshape S32768 squeezes_S1x32768_S32768.numel_eq).set ⊆ _
    rw [View.set_reshape]
    exact View.set_slice_subset _ _
  ihave Hx := (pointsTo_split_subset hsub).1 $$ Hx
  icases Hx with ⟨Hx, Hx'⟩
  iapply (wp_dmaLocal EC 𝒱₀ (V d a b) bd (src := inV x o) (via := .same) (dst := bf) (sm := .dma sm.sem) (q := q) (fs := f) (Sd := bf.view.set) (fd := fd)
    none bf.view.dmaCredit rfl (View.dmaCredit_pos _ (by decide)) (Finset.Subset.refl _)) $$ [Hx Hb Hs]
  · isplitl [Hx]; · iexact Hx
    isplitl [Hb]; · iexact Hb
    iexact Hs
  iintro HF
  iapply Hk
  iapply (Flight_mono EC (V d a b) (D := iprop(((bf.view.loc (V d a b) ↦[bf.view.set]{fullShare} (bf.view.write (Elt F) fd (ReadAs.same.apply ((inV x o).view.read (Elt F) f)) Finset.univ))
      ∗ ((inV x o).view.loc (V d a b) ↦[(inV x o).view.set]{q} f)) ∗ (x.view.loc (V d a b) ↦[x.view.set \ (inV x o).view.set]{q} f))) (by
    iintro ⟨⟨Hb, Hx⟩, Hx'⟩
    isplitl [Hb]
    · iexists (bf.view.write (Elt F) fd (ReadAs.same.apply ((inV x o).view.read (Elt F) f)) Finset.univ)
      isplitr
      · ipureintro
        intro i
        rw [View.read_write_univ]
        exact read_inV f o h0 h1 hn hs i
      · iexact Hb
    · iapply (pointsTo_split_subset hsub).2
      isplitl [Hx]; · iexact Hx
      iexact Hx'))
  iapply Flight_frame
  isplitl [HF] <;> iassumption

/-- A segment's copy is waited for. -/
theorem wp_waitC {O : CellTallies nD τ sig (HIx 1)} {W : Waits sig (HIx 1)} (hO : ∀ g, O g none = 0) {n s : ℕ} :
    iprop(levAts (K (F := F)).L (K (F := F)).lev ∗ coming bf sm q x f n s ∗ owe d a b O W)
      ⊢ iprop(((own (V d a b) bf (seg (batch x f n) s) ∗ shX q x f ∗ semVal (V d a b, .dma sm.sem) 0 ∗ owe d a b O W)
          -∗ wp frame (wpE (defs₀ (F := F)) 𝒱₀ (V d a b) bd) Set.univ K' Q)
        -∗ wp frame (wpE (defs₀ (F := F)) 𝒱₀ (V d a b) bd) Set.univ (waitC x bf hb sm K') Q) := by
  unfold coming waitC owe
  iintro ⟨#Hlv, HF, %W', %hW, HO⟩ Hk
  iapply (wp_waitLocalO EC 𝒱₀ (V d a b) bd (sem := sm.sem) (srcw := inV x ⟨![0, 0], inb_S64x524288_S1x32768_0_0⟩) (dstw := bf) (hsrc := (View.wordExact_bits rfl).reshape _ _) (hdst := hb.wordExact) none rfl (O := O) (W := W')) $$ [HF HO]
  · isplitl [HF]; · iexact HF
    isplitl [HO]; · iexact HO
    iapply ((K (F := F)).mayWait_none (SemLoc.dma sm.sem) hO); iexact Hlv
  iintro ⟨⟨Hb, Hx⟩, Hs, HO⟩
  iapply Hk
  isplitl [Hb]; · iexact Hb
  isplitl [Hx]; · iexact Hx
  isplitl [Hs]; · iexact Hs
  iexists _
  isplitr
  swap
  · iexact HO
  · ipureintro
    intro p hp
    rcases Finset.mem_insert.mp hp with rfl | hp
    · exact .inr rfl
    · exact hW p hp

/-- A result's row is written out. -/
theorem wp_outC {O : CellTallies nD τ sig (HIx 1)} {W : Waits sig (HIx 1)} (hO : ∀ g, O g none = 0) {e : EltTy} {he : e.bits = 32} {M : Memref sig .scVector .vmem S1024 e}
    {hM : M.IsWhole} {y : Memref sig .scVector .hbm S64x1024 e} {o : OffO} {g : ℕ → Elt F e} {Sd : Finset (Idx (y.view.loc (V d a b)))} {fd : Buf (Elt F) (y.view.loc (V d a b))}
    (hS : (outV y o).view.set ⊆ Sd) :
    iprop(levAts (K (F := F)).L (K (F := F)).lev ∗ own (V d a b) M g ∗ (y.view.loc (V d a b) ↦[Sd]{fullShare} fd) ∗ semVal (V d a b, .dma sm.sem) 0 ∗ owe d a b O W)
      ⊢ iprop(((own (V d a b) M g ∗ (y.view.loc (V d a b) ↦[Sd]{fullShare} (outV y o).view.write (Elt F) fd (fun i => g (i 0).val) Finset.univ) ∗ semVal (V d a b, .dma sm.sem) 0 ∗ owe d a b O W)
          -∗ wp frame (wpE (defs₀ (F := F)) 𝒱₀ (V d a b) bd) Set.univ K' Q)
        -∗ wp frame (wpE (defs₀ (F := F)) 𝒱₀ (V d a b) bd) Set.univ (outC he M hM y o sm K') Q) := by
  unfold outC owe own
  iintro ⟨#Hlv, ⟨%f, %hf, HM⟩, Hy, Hs, %W', %hW, HO⟩ Hk
  iapply (wp_dmaLocal EC 𝒱₀ (V d a b) bd (src := M) (via := .same) (dst := outV y o) (sm := .dma sm.sem) (q := fullShare) (fs := f) (Sd := Sd) (fd := fd)
    none (outV y o).view.dmaCredit rfl (View.dmaCredit_pos _ (by decide)) hS) $$ [HM Hy Hs]
  · isplitl [HM]; · iexact HM
    isplitl [Hy]; · iexact Hy
    iexact Hs
  iintro HF
  iapply (wp_waitLocalO EC 𝒱₀ (V d a b) bd (sem := sm.sem) (srcw := M) (dstw := outV y o) (hsrc := hM.wordExact) (hdst := (View.wordExact_bits he).reshape _ _) none rfl (O := O) (W := W')) $$ [HF HO]
  · isplitl [HF]; · iexact HF
    isplitl [HO]; · iexact HO
    iapply ((K (F := F)).mayWait_none (SemLoc.dma sm.sem) hO); iexact Hlv
  iintro ⟨⟨Hy, HM⟩, Hs, HO⟩
  iapply Hk
  isplitl [HM]
  · iexists f
    isplitr
    · ipureintro; exact hf
    · iexact HM
  isplitl [Hy]
  · have : (fun i : S1024.Idx => g (i 0).val) = ReadAs.same.apply (M.view.read (Elt F) f) := funext fun i => (hf i).symm
    rw [this]
    iexact Hy
  isplitl [Hs]; · iexact Hs
  iexists _
  isplitr
  swap
  · iexact HO
  · ipureintro
    intro p hp
    rcases Finset.mem_insert.mp hp with rfl | hp
    · exact .inr rfl
    · exact hW p hp

end Cert.Proof.Run

end
-- ==== Proof.Compact.lean ====
/-
  The compaction: an item's lanes are appended to their stream, a trip takes four items of each stream, a segment's
  compaction takes 256.
-/
module

public import proofs.«01_k».proof.Proof.Steps

@[expose] public section
noncomputable section
namespace Cert.Proof.Run
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {c : Thread nD τ} {α β : Type}

/-! ## One item -/

theorem one_and (a : BitVec 1) : a &&& 1#1 = a := by revert a; decide

theorem pos_bound {X : ℕ → Elt F .f32} (hF : Fits X) {k l N : ℕ} (hk : k < 8) (hl : l < 16) (hN : N ≤ 4096) : (cands X k l N).length < 64 :=
  (cands_mono X k l hN).trans_lt (hF k hk l hl)

theorem posC_toNat {X : ℕ → Elt F .f32} (hF : Fits X) {k N : ℕ} (hk : k < 8) (hN : N ≤ 4096) (x : S16.Idx) :
    (posC X k N x).toNat = 1024 * k + (x 0).val + 16 * (cands X k (x 0).val N).length := by
  have h1 : (x 0).val < 16 := (x 0).isLt
  have h2 := pos_bound hF hk h1 hN
  show (BitVec.ofNat 32 _).toNat = _
  rw [BitVec.toNat_ofNat]
  exact Nat.mod_eq_of_lt (by omega)

/-- The positions are within the stream's places. -/
theorem chk_posC {X : ℕ → Elt F .f32} (hF : Fits X) {k N : ℕ} (hk : k < 8) (hN : N ≤ 4096) : k0_chk1 (posC X k N) := by
  have : ∀ b x, ((![posC X k N] : Fin 1 → IVec S16 32) b x).toNat < S8192.size b := by
    intro b x
    obtain rfl : b = 0 := Subsingleton.elim _ _
    show (posC X k N x).toNat < 8192
    rw [posC_toNat hF hk hN]
    have h1 : (x 0).val < 16 := (x 0).isLt
    have h2 := pos_bound hF hk h1 hN
    omega
  exact ⟨this, this⟩

/-- The lanes kept are those whose word reaches the threshold. -/
theorem itMask_eq {X : ℕ → Elt F .f32} (hF : Fits X) {k N s o : ℕ} (hk : k < 8) (hN : N ≤ 4096) (ho : o + 32768 * s = 16 * rowNo k N) (x : S16.Idx) :
    itMask (thr X) (get (seg X s) o) (BitVec.ofNat 32 (1024 * (k + 1))) (posC X k N) x = if keeps X k (x 0).val N then 1#1 else 0#1 := by
  have h1 : (x 0).val < 16 := (x 0).isLt
  have h2 := pos_bound hF hk h1 hN
  have hlt : Scalar.cmpi .slt (posC X k N x) (BitVec.ofNat 32 (1024 * (k + 1))) = 1#1 := by
    have : (posC X k N x).slt (BitVec.ofNat 32 (1024 * (k + 1))) = true := by
      rw [BitVec.slt_eq_decide, decide_eq_true_eq, BitVec.toInt_eq_toNat_of_lt, BitVec.toInt_eq_toNat_of_lt, posC_toNat hF hk hN, BitVec.toNat_ofNat]
      · rw [Nat.mod_eq_of_lt (by omega)]; omega
      · rw [BitVec.toNat_ofNat]; omega
      · rw [posC_toNat hF hk hN]; omega
    show BitVec.ofBool ((posC X k N x).slt (BitVec.ofNat 32 (1024 * (k + 1)))) = 1#1
    rw [this]; rfl
  have e : itMask (thr X) (get (seg X s) o) (BitVec.ofNat 32 (1024 * (k + 1))) (posC X k N) x
      = FloatOps.cmpf (F := F) (φ := .f32) .oge (X (16 * rowNo k N + (x 0).val)) (thr X (ln (x 0).val)) := by
    show FloatOps.cmpf (F := F) (φ := .f32) .oge (X (s * 32768 + (o + (x 0).val))) (thr X x) &&& Scalar.cmpi .slt (posC X k N x) (BitVec.ofNat 32 (1024 * (k + 1))) = _
    rw [hlt, one_and, ln_val]
    congr 2
    omega
  rw [e]
  by_cases h : keeps X k (x 0).val N
  · rw [if_pos h]; exact h
  · rw [if_neg h]
    have h : ¬ FloatOps.cmpf (F := F) (φ := .f32) .oge (X (16 * rowNo k N + (x 0).val)) (thr X (ln (x 0).val)) = 1#1 := h
    generalize FloatOps.cmpf (F := F) (φ := .f32) .oge (X (16 * rowNo k N + (x 0).val)) (thr X (ln (x 0).val)) = b at h ⊢
    revert b; decide

/-- The positions move on where the lane is kept. -/
theorem itAddr_eq {X : ℕ → Elt F .f32} (hF : Fits X) {k N s o : ℕ} (hk : k < 8) (hN : N ≤ 4096) (ho : o + 32768 * s = 16 * rowNo k N) :
    itAddr (thr X) (get (seg X s) o) (BitVec.ofNat 32 (1024 * (k + 1))) (posC X k N) = posC X k (N + 1) := by
  funext x
  have hm := itMask_eq hF hk hN ho x
  show posC X k N x + Scalar.select (itMask (thr X) (get (seg X s) o) (BitVec.ofNat 32 (1024 * (k + 1))) (posC X k N) x) 16#32 0#32 = _
  rw [hm]
  unfold posC
  rw [cands_succ]
  by_cases h : keeps X k (x 0).val N
  · rw [if_pos h, if_pos h, List.length_append]
    show BitVec.ofNat 32 _ + 16#32 = _
    rw [show (16#32) = BitVec.ofNat 32 16 from rfl, ← BitVec.ofNat_add]
    congr 1
  · rw [if_neg h, if_neg h]
    show BitVec.ofNat 32 _ + 0#32 = _
    simp

theorem itRow_eq (n : ℕ) : itRow (numC n) = numC (n + 1) := by
  funext x
  show BitVec.ofNat 32 n + 1#32 = BitVec.ofNat 32 (n + 1)
  rw [BitVec.ofNat_add]

/-- An item appends its kept lanes to the stream. -/
theorem entC_step {X : ℕ → Elt F .f32} (hF : Fits X) {k N : ℕ} (hk : k < 8) (hN : N ≤ 4096) (d : ℕ → ℕ) (hd : d k = N) {m : IVec S16 1}
    (hm : ∀ x : S16.Idx, m x = if keeps X k (x 0).val N then 1#1 else 0#1) (p : ℕ) :
    (if m (ln p) = 1 ∧ (posC X k N (ln p)).toNat = p then (X (16 * rowNo k N + p % 16), BitVec.ofNat 32 (rowNo k N)) else entC X d p)
      = entC X (Function.update d k (N + 1)) p := by
  have hmod : p % 16 < 16 := Nat.mod_lt _ (by decide)
  have hb := pos_bound hF hk hmod hN
  have hm' := hm (ln p)
  rw [posC_toNat hF hk hN, hm']
  show (if (if keeps X k (p % 16) N then 1#1 else 0#1) = 1 ∧ 1024 * k + p % 16 + 16 * (cands X k (p % 16) N).length = p then _ else _) = _
  unfold entC
  by_cases hkk : p / 1024 = k
  · rw [hkk, Function.update_self, hd, cands_succ]
    by_cases hK : keeps X k (p % 16) N
    · rw [if_pos hK, if_pos hK]
      by_cases hl : p / 16 % 64 = (cands X k (p % 16) N).length
      · rw [if_pos ⟨rfl, by omega⟩, hl]
        simp [List.getD_eq_getElem?_getD]
      · rw [if_neg (fun h => hl (by omega))]
        simp only [List.getD_eq_getElem?_getD]
        rcases Nat.lt_or_gt_of_ne hl with h | h
        · rw [List.getElem?_append_left h]
        · rw [List.getElem?_eq_none (by omega), List.getElem?_eq_none (by simp; omega)]
    · rw [if_neg hK, if_neg hK, if_neg (fun h => absurd h.1 (by decide))]
  · rw [Function.update_of_ne hkk, if_neg]
    rintro ⟨_, h⟩
    apply hkk
    omega

theorem cv_step {X : ℕ → Elt F .f32} (hF : Fits X) {k N s o : ℕ} (hk : k < 8) (hN : N ≤ 4096) (d : ℕ → ℕ) (hd : d k = N) {m : IVec S16 1}
    (hm : ∀ x : S16.Idx, m x = if keeps X k (x 0).val N then 1#1 else 0#1) (ho : o + 32768 * s = 16 * rowNo k N) :
    stI (cvC X d) (posC X k N) (get (seg X s) o) m = cvC X (Function.update d k (N + 1)) := by
  funext p
  unfold cvC stI
  rw [← entC_step hF hk hN d hd hm p]
  have : get (seg X s) o (ln p) = X (16 * rowNo k N + p % 16) := by
    show X (s * 32768 + (o + p % 16)) = _
    congr 1; omega
  rw [this]
  split <;> rfl

theorem ci_step {X : ℕ → Elt F .f32} (hF : Fits X) {k N n : ℕ} (hk : k < 8) (hN : N ≤ 4096) (d : ℕ → ℕ) (hd : d k = N) {m : IVec S16 1}
    (hm : ∀ x : S16.Idx, m x = if keeps X k (x 0).val N then 1#1 else 0#1) (hn : rowNo k N = n) :
    stI (ciC X d) (posC X k N) (numC n) m = ciC X (Function.update d k (N + 1)) := by
  funext p
  unfold ciC stI
  rw [← entC_step hF hk hN d hd hm p, hn]
  split <;> rfl

theorem posC_mod {X : ℕ → Elt F .f32} (hF : Fits X) {k N : ℕ} (hk : k < 8) (hN : N ≤ 4096) (x : S16.Idx) : (posC X k N x).toNat % 16 = (x 0).val := by
  rw [posC_toNat hF hk hN]
  have h1 : (x 0).val < 16 := (x 0).isLt
  omega

/-! ## The items of a stream -/

variable {Q : β → sProp (MT nD τ sig (HIx 1) (Elt F) ℕ UU ℕ)}

theorem wp_chk {bd : Option 𝒱₀.V} {a : IVec S16 32} (h : k0_chk1 a) {k : k0_chk1 a → Prog (TpuEff nD τ sig (Elt F) Λ₀ c.2) β} :
    wp frame (wpE (defs₀ (F := F)) 𝒱₀ c bd) Set.univ (chk a k) Q = wp frame (wpE (defs₀ (F := F)) 𝒱₀ c bd) Set.univ (k h) Q := by
  unfold chk
  exact wp_assume_of 𝒱₀ c bd Set.univ h

/-- The offsets of rows `n, n + 1, …` within segment `s`. -/
def okOff (s : ℕ) : List (Off 32768) → ℕ → Prop
  | [], _ => True
  | o :: os, n => o.1 0 + 32768 * s = 16 * n ∧ okOff s os (n + 1)

/-- The candidates' storage after the streams have taken `d` items, the segment being held. -/
def heldC (c : Thread nD τ) (bf : Memref sig c.2.kind .vmem S32768 .f32) (cv : Memref sig c.2.kind .vmem S8192 .f32) (ci : Memref sig c.2.kind .vmem S8192 .i32)
    (X : ℕ → Elt F .f32) (s : ℕ) (d : ℕ → ℕ) : sProp (MT nD τ sig (HIx 1) (Elt F) ℕ UU ℕ) :=
  iprop(own c bf (seg X s) ∗ own c cv (cvC X d) ∗ own c ci (ciC X d))

variable {bf : Memref sig c.2.kind .vmem S32768 .f32} {cv : Memref sig c.2.kind .vmem S8192 .f32} {ci : Memref sig c.2.kind .vmem S8192 .i32}

/-- One item. -/
theorem wp_item {bd : Option 𝒱₀.V} {X : ℕ → Elt F .f32} (hF : Fits X) {k N s n : ℕ} (hk : k < 8) (hN : N ≤ 4096) {d : ℕ → ℕ} (hd : d k = N)
    {o : Off 32768} (ho : o.1 0 + 32768 * s = 16 * n) (hn : rowNo k N = n) {lim : BitVec 32} (hlim : lim = BitVec.ofNat 32 (1024 * (k + 1))) {h : k0_chk1 (posC X k N)}
    {KK : IVec S16 32 → IVec S16 32 → Prog (TpuEff nD τ sig (Elt F) Λ₀ c.2) β} :
    heldC c bf cv ci X s d
      ⊢ iprop((heldC c bf cv ci X s (Function.update d k (N + 1)) -∗ wp frame (wpE (defs₀ (F := F)) 𝒱₀ c bd) Set.univ (KK (posC X k (N + 1)) (numC (n + 1))) Q)
        -∗ wp frame (wpE (defs₀ (F := F)) 𝒱₀ c bd) Set.univ
          (.op (.load bf (Rect.unit (s := S32768) o.1 S16.size o.2).toLoadRect (View.loadsAt_vmem h_S16)) fun v =>
            SparseCore.vectorStoreIdx cv ![posC X k N] v (itMask (thr X) v lim (posC X k N)) false h.1 (View.stores_vmem_bits_univ h_S8192 rfl) >>= fun _ =>
            SparseCore.vectorStoreIdx ci ![posC X k N] (numC n) (itMask (thr X) v lim (posC X k N)) false h.1 (View.stores_vmem_bits_univ h_S8192 rfl) >>= fun _ =>
            KK (itAddr (thr X) v lim (posC X k N)) (itRow (numC n))) Q) := by
  subst hlim
  have ho' : o.1 0 + 32768 * s = 16 * rowNo k N := by rw [hn]; exact ho
  have hm := itMask_eq hF hk hN ho'
  unfold heldC
  iintro ⟨Hb, Hv, Hi⟩ Hk
  iapply (wp_own_load (M := bf)) $$ Hb
  iintro Hb
  iapply (wp_own_sidx (M := cv) (posC_mod hF hk hN)) $$ Hv
  iintro Hv
  iapply (wp_own_sidx (M := ci) (posC_mod hF hk hN)) $$ Hi
  iintro Hi
  rw [itAddr_eq hF hk hN ho', itRow_eq, cv_step hF hk hN d hd hm ho', ci_step hF hk hN d hd hm hn]
  iapply Hk
  isplitl [Hb]
  · iexact Hb
  · isplitl [Hv] <;> iassumption

/-- The items of one stream of one trip. -/
theorem wp_items {bd : Option 𝒱₀.V} {X : ℕ → Elt F .f32} (hF : Fits X) {k s : ℕ} (hk : k < 8) {lim : BitVec 32} (hlim : lim = BitVec.ofNat 32 (1024 * (k + 1)))
    {KK : IVec S16 32 → IVec S16 32 → Prog (TpuEff nD τ sig (Elt F) Λ₀ c.2) β} :
    ∀ (os : List (Off 32768)) (N n : ℕ) (d : ℕ → ℕ) (_ : N + os.length ≤ 4096) (_ : d k = N) (_ : okOff s os n) (_ : ∀ j < os.length, rowNo k (N + j) = n + j)
      (h : k0_chk1 (posC X k N)),
    heldC c bf cv ci X s d
      ⊢ iprop((heldC c bf cv ci X s (Function.update d k (N + os.length))
          -∗ wp frame (wpE (defs₀ (F := F)) 𝒱₀ c bd) Set.univ (KK (posC X k (N + os.length)) (numC (n + os.length))) Q)
        -∗ wp frame (wpE (defs₀ (F := F)) 𝒱₀ c bd) Set.univ (items bf cv ci (thr X) lim KK os (posC X k N) (numC n) h) Q) := by
  intro os
  induction os with
  | nil =>
    intro N n d _ hd _ _ h
    simp only [List.length_nil, Nat.add_zero]
    rw [show Function.update d k N = d by rw [← hd]; exact Function.update_eq_self _ _]
    iintro H Hk
    iapply Hk; iexact H
  | cons o os ih =>
    intro N n d hN hd ho hr h
    have hr0 : rowNo k N = n := hr 0 (by simp)
    rw [List.length_cons] at hN ⊢
    cases os with
    | nil =>
      simp only [List.length_nil, Nat.zero_add]
      exact wp_item (h := h) hF hk (by omega) hd ho.1 hr0 hlim
    | cons o' os =>
      have hr1 : ∀ j < (o' :: os).length, rowNo k (N + 1 + j) = n + 1 + j := fun j hj => by
        rw [show N + 1 + j = N + (j + 1) by omega, hr (j + 1) (by simp only [List.length_cons] at hj ⊢; omega)]; omega
      have hc : k0_chk1 (posC X k (N + 1)) := chk_posC hF hk (by omega)
      have ih' := ih (N + 1) (n + 1) (Function.update d k (N + 1)) (by omega) (Function.update_self ..) ho.2 hr1 hc
      iintro H Hk
      iapply (wp_item (h := h) (KK := fun a n => chk a fun h' => items bf cv ci (thr X) lim KK (o' :: os) a n h') hF hk (by omega) hd ho.1 hr0 hlim) $$ H
      iintro H
      rw [wp_chk hc]
      iapply ih' $$ H
      rw [Function.update_idem, show N + 1 + (o' :: os).length = N + ((o' :: os).length + 1) by omega, show n + 1 + (o' :: os).length = n + ((o' :: os).length + 1) by omega]
      iexact Hk

/-- What the streams have taken when stream `k` of a trip is next. -/
def dk (N k : ℕ) : ℕ → ℕ := fun k' => if k' < k then N + 4 else N

theorem dk_update (N k : ℕ) : Function.update (dk N k) k (N + 4) = dk N (k + 1) := by
  funext k'
  unfold dk
  by_cases h : k' = k
  · subst h; rw [Function.update_self, if_pos (Nat.lt_succ_self _)]
  · rw [Function.update_of_ne h]
    refine if_congr ?_ rfl rfl
    omega

theorem dk_self (N k : ℕ) : dk N k k = N := if_neg (lt_irrefl _)

theorem okOff4 {s n : ℕ} {o0 o1 o2 o3 : Off 32768} (h0 : o0.1 0 + 32768 * s = 16 * n) (h1 : o1.1 0 + 32768 * s = 16 * (n + 1))
    (h2 : o2.1 0 + 32768 * s = 16 * (n + 2)) (h3 : o3.1 0 + 32768 * s = 16 * (n + 3)) : okOff s [o0, o1, o2, o3] n := ⟨h0, h1, h2, h3, trivial⟩

theorem trips10 : k0_t10_loop.trips = 64 := by decide

theorem rowNo_of {k s r : ℕ} (hr : r < 256) : rowNo k (256 * s + r) = 2048 * s + r + 256 * k := by
  unfold rowNo; omega

/-- The items one trip takes of a stream. -/
theorem wp_stream {bd : Option 𝒱₀.V} {X : ℕ → Elt F .f32} (hF : Fits X) (k : ℕ) (hk : k < 8) (lim : BitVec 32) (hlim : lim = BitVec.ofNat 32 (1024 * (k + 1)))
    {s r : ℕ} (hs : s < 16) (hr : r < 64) (m m' : ℕ) (hm : m = 2048 * s + 4 * r + 256 * k) (hm' : m' = 2048 * s + 4 * (r + 1) + 256 * k) {os : List (Off 32768)}
    (hos : os.length = 4 ∧ okOff s os (2048 * s + 4 * r + 256 * k)) {h : k0_chk1 (posC X k (256 * s + 4 * r))}
    {KK : IVec S16 32 → IVec S16 32 → Prog (TpuEff nD τ sig (Elt F) Λ₀ c.2) β} :
    heldC c bf cv ci X s (dk (256 * s + 4 * r) k)
      ⊢ iprop((heldC c bf cv ci X s (dk (256 * s + 4 * r) (k + 1)) -∗ wp frame (wpE (defs₀ (F := F)) 𝒱₀ c bd) Set.univ (KK (posC X k (256 * s + 4 * (r + 1))) (numC m')) Q)
        -∗ wp frame (wpE (defs₀ (F := F)) 𝒱₀ c bd) Set.univ (items bf cv ci (thr X) lim KK os (posC X k (256 * s + 4 * r)) (numC m) h) Q) := by
  subst hm hm'
  have := wp_items (bf := bf) (cv := cv) (ci := ci) (bd := bd) (Q := Q) (KK := KK) hF (s := s) hk hlim os (256 * s + 4 * r) (2048 * s + 4 * r + 256 * k) (dk (256 * s + 4 * r) k) (by rw [hos.1]; omega)
    (dk_self _ _) hos.2 (fun j hj => by rw [hos.1] at hj; rw [show 256 * s + 4 * r + j = 256 * s + (4 * r + j) by omega, rowNo_of (by omega)]; omega) h
  rw [hos.1, dk_update] at this
  rw [show 256 * s + 4 * (r + 1) = 256 * s + 4 * r + 4 by omega, show 2048 * s + 4 * (r + 1) + 256 * k = 2048 * s + 4 * r + 256 * k + 4 by omega]
  exact this

/-- One trip. -/
theorem wp_trip {bd : Option 𝒱₀.V} {X : ℕ → Elt F .f32} (hF : Fits X) {s : ℕ} (hs : s < 16) (r : ℕ) (hr : r < 64) (os : Fin 8 → List (Off 32768))
    (hos : ∀ k : Fin 8, (os k).length = 4 ∧ okOff s (os k) (2048 * s + 4 * r + 256 * k.val)) {Q : St8 → sProp (MT nD τ sig (HIx 1) (Elt F) ℕ UU ℕ)} :
    heldC c bf cv ci X s (fun _ => 256 * s + 4 * r)
      ⊢ iprop((heldC c bf cv ci X s (fun _ => 256 * s + 4 * (r + 1)) -∗ Q (stC X (256 * s + 4 * (r + 1)) (2048 * s + 4 * (r + 1))))
        -∗ wp frame (wpE (defs₀ (F := F)) 𝒱₀ c bd) Set.univ (tripC bf cv ci (thr X) os (stC X (256 * s + 4 * r) (2048 * s + 4 * r))) Q) := by
  have hc : ∀ k < 8, k0_chk1 (posC X k (256 * s + 4 * r)) := fun k hk => chk_posC hF hk (by omega)
  have e0 : heldC c bf cv ci X s (fun _ => 256 * s + 4 * r) ⊢ heldC c bf cv ci X s (dk (256 * s + 4 * r) 0) := by
    rw [show dk (256 * s + 4 * r) 0 = fun _ => 256 * s + 4 * r from funext fun k => if_neg (by omega)]
  have e8 : heldC c bf cv ci X s (dk (256 * s + 4 * r) 8) ⊢ heldC c bf cv ci X s (fun _ => 256 * s + 4 * (r + 1)) := by
    have : ∀ (d d' : ℕ → ℕ), (∀ k < 8, d k = d' k) → ∀ p < 8192, entC X d p = entC X d' p := fun d d' h p hp => by
      unfold entC; rw [h _ (by omega)]
    have h' : ∀ k < 8, dk (256 * s + 4 * r) 8 k = 256 * s + 4 * (r + 1) := fun k hk => (if_pos hk).trans (by omega)
    unfold heldC
    iintro ⟨Hb, Hv, Hi⟩
    isplitl [Hb]
    · iexact Hb
    · isplitl [Hv]
      · iapply (own_congr (M := cv) (g := cvC X (dk (256 * s + 4 * r) 8)) (g' := cvC X fun _ => 256 * s + 4 * (r + 1)) fun p hp => congrArg Prod.fst (this _ _ h' p hp)) $$ Hv
      · iapply (own_congr (M := ci) (g := ciC X (dk (256 * s + 4 * r) 8)) (g' := ciC X fun _ => 256 * s + 4 * (r + 1)) fun p hp => congrArg Prod.snd (this _ _ h' p hp)) $$ Hi
  unfold tripC stC
  simp only
  rw [wp_chk (hc 7 (by decide)), wp_chk (hc 6 (by decide)), wp_chk (hc 5 (by decide)), wp_chk (hc 4 (by decide)), wp_chk (hc 3 (by decide)),
    wp_chk (hc 2 (by decide)), wp_chk (hc 1 (by decide)), wp_chk (hc 0 (by decide))]
  iintro H Hk
  ihave H := e0 $$ H
  iapply (wp_stream hF 0 (by decide) 1024#32 rfl hs hr (2048 * s + 4 * r + 0) (2048 * s + 4 * (r + 1) + 0) rfl rfl (hos 0)) $$ H
  iintro H
  iapply (wp_stream hF 1 (by decide) 2048#32 rfl hs hr (2048 * s + 4 * r + 256) (2048 * s + 4 * (r + 1) + 256) rfl rfl (hos 1)) $$ H
  iintro H
  iapply (wp_stream hF 2 (by decide) 3072#32 rfl hs hr (2048 * s + 4 * r + 512) (2048 * s + 4 * (r + 1) + 512) rfl rfl (hos 2)) $$ H
  iintro H
  iapply (wp_stream hF 3 (by decide) 4096#32 rfl hs hr (2048 * s + 4 * r + 768) (2048 * s + 4 * (r + 1) + 768) rfl rfl (hos 3)) $$ H
  iintro H
  iapply (wp_stream hF 4 (by decide) 5120#32 rfl hs hr (2048 * s + 4 * r + 1024) (2048 * s + 4 * (r + 1) + 1024) rfl rfl (hos 4)) $$ H
  iintro H
  iapply (wp_stream hF 5 (by decide) 6144#32 rfl hs hr (2048 * s + 4 * r + 1280) (2048 * s + 4 * (r + 1) + 1280) rfl rfl (hos 5)) $$ H
  iintro H
  iapply (wp_stream hF 6 (by decide) 7168#32 rfl hs hr (2048 * s + 4 * r + 1536) (2048 * s + 4 * (r + 1) + 1536) rfl rfl (hos 6)) $$ H
  iintro H
  iapply (wp_stream hF 7 (by decide) 8192#32 rfl hs hr (2048 * s + 4 * r + 1792) (2048 * s + 4 * (r + 1) + 1792) rfl rfl (hos 7)) $$ H
  iintro H
  rw [wp_ret]
  imodintro
  ihave H := e8 $$ H
  iapply Hk
  iexact H

/-- The places of a trip's rows. -/
theorem offs10_ok (s : ℕ) (i : Fin k0_t10_loop.trips) (k : Fin 8) : (offs10 i k).length = 4 ∧ okOff s (offs10 i k) (2048 * s + 4 * i.val + 256 * k.val) := by
  fin_cases k <;> refine ⟨rfl, okOff4 ?_ ?_ ?_ ?_⟩ <;>
    simp only [k0_off9_eq, k0_off10_eq, k0_off11_eq, k0_off12_eq, k0_off13_eq, k0_off14_eq, k0_off15_eq, k0_off16_eq, k0_off17_eq, k0_off18_eq, k0_off19_eq, k0_off20_eq,
      k0_off21_eq, k0_off22_eq, k0_off23_eq, k0_off24_eq, k0_off25_eq, k0_off26_eq, k0_off27_eq, k0_off28_eq, k0_off29_eq, k0_off30_eq, k0_off31_eq, k0_off32_eq,
      k0_off33_eq, k0_off34_eq, k0_off35_eq, k0_off36_eq, k0_off37_eq, k0_off38_eq, k0_off39_eq, k0_off40_eq, Matrix.cons_val_zero] <;> omega

/-- The compaction of one segment. -/
theorem wp_comp {bd : Option 𝒱₀.V} {X : ℕ → Elt F .f32} (hF : Fits X) {s : ℕ} (hs : s < 16) {KK : St8 → Prog (TpuEff nD τ sig (Elt F) Λ₀ c.2) β} :
    heldC c bf cv ci X s (fun _ => 256 * s)
      ⊢ iprop((heldC c bf cv ci X s (fun _ => 256 * (s + 1)) -∗ wp frame (wpE (defs₀ (F := F)) 𝒱₀ c bd) Set.univ (KK (stC X (256 * (s + 1)) (2048 * s + 256))) Q)
        -∗ wp frame (wpE (defs₀ (F := F)) 𝒱₀ c bd) Set.univ (compC bf cv ci (thr X) (stC X (256 * s) (2048 * s)) >>= KK) Q) := by
  unfold compC
  exact wp_loopP (bd := bd) (Q := Q) (kk := KK) k0_t10_loop k0_t10_ok trips10 (init := stC X (256 * s) (2048 * s)) (body := fun i s => tripC bf cv ci (thr X) (offs10 i) s)
    (fun r => stC X (256 * s + 4 * r) (2048 * s + 4 * r)) rfl (fun r => heldC c bf cv ci X s (fun _ => 256 * s + 4 * r))
    (fun k hk R => wp_trip hF hs k.val hk (offs10 k) (offs10_ok s k))

theorem bump_stC {X : ℕ → Elt F .f32} (N s : ℕ) : bump (stC X N (2048 * s + 256)) = stC X N (2048 * (s + 1)) := by
  have h : ∀ n, k0_pay211 (numC n) = numC (n + 1792) := fun n => by
    funext x
    show BitVec.ofNat 32 n + 1792#32 = BitVec.ofNat 32 (n + 1792)
    rw [BitVec.ofNat_add]
  show (posC X 0 N, posC X 1 N, posC X 2 N, posC X 3 N, posC X 4 N, posC X 5 N, posC X 6 N, posC X 7 N, k0_pay211 (numC (2048 * s + 256 + 0)), k0_pay211 (numC (2048 * s + 256 + 256)),
    k0_pay211 (numC (2048 * s + 256 + 512)), k0_pay211 (numC (2048 * s + 256 + 768)), k0_pay211 (numC (2048 * s + 256 + 1024)), k0_pay211 (numC (2048 * s + 256 + 1280)),
    k0_pay211 (numC (2048 * s + 256 + 1536)), k0_pay211 (numC (2048 * s + 256 + 1792))) = _
  rw [h, h, h, h, h, h, h, h]
  unfold stC
  refine Prod.ext rfl <| Prod.ext rfl <| Prod.ext rfl <| Prod.ext rfl <| Prod.ext rfl <| Prod.ext rfl <| Prod.ext rfl <| Prod.ext rfl <| Prod.ext ?_ <| Prod.ext ?_ <|
    Prod.ext ?_ <| Prod.ext ?_ <| Prod.ext ?_ <| Prod.ext ?_ <| Prod.ext ?_ ?_ <;> exact congrArg numC (by omega)

theorem cands_zero (X : ℕ → Elt F .f32) (k l : ℕ) : cands X k l 0 = [] := rfl

theorem st8₀_eq (X : ℕ → Elt F .f32) : st8₀ = stC X 0 0 := by
  have hp : ∀ k, posC X k 0 = fun i => BitVec.ofNat 32 (1024 * k + (i 0).val) := fun k => by
    funext i; unfold posC; rw [cands_zero]; rfl
  unfold stC
  simp only [hp]
  unfold st8₀
  have hn : ∀ n : ℕ, numC n = fun _ => BitVec.ofNat 32 n := fun _ => rfl
  simp only [hn]
  have hi : ∀ (i : S16.Idx) (n : ℕ) , (iota .scVector S16 32 [0] iota_S16_d0_w32_scVector i + BitVec.ofNat 32 n) = BitVec.ofNat 32 (n + (i 0).val) := fun i n => by
    show BitVec.ofNat 32 (0 * 16 + (i 0).val) + BitVec.ofNat 32 n = _
    rw [← BitVec.ofNat_add]; congr 1; omega
  refine Prod.ext (funext fun i => ?_) <| Prod.ext (funext fun i => ?_) <| Prod.ext (funext fun i => ?_) <| Prod.ext (funext fun i => ?_) <| Prod.ext (funext fun i => ?_) <|
    Prod.ext (funext fun i => ?_) <| Prod.ext (funext fun i => ?_) <| Prod.ext (funext fun i => ?_) <| Prod.ext (funext fun i => ?_) <| Prod.ext (funext fun i => ?_) <|
    Prod.ext (funext fun i => ?_) <| Prod.ext (funext fun i => ?_) <| Prod.ext (funext fun i => ?_) <| Prod.ext (funext fun i => ?_) <| Prod.ext (funext fun i => ?_) (funext fun i => ?_)
  · exact hi i 0
  · exact hi i 1024
  · exact hi i 2048
  · exact hi i 3072
  · exact hi i 4096
  · exact hi i 5120
  · exact hi i 6144
  · exact hi i 7168
  all_goals rfl

end Cert.Proof.Run

end
-- ==== Proof.Merge.lean ====
/-
  The maxima of a segment, the filling of a pair of references, and the merge of a block, each from and to held references.
-/
module

public import proofs.«01_k».proof.Proof.Steps

@[expose] public section
noncomputable section
namespace Cert.Proof.Run
open Cert.KernelIdeal Cert.KernelIdeal.Gen
open Idealize.ShloMosaic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] {c : Thread nD τ} {β : Type}
variable {Q : β → sProp (MT nD τ sig (HIx 1) (Elt F) ℕ UU ℕ)}

/-! ## The maxima -/

variable {bf : Memref sig c.2.kind .vmem S32768 .f32}

theorem wp_rowMax {bd : Option 𝒱₀.V} {g : ℕ → Elt F .f32} {K : V4 F → Prog (TpuEff nD τ sig (Elt F) Λ₀ c.2) β} : ∀ (os : List (Off 32768)) (s : V4 F),
    own c bf g ⊢ iprop((own c bf g -∗ wp frame (wpE (defs₀ (F := F)) 𝒱₀ c bd) Set.univ (K (rowMaxP g os s)) Q)
      -∗ wp frame (wpE (defs₀ (F := F)) 𝒱₀ c bd) Set.univ (rowMax bf K os s) Q) := by
  intro os
  induction os with
  | nil => intro s; iintro H Hk; iapply Hk; iexact H
  | cons o os ih =>
    rintro ⟨a, b, d, e⟩
    iintro H Hk
    iapply (wp_own_load (M := bf)) $$ H
    iintro H
    iapply (ih (b, d, e, maximumf a (get g (o.1 0)))) $$ H
    iexact Hk

/-- The maxima of one segment. -/
theorem wp_seg {bd : Option 𝒱₀.V} {g : ℕ → Elt F .f32} {KK : V4 F → Prog (TpuEff nD τ sig (Elt F) Λ₀ c.2) β} :
    own c bf g ⊢ iprop((own c bf g -∗ wp frame (wpE (defs₀ (F := F)) 𝒱₀ c bd) Set.univ (KK (segP g)) Q)
      -∗ wp frame (wpE (defs₀ (F := F)) 𝒱₀ c bd) Set.univ (segC bf >>= KK) Q) := by
  unfold segC segP
  refine wp_loopP k0_t3_loop k0_t3_ok rfl (fun k => iterTo (grpP g) k ninf4) rfl (fun _ => own c bf g) (fun k hk R => ?_)
  rw [iterTo_succ]
  unfold grpC grpP
  iintro H Hk
  iapply (wp_loopP (Q := R) k0_t4_loop k0_t4_ok rfl (fun j => iterTo (fun j a => rowMaxP g (offs3 k j) a) j ninf4) rfl (fun _ => own c bf g) (fun j hj R' => by
    rw [iterTo_succ]
    iintro H Hk
    iapply (wp_rowMax (K := .ret)) $$ H
    iintro H
    rw [wp_ret]
    imodintro
    iapply Hk; iexact H)) $$ H
  iintro H
  rw [wp_ret]
  imodintro
  iapply Hk; iexact H

/-! ## Stores -/

theorem wp_putC {bd : Option 𝒱₀.V} {n : ℕ} {e : EltTy} {M : Memref sig c.2.kind .vmem ⟨1, ![n]⟩ e} {he : e.bits = 32} {o : Off n} {w : Vec F S16 e} {g : ℕ → Elt F e}
    {K : Prog (TpuEff nD τ sig (Elt F) Λ₀ c.2) β} :
    own c M g ⊢ iprop((own c M (put g (o.1 0) w) -∗ wp frame (wpE (defs₀ (F := F)) 𝒱₀ c bd) Set.univ K Q)
      -∗ wp frame (wpE (defs₀ (F := F)) 𝒱₀ c bd) Set.univ (putC M he o w K) Q) := by
  unfold putC
  iintro H Hk
  iapply (wp_own_load (M := M)) $$ H
  iintro H
  iapply (wp_own_store (M := M)) $$ H
  iexact Hk

/-- A pair of references held, of values and of row numbers. -/
def heldR (c : Thread nD τ) {n : ℕ} (rv : Memref sig c.2.kind .vmem ⟨1, ![n]⟩ .f32) (ri : Memref sig c.2.kind .vmem ⟨1, ![n]⟩ .i32) (r : RS F) :
    sProp (MT nD τ sig (HIx 1) (Elt F) ℕ UU ℕ) :=
  iprop(own c rv r.1 ∗ own c ri r.2)

/-- A pair of references filled with dummies. -/
theorem wp_fill {bd : Option 𝒱₀.V} {n : ℕ} {rv : Memref sig c.2.kind .vmem ⟨1, ![n]⟩ .f32} {ri : Memref sig c.2.kind .vmem ⟨1, ![n]⟩ .i32} (l : Scf.Loop 32) (hok : l.OK)
    (m : ℕ) (hm : l.trips = m) (hn : 16 * m = n) (o : Fin l.trips → Off n) (ho : ∀ r, (o r).1 0 = 16 * r.val) (r : RS F) {KK : BitVec 32 → Prog (TpuEff nD τ sig (Elt F) Λ₀ c.2) β} :
    heldR c rv ri r ⊢ iprop((heldR c rv ri (fun _ => (dum (F := F)).1, fun _ => (dum (F := F)).2) -∗ wp frame (wpE (defs₀ (F := F)) 𝒱₀ c bd) Set.univ (KK 0#32) Q)
      -∗ wp frame (wpE (defs₀ (F := F)) 𝒱₀ c bd) Set.univ (Scf.Loop.for l hok 0#32 (fun r _ => fillC rv ri (o r)) >>= KK) Q) := by
  have e : ∀ {γ : Type} (g : ℕ → γ) (x : γ) (k : ℕ), put (fun p => if p < 16 * k then x else g p) (16 * k) (fun _ => x) = fun p => if p < 16 * (k + 1) then x else g p := by
    intro γ g x k
    funext p
    show (if 16 * k ≤ p ∧ p < 16 * k + 16 then x else if p < 16 * k then x else g p) = _
    by_cases h : p < 16 * k
    · rw [if_neg (by omega), if_pos h, if_pos (by omega)]
    · by_cases h2 : p < 16 * (k + 1)
      · rw [if_pos (by omega), if_pos h2]
      · rw [if_neg (by omega), if_neg h, if_neg h2]
  iintro H Hk
  iapply (wp_loopP l hok hm (fun _ => 0#32) rfl (fun k => heldR c rv ri ((fun p => if p < 16 * k then (dum (F := F)).1 else r.1 p), (fun p => if p < 16 * k then (dum (F := F)).2 else r.2 p)))
    (fun k hk R => by
      unfold heldR fillC
      iintro ⟨Hv, Hi⟩ Hk
      iapply (wp_putC (M := rv)) $$ Hv
      iintro Hv
      iapply (wp_putC (M := ri)) $$ Hi
      iintro Hi
      rw [wp_ret]
      imodintro
      iapply Hk
      isplitl [Hv]
      · iapply (own_congr (M := rv) (g := put (fun p => if p < 16 * k.val then (dum (F := F)).1 else r.1 p) ((o k).1 0) k0_pay1)
          (fun p _ => by rw [ho k]; exact congrFun (e r.1 (dum (F := F)).1 k.val) p)) $$ Hv
      · iapply (own_congr (M := ri) (g := put (fun p => if p < 16 * k.val then (dum (F := F)).2 else r.2 p) ((o k).1 0) k0_pay2)
          (fun p _ => by rw [ho k]; exact congrFun (e r.2 (dum (F := F)).2 k.val) p)) $$ Hi)) $$ [H]
  · simp only [Nat.mul_zero, Nat.not_lt_zero, if_false]
    iexact H
  · iintro H
    iapply Hk
    unfold heldR
    icases H with ⟨Hv, Hi⟩
    isplitl [Hv]
    · iapply (own_congr (M := rv) (fun p hp => if_pos (by omega))) $$ Hv
    · iapply (own_congr (M := ri) (fun p hp => if_pos (by omega))) $$ Hi

/-! ## The merge -/

variable {cv : Memref sig c.2.kind .vmem S8192 .f32} {ci : Memref sig c.2.kind .vmem S8192 .i32}
variable {rv : Memref sig c.2.kind .vmem S1024 .f32} {ri : Memref sig c.2.kind .vmem S1024 .i32}

theorem wp_loadsC {bd : Option 𝒱₀.V} {o : ℕ → Off 8192} {C : RS F} : ∀ (n u : ℕ) (K : Tr (PV F) n → Prog (TpuEff nD τ sig (Elt F) Λ₀ c.2) β),
    heldR c cv ci C ⊢ iprop((heldR c cv ci C -∗ wp frame (wpE (defs₀ (F := F)) 𝒱₀ c bd) Set.univ (K (loadsP C (fun u => (o u).1 0) n u)) Q)
      -∗ wp frame (wpE (defs₀ (F := F)) 𝒱₀ c bd) Set.univ (loadsC cv ci o n u K) Q) := by
  intro n
  induction n with
  | zero =>
    intro u K
    unfold heldR loadsC
    iintro ⟨Hv, Hi⟩ Hk
    iapply (wp_own_load (M := cv)) $$ Hv
    iintro Hv
    iapply (wp_own_load (M := ci)) $$ Hi
    iintro Hi
    iapply Hk
    isplitl [Hv] <;> iassumption
  | succ n ih =>
    intro u K
    iintro H Hk
    iapply (ih u fun l => loadsC cv ci o n (u + 2 ^ n) fun r => K (l, r)) $$ H
    iintro H
    iapply (ih (u + 2 ^ n) fun r => K (loadsP C (fun u => (o u).1 0) n u, r)) $$ H
    iexact Hk

theorem wp_put2 {bd : Option 𝒱₀.V} {o : Off 1024} {w : PV F} {r : RS F} {K : Prog (TpuEff nD τ sig (Elt F) Λ₀ c.2) β} :
    heldR c rv ri r ⊢ iprop((heldR c rv ri (rowS r (o.1 0) w) -∗ wp frame (wpE (defs₀ (F := F)) 𝒱₀ c bd) Set.univ K Q)
      -∗ wp frame (wpE (defs₀ (F := F)) 𝒱₀ c bd) Set.univ (putC rv rfl o w.1 <| putC ri rfl o w.2 K) Q) := by
  unfold heldR
  iintro ⟨Hv, Hi⟩ Hk
  iapply (wp_putC (M := rv)) $$ Hv
  iintro Hv
  iapply (wp_putC (M := ri)) $$ Hi
  iintro Hi
  iapply Hk
  isplitl [Hv]
  · iexact Hv
  · iexact Hi

theorem wp_mergesC {bd : Option 𝒱₀.V} {o : ℕ → Off 1024} : ∀ (n u : ℕ) (t : Tr (PV F) n) (r : RS F) (K : Prog (TpuEff nD τ sig (Elt F) Λ₀ c.2) β),
    heldR c rv ri r ⊢ iprop((heldR c rv ri (mergesP (fun u => (o u).1 0) n u t r) -∗ wp frame (wpE (defs₀ (F := F)) 𝒱₀ c bd) Set.univ K Q)
      -∗ wp frame (wpE (defs₀ (F := F)) 𝒱₀ c bd) Set.univ (mergesC rv ri o n u t K) Q) := by
  intro n
  induction n with
  | zero =>
    intro u t r K
    unfold mergesC
    iintro H Hk
    unfold heldR
    icases H with ⟨Hv, Hi⟩
    iapply (wp_own_load (M := rv)) $$ Hv
    iintro Hv
    iapply (wp_own_load (M := ri)) $$ Hi
    iintro Hi
    iapply (wp_put2 (rv := rv) (ri := ri) (r := r) (w := hiV (rowG r ((o u).1 0)) t)) $$ [Hv Hi]
    · unfold heldR
      isplitl [Hv] <;> iassumption
    · iexact Hk
  | succ n ih =>
    intro u t r K
    iintro H Hk
    iapply (ih u t.2 r (mergesC rv ri o n (u + 2 ^ n) t.1 K)) $$ H
    iintro H
    iapply (ih (u + 2 ^ n) t.1 _ K) $$ H
    iexact Hk

theorem wp_stageC {bd : Option 𝒱₀.V} {K : Prog (TpuEff nD τ sig (Elt F) Λ₀ c.2) β} : ∀ (os : List (Off 1024 × Off 1024)) (r : RS F),
    heldR c rv ri r ⊢ iprop((heldR c rv ri (stageP (os.map fun q => (q.1.1 0, q.2.1 0)) r) -∗ wp frame (wpE (defs₀ (F := F)) 𝒱₀ c bd) Set.univ K Q)
      -∗ wp frame (wpE (defs₀ (F := F)) 𝒱₀ c bd) Set.univ (stageC rv ri K os) Q) := by
  intro os
  induction os with
  | nil => intro r; iintro H Hk; iapply Hk; iexact H
  | cons q os ih =>
    obtain ⟨o, o'⟩ := q
    intro r
    unfold stageC
    iintro H Hk
    unfold heldR
    icases H with ⟨Hv, Hi⟩
    iapply (wp_own_load (M := rv)) $$ Hv
    iintro Hv
    iapply (wp_own_load (M := ri)) $$ Hi
    iintro Hi
    iapply (wp_own_load (M := rv)) $$ Hv
    iintro Hv
    iapply (wp_own_load (M := ri)) $$ Hi
    iintro Hi
    iapply (wp_put2 (rv := rv) (ri := ri) (r := r) (w := hiV (rowG r (o.1 0)) (rowG r (o'.1 0)))) $$ [Hv Hi]
    · unfold heldR
      isplitl [Hv] <;> iassumption
    · iintro H
      iapply (wp_put2 (rv := rv) (ri := ri) (w := loV (rowG r (o.1 0)) (rowG r (o'.1 0)))) $$ H
      iintro H
      iapply (ih _) $$ H
      unfold heldR
      iexact Hk

/-- A block of candidates is sorted and merged into the result. -/
theorem wp_blockC {bd : Option 𝒱₀.V} {C r : RS F} {b : Fin k0_t12_loop.trips} {Q : BitVec 32 → sProp (MT nD τ sig (HIx 1) (Elt F) ℕ UU ℕ)} :
    iprop(heldR c cv ci C ∗ heldR c rv ri r) ⊢ iprop(((heldR c cv ci C ∗ heldR c rv ri (blockP C b r)) -∗ Q 0#32)
      -∗ wp frame (wpE (defs₀ (F := F)) 𝒱₀ c bd) Set.univ (blockC cv ci rv ri b) Q) := by
  unfold blockC blockP
  iintro ⟨HC, HR⟩ Hk
  iapply (wp_loadsC 4 0 _) $$ HC
  iintro HC
  iapply (wp_mergesC 4 0 _ r _) $$ HR
  iintro HR
  iapply (wp_loopP (Q := Q) k0_t13_loop k0_t13_ok rfl (fun _ => 0#32) rfl (fun s => heldR c rv ri (iterTo (fun s r => stageP (prs76 s) r) s
      (mergesP (fun u => (offsR u).1 0) 4 0 (srtT hiV loV true 4 (loadsP C (fun u => (offs75 b u).1 0) 4 0)) r)))
    (fun s _ R => by
      rw [iterTo_succ]
      iintro H Hk
      iapply (wp_stageC (K := .ret 0#32) (offs76 s) _) $$ H
      iintro H
      rw [wp_ret]
      imodintro
      iapply Hk; iexact H)) $$ [HR]
  · iexact HR
  iintro HR
  rw [wp_ret]
  imodintro
  iapply Hk
  isplitl [HC] <;> iassumption

end Cert.Proof.Run

end
-- ==== Proof.Batch.lean ====
/-
  A task's batches: two passes over the input's segments, then the merge and the results written out.
-/
module

public import proofs.«01_k».proof.Proof.Copy
public import proofs.«01_k».proof.Proof.Compact
public import proofs.«01_k».proof.Proof.Merge

@[expose] public section
noncomputable section
namespace Cert.Proof.Run
open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Transfers

variable {F : FTy → Type} [FloatOps F] {d : Dev nD}

section
variable {a : Fin τ.nSC} {b : Fin τ.nSub} {β : Type}
variable {Q : β → sProp (MT nD τ sig (HIx 1) (Elt F) ℕ UU ℕ)}

/-- Segment `s` on its way if there is one. -/
def pend (bf : Memref sig .scVector .vmem S32768 .f32) (sm : DmaSems sig S_) (q : PosShare TreeShare) (x : Memref sig .scVector .hbm S64x524288 .f32)
    (f : Buf (Elt F) (x.view.loc (V d a b))) (n s : ℕ) : sProp (MT nD τ sig (HIx 1) (Elt F) ℕ UU ℕ) :=
  if s < 16 then coming bf sm q x f n s else idle bf sm q x f

variable {bf : Memref sig .scVector .vmem S32768 .f32} {hb : bf.IsWhole} {sm : DmaSems sig S_} {q : PosShare TreeShare} {x : Memref sig .scVector .hbm S64x524288 .f32}
  {f : Buf (Elt F) (x.view.loc (V d a b))} {K' : Prog (TpuEff nD τ sig (Elt F) Λ₀ (.scVector a b)) β} {bd : Option 𝒱₀.V}

theorem pend_lt {n s : ℕ} (h : s < 16) : pend bf sm q x f n s = coming bf sm q x f n s := by
  unfold pend; exact if_pos h

theorem pend_ge {n s : ℕ} (h : ¬ s < 16) : pend bf sm q x f n s = idle bf sm q x f := by
  unfold pend; exact if_neg h

/-- A segment's copy is started if there is one. -/
theorem wp_nextC {cnd : Prop} [Decidable cnd] {o : cnd → Off2} {n s : ℕ} (hc : cnd ↔ s < 16) (h0 : ∀ h, (o h).1 0 = n) (h1 : ∀ h, (o h).1 1 = s * 32768) (hn : n < 64) :
    idle bf sm q x f ⊢ iprop((pend bf sm q x f n s -∗ wp frame (wpE (defs₀ (F := F)) 𝒱₀ (V d a b) bd) Set.univ K' Q)
      -∗ wp frame (wpE (defs₀ (F := F)) 𝒱₀ (V d a b) bd) Set.univ (nextC x cnd o bf hb sm K') Q) := by
  unfold nextC
  by_cases h : cnd
  · rw [dif_pos h, pend_lt (hc.mp h)]
    exact wp_startC (h0 h) (h1 h) hn (hc.mp h)
  · rw [dif_neg h, pend_ge (fun hs => h (hc.mpr hs))]
    iintro H Hk
    iapply Hk
    iexact H

end

/-- The batch task `i` handles at trip `t`. -/
def row (i : grid0.Coords) (t : ℕ) : ℕ := 4 * (i 1).val + 2 * (i 0).val + t

theorem row_lt (i : grid0.Coords) {t : ℕ} (h : t < 2) : row i t < 64 := by
  have h0 : (i 0).val < 2 := (i 0).isLt
  have h1 : (i 1).val < 16 := (i 1).isLt
  unfold row; omega

section
variable (i : grid0.Coords) (arg2 : Memref sig .scVector .hbm S64x524288 .f32) (arg3 : Memref sig .scVector .hbm S64x1024 .f32) (arg4 : Memref sig .scVector .hbm S64x1024 .i32) (arg5 : Memref sig .scVector .vmem S32768 .f32) (harg5 : arg5.IsWhole) (arg6 : Memref sig .scVector .vmem S32768 .f32) (harg6 : arg6.IsWhole) (arg7 : Memref sig .scVector .vmem S8192 .f32) (arg8 : Memref sig .scVector .vmem S8192 .i32) (arg9 : Memref sig .scVector .vmem S1024 .f32) (harg9 : arg9.IsWhole) (arg10 : Memref sig .scVector .vmem S1024 .i32) (harg10 : arg10.IsWhole) (arg11 : DmaSems sig S_) (arg12 : DmaSems sig S_) (v117_r0 : DmaSems sig S_) (v117_r1 : DmaSems sig S_)
variable (q5 q6 : PosShare TreeShare) (f : Buf (Elt F) (arg2.view.loc (V d ((i 0).castLE hcore0) ((i 1).castLE hsub0)))) (O : CellTallies nD τ sig (HIx 1)) (W : Waits sig (HIx 1))

/-- The thread of task `i`. -/
abbrev Vi (d : Dev nD) (i : grid0.Coords) : Thread nD τ := V d ((i 0).castLE hcore0) ((i 1).castLE hsub0)

/-- Between the trips of a pass: the two segments on their way. -/
def pass (t1 r : ℕ) : sProp (MT nD τ sig (HIx 1) (Elt F) ℕ UU ℕ) :=
  iprop(levAts (K (F := F)).L (K (F := F)).lev ∗ pend arg5 arg11 q5 arg2 f (row i t1) (2 * r) ∗ pend arg6 arg12 q6 arg2 f (row i t1) (2 * r + 1)
    ∗ owe d ((i 0).castLE hcore0) ((i 1).castLE hsub0) O W)

variable {O}

theorem cond1_iff (r : Fin k0_t2_loop.trips) : k0_cond1 r = 1#1 ↔ 2 * r.val + 2 < 16 := by revert r; decide
theorem cond2_iff (r : Fin k0_t2_loop.trips) : k0_cond2 r = 1#1 ↔ 2 * r.val + 3 < 16 := by revert r; decide
theorem cond3_iff (r : Fin k0_t9_loop.trips) : k0_cond3 r = 1#1 ↔ 2 * r.val + 2 < 16 := by revert r; decide
theorem cond4_iff (r : Fin k0_t9_loop.trips) : k0_cond4 r = 1#1 ↔ 2 * r.val + 3 < 16 := by revert r; decide

/-- A trip of the first pass. -/
theorem wp_ph1C (hO : ∀ g, O g none = 0) (k0_t1 : Fin k0_t1_loop.trips) (ht : k0_t1.val < 2) (r : Fin k0_t2_loop.trips) (hr : r.val < 8) {m : FVec F S16 .f32} {bd : Option 𝒱₀.V}
    {R : FVec F S16 .f32 → sProp (MT nD τ sig (HIx 1) (Elt F) ℕ UU ℕ)} :
    pass i arg2 arg5 arg6 arg11 arg12 q5 q6 f O W k0_t1.val r.val
      ⊢ iprop((pass i arg2 arg5 arg6 arg11 arg12 q5 q6 f O W k0_t1.val (r.val + 1) -∗ R (ph1P (batch arg2 f (row i k0_t1.val)) r m))
        -∗ wp frame (wpE (defs₀ (F := F)) 𝒱₀ (Vi d i) bd) Set.univ (ph1C i arg2 arg5 harg5 arg6 harg6 arg11 arg12 k0_t1 r m) R) := by
  unfold pass ph1C ph1P
  rw [pend_lt (by omega), pend_lt (by omega)]
  iintro ⟨#Hlv, H5, H6, HO⟩ Hk
  iapply (wp_waitC hO) $$ [H5 HO]
  · isplitr; · iexact Hlv
    isplitl [H5]; · iexact H5
    iexact HO
  iintro ⟨H5, Hx5, Hs5, HO⟩
  iapply wp_seg $$ [H5]
  · iexact H5
  iintro H5
  iapply (wp_nextC (n := row i k0_t1.val) (s := 2 * r.val + 2) (cond1_iff r) (fun h => by show k0_off4 i k0_t1 r 0 = _; rw [k0_off4_eq]; rfl)
    (fun h => by show k0_off4 i k0_t1 r 1 = _; rw [k0_off4_eq]; show 65536 * r.val + 65536 = _; omega) (row_lt i ht)) $$ [H5 Hx5 Hs5]
  · unfold idle
    isplitl [H5]; · iexists _; iexact H5
    isplitl [Hx5]; · iexact Hx5
    iexact Hs5
  iintro H5
  iapply (wp_waitC hO) $$ [H6 HO]
  · isplitr; · iexact Hlv
    isplitl [H6]; · iexact H6
    iexact HO
  iintro ⟨H6, Hx6, Hs6, HO⟩
  iapply wp_seg $$ [H6]
  · iexact H6
  iintro H6
  iapply (wp_nextC (n := row i k0_t1.val) (s := 2 * r.val + 3) (cond2_iff r) (fun h => by show k0_off6 i k0_t1 r 0 = _; rw [k0_off6_eq]; rfl)
    (fun h => by show k0_off6 i k0_t1 r 1 = _; rw [k0_off6_eq]; show 65536 * r.val + 98304 = _; omega) (row_lt i ht)) $$ [H6 Hx6 Hs6]
  · unfold idle
    isplitl [H6]; · iexists _; iexact H6
    isplitl [Hx6]; · iexact Hx6
    iexact Hs6
  iintro H6
  rw [wp_ret]
  imodintro
  iapply Hk
  isplitr; · iexact Hlv
  isplitl [H5]; · iexact H5
  isplitl [H6]; · iexact H6
  iexact HO

/-- Between the trips of the second pass: the candidates of the segments done, too. -/
def pass2 (t1 r : ℕ) : sProp (MT nD τ sig (HIx 1) (Elt F) ℕ UU ℕ) :=
  iprop(pass i arg2 arg5 arg6 arg11 arg12 q5 q6 f O W t1 r
    ∗ own (Vi d i) arg7 (cvC (batch arg2 f (row i t1)) fun _ => 256 * (2 * r)) ∗ own (Vi d i) arg8 (ciC (batch arg2 f (row i t1)) fun _ => 256 * (2 * r)))

/-- A trip of the second pass. -/
theorem wp_ph2C (hO : ∀ g, O g none = 0) (k0_t1 : Fin k0_t1_loop.trips) (ht : k0_t1.val < 2) (hF : Fits (batch arg2 f (row i k0_t1.val))) (r : Fin k0_t9_loop.trips) (hr : r.val < 8) {bd : Option 𝒱₀.V}
    {R : St8 → sProp (MT nD τ sig (HIx 1) (Elt F) ℕ UU ℕ)} :
    pass2 i arg2 arg5 arg6 arg7 arg8 arg11 arg12 q5 q6 f (O := O) W k0_t1.val r.val
      ⊢ iprop((pass2 i arg2 arg5 arg6 arg7 arg8 arg11 arg12 q5 q6 f (O := O) W k0_t1.val (r.val + 1) -∗ R (stC (batch arg2 f (row i k0_t1.val)) (256 * (2 * (r.val + 1))) (2048 * (2 * (r.val + 1)))))
        -∗ wp frame (wpE (defs₀ (F := F)) 𝒱₀ (Vi d i) bd) Set.univ
          (ph2C i arg2 arg5 harg5 arg6 harg6 arg7 arg8 arg11 arg12 k0_t1 (thr (batch arg2 f (row i k0_t1.val))) r
            (stC (batch arg2 f (row i k0_t1.val)) (256 * (2 * r.val)) (2048 * (2 * r.val)))) R) := by
  unfold pass2 pass ph2C
  rw [pend_lt (by omega), pend_lt (by omega)]
  iintro ⟨⟨#Hlv, H5, H6, HO⟩, H7, H8⟩ Hk
  iapply (wp_waitC hO) $$ [H5 HO]
  · isplitr; · iexact Hlv
    isplitl [H5]; · iexact H5
    iexact HO
  iintro ⟨H5, Hx5, Hs5, HO⟩
  iapply (wp_comp hF (s := 2 * r.val) (by omega)) $$ [H5 H7 H8]
  · unfold heldC
    isplitl [H5]; · iexact H5
    isplitl [H7]; · iexact H7
    iexact H8
  unfold heldC
  iintro ⟨H5, H7, H8⟩
  iapply (wp_nextC (n := row i k0_t1.val) (s := 2 * r.val + 2) (cond3_iff r) (fun h => by show k0_off41 i k0_t1 r 0 = _; rw [k0_off41_eq]; rfl)
    (fun h => by show k0_off41 i k0_t1 r 1 = _; rw [k0_off41_eq]; show 65536 * r.val + 65536 = _; omega) (row_lt i ht)) $$ [H5 Hx5 Hs5]
  · unfold idle
    isplitl [H5]; · iexists _; iexact H5
    isplitl [Hx5]; · iexact Hx5
    iexact Hs5
  iintro H5
  iapply (wp_waitC hO) $$ [H6 HO]
  · isplitr; · iexact Hlv
    isplitl [H6]; · iexact H6
    iexact HO
  iintro ⟨H6, Hx6, Hs6, HO⟩
  rw [bump_stC]
  iapply (wp_comp hF (s := 2 * r.val + 1) (by omega)) $$ [H6 H7 H8]
  · unfold heldC
    isplitl [H6]; · iexact H6
    isplitl [H7]; · iexact H7
    iexact H8
  unfold heldC
  iintro ⟨H6, H7, H8⟩
  iapply (wp_nextC (n := row i k0_t1.val) (s := 2 * r.val + 3) (cond4_iff r) (fun h => by show k0_off74 i k0_t1 r 0 = _; rw [k0_off74_eq]; rfl)
    (fun h => by show k0_off74 i k0_t1 r 1 = _; rw [k0_off74_eq]; show 65536 * r.val + 98304 = _; omega) (row_lt i ht)) $$ [H6 Hx6 Hs6]
  · unfold idle
    isplitl [H6]; · iexists _; iexact H6
    isplitl [Hx6]; · iexact Hx6
    iexact Hs6
  iintro H6
  rw [bump_stC]
  rw [wp_ret]
  imodintro
  iapply Hk
  isplitl [H5 H6 HO]
  · isplitr; · iexact Hlv
    isplitl [H5]; · iexact H5
    isplitl [H6]; · iexact H6
    iexact HO
  isplitl [H7]; · iexact H7
  iexact H8

attribute [local irreducible] blkCond

/-- A block merged if it holds a candidate. -/
theorem wp_ph3C {C r : RS F} {s : St8} {b : Fin k0_t12_loop.trips} {bd : Option 𝒱₀.V} {R : BitVec 32 → sProp (MT nD τ sig (HIx 1) (Elt F) ℕ UU ℕ)} :
    iprop(heldR (Vi d i) arg7 arg8 C ∗ heldR (Vi d i) arg9 arg10 r) ⊢ iprop(((heldR (Vi d i) arg7 arg8 C ∗ heldR (Vi d i) arg9 arg10 (ph3P C s b r)) -∗ R 0#32)
      -∗ wp frame (wpE (defs₀ (F := F)) 𝒱₀ (Vi d i) bd) Set.univ (ph3C i arg7 arg8 arg9 arg10 s b) R) := by
  unfold ph3C ph3P
  generalize blkCond b s = cnd
  by_cases h : cnd = 1#1
  · rw [if_pos h, if_pos h]
    exact wp_blockC
  · rw [if_neg h, if_neg h]
    iintro H Hk
    rw [wp_ret]
    imodintro
    iapply Hk
    iexact H

/-- A block of the merge, the blocks before it merged. -/
theorem wp_ph3B {C r0 : RS F} {s : St8} {bd : Option 𝒱₀.V} (b : Fin k0_t12_loop.trips) (R : BitVec 32 → sProp (MT nD τ sig (HIx 1) (Elt F) ℕ UU ℕ)) :
    iprop(heldR (Vi d i) arg7 arg8 C ∗ heldR (Vi d i) arg9 arg10 (iterTo (ph3P C s) b.val r0))
      ⊢ iprop(((heldR (Vi d i) arg7 arg8 C ∗ heldR (Vi d i) arg9 arg10 (iterTo (ph3P C s) (b.val + 1) r0)) -∗ R 0#32)
      -∗ wp frame (wpE (defs₀ (F := F)) 𝒱₀ (Vi d i) bd) Set.univ (ph3C i arg7 arg8 arg9 arg10 s b) R) := by
  rw [iterTo_succ (ph3P C s) b r0]
  exact wp_ph3C (F := F) (d := d) i arg7 arg8 arg9 arg10 (C := C) (r := iterTo (ph3P C s) b.val r0) (s := s) (b := b) (bd := bd) (R := R)

/-- The blocks merged in turn. -/
theorem wp_ph3 {β : Type} {C r0 : RS F} {s : St8} {bd : Option 𝒱₀.V} {Q : β → sProp (MT nD τ sig (HIx 1) (Elt F) ℕ UU ℕ)}
    {KK : BitVec 32 → Prog (TpuEff nD τ sig (Elt F) Λ₀ (.scVector ((i 0).castLE hcore0) ((i 1).castLE hsub0))) β} :
    iprop(heldR (Vi d i) arg7 arg8 C ∗ heldR (Vi d i) arg9 arg10 r0)
      ⊢ iprop(((heldR (Vi d i) arg7 arg8 C ∗ heldR (Vi d i) arg9 arg10 (iterTo (ph3P C s) k0_t12_loop.trips r0)) -∗ wp frame (wpE (defs₀ (F := F)) 𝒱₀ (Vi d i) bd) Set.univ (KK 0#32) Q)
      -∗ wp frame (wpE (defs₀ (F := F)) 𝒱₀ (Vi d i) bd) Set.univ (Scf.Loop.for k0_t12_loop k0_t12_ok 0#32 (fun b _ => ph3C i arg7 arg8 arg9 arg10 s b) >>= KK) Q) := by
  refine wp_loopP (bd := bd) (Q := Q) k0_t12_loop k0_t12_ok rfl (fun _ => 0#32) rfl
    (fun k => iprop(heldR (Vi d i) arg7 arg8 C ∗ heldR (Vi d i) arg9 arg10 (iterTo (ph3P C s) k r0))) (fun r hr R' => ?_)
  exact wp_ph3B i arg7 arg8 arg9 arg10 r R'

theorem cvC_zero (X : ℕ → Elt F .f32) : cvC X (fun _ => 0) = fun _ => (dum (F := F)).1 := by
  funext p; unfold cvC entC; rw [cands_zero]; rfl
theorem ciC_zero (X : ℕ → Elt F .f32) : ciC X (fun _ => 0) = fun _ => (dum (F := F)).2 := by
  funext p; unfold ciC entC; rw [cands_zero]; rfl

variable {S3 : Finset (Idx (arg3.view.loc (Vi d i)))} {S4 : Finset (Idx (arg4.view.loc (Vi d i)))}
variable (f3 : Buf (Elt F) (arg3.view.loc (Vi d i))) (f4 : Buf (Elt F) (arg4.view.loc (Vi d i)))

/-- What a task holds between its batches, but for its results. -/
def rest : sProp (MT nD τ sig (HIx 1) (Elt F) ℕ UU ℕ) :=
  iprop(levAts (K (F := F)).L (K (F := F)).lev ∗ idle arg5 arg11 q5 arg2 f ∗ idle arg6 arg12 q6 arg2 f ∗ (∃ r, heldR (Vi d i) arg7 arg8 r) ∗ (∃ r, heldR (Vi d i) arg9 arg10 r)
    ∗ semVal (Vi d i, .dma v117_r0.sem) 0 ∗ semVal (Vi d i, .dma v117_r1.sem) 0 ∗ owe d ((i 0).castLE hcore0) ((i 1).castLE hsub0) O W)

/-- One batch. -/
theorem wp_batchC (hO : ∀ g, O g none = 0) (k0_t1 : Fin k0_t1_loop.trips) (ht : k0_t1.val < 2) (hF : Fits (batch arg2 f (row i k0_t1.val))) {bd : Option 𝒱₀.V}
    (hS3 : (outV arg3 ⟨_, k0_off78_inb i k0_t1⟩).view.set ⊆ S3) (hS4 : (outV arg4 ⟨_, k0_off78_inb i k0_t1⟩).view.set ⊆ S4)
    {R : BitVec 32 → sProp (MT nD τ sig (HIx 1) (Elt F) ℕ UU ℕ)} :
    iprop(rest i arg2 arg5 arg6 arg7 arg8 arg9 arg10 arg11 arg12 v117_r0 v117_r1 q5 q6 f (O := O) W ∗ (arg3.view.loc (Vi d i) ↦[S3]{fullShare} f3) ∗ (arg4.view.loc (Vi d i) ↦[S4]{fullShare} f4))
      ⊢ iprop(((rest i arg2 arg5 arg6 arg7 arg8 arg9 arg10 arg11 arg12 v117_r0 v117_r1 q5 q6 f (O := O) W
          ∗ (arg3.view.loc (Vi d i) ↦[S3]{fullShare} (outV arg3 ⟨_, k0_off78_inb i k0_t1⟩).view.write (Elt F) f3 (fun j => (resP (batch arg2 f (row i k0_t1.val))).1 (j 0).val) Finset.univ)
          ∗ (arg4.view.loc (Vi d i) ↦[S4]{fullShare} (outV arg4 ⟨_, k0_off78_inb i k0_t1⟩).view.write (Elt F) f4 (fun j => (resP (batch arg2 f (row i k0_t1.val))).2 (j 0).val) Finset.univ)) -∗ R 0#32)
        -∗ wp frame (wpE (defs₀ (F := F)) 𝒱₀ (Vi d i) bd) Set.univ
          (batchC i arg2 arg3 arg4 arg5 harg5 arg6 harg6 arg7 arg8 arg9 harg9 arg10 harg10 arg11 arg12 v117_r0 v117_r1 k0_t1) R) := by
  unfold batchC rest
  iintro ⟨⟨#Hlv, H5, H6, ⟨%r7, H7⟩, ⟨%r9, H9⟩, Hr0, Hr1, HO⟩, H3, H4⟩ Hk
  iapply (wp_startC (n := row i k0_t1.val) (s := 0) (by show k0_off1 i k0_t1 0 = _; rw [k0_off1_eq]; rfl) (by show k0_off1 i k0_t1 1 = _; rw [k0_off1_eq]; rfl) (row_lt i ht) (by decide)) $$ [H5]
  · iexact H5
  iintro H5
  iapply (wp_startC (n := row i k0_t1.val) (s := 1) (by show k0_off2 i k0_t1 0 = _; rw [k0_off2_eq]; rfl) (by show k0_off2 i k0_t1 1 = _; rw [k0_off2_eq]; rfl) (row_lt i ht) (by decide)) $$ [H6]
  · iexact H6
  iintro H6
  iapply (wp_loopP (bd := bd) (Q := R) k0_t2_loop k0_t2_ok (n := 8) rfl (fun k => iterTo (ph1P (batch arg2 f (row i k0_t1.val))) k k0_pay843) rfl
    (fun k => pass i arg2 arg5 arg6 arg11 arg12 q5 q6 f O W k0_t1.val k) (fun r hr R' => by
      rw [iterTo_succ]
      exact wp_ph1C i arg2 arg5 harg5 arg6 harg6 arg11 arg12 q5 q6 f W hO k0_t1 ht r hr)) $$ [H5 H6 HO]
  · unfold pass
    rw [pend_lt (by decide), pend_lt (by decide)]
    isplitr; · iexact Hlv
    isplitl [H5]; · iexact H5
    isplitl [H6]; · iexact H6
    iexact HO
  unfold pass
  rw [pend_ge (by decide), pend_ge (by decide)]
  iintro ⟨-, H5, H6, HO⟩
  iapply (wp_fill k0_t7_loop k0_t7_ok 64 (by decide) rfl _ (fun r => by show k0_off7 r 0 = _; rw [k0_off7_eq]; rfl) r9) $$ [H9]
  · iexact H9
  iintro H9
  iapply (wp_fill k0_t8_loop k0_t8_ok 512 (by decide) rfl _ (fun r => by show k0_off8 r 0 = _; rw [k0_off8_eq]; rfl) r7) $$ [H7]
  · iexact H7
  iintro H7
  iapply (wp_startC (n := row i k0_t1.val) (s := 0) (by show k0_off1 i k0_t1 0 = _; rw [k0_off1_eq]; rfl) (by show k0_off1 i k0_t1 1 = _; rw [k0_off1_eq]; rfl) (row_lt i ht) (by decide)) $$ [H5]
  · iexact H5
  iintro H5
  iapply (wp_startC (n := row i k0_t1.val) (s := 1) (by show k0_off2 i k0_t1 0 = _; rw [k0_off2_eq]; rfl) (by show k0_off2 i k0_t1 1 = _; rw [k0_off2_eq]; rfl) (row_lt i ht) (by decide)) $$ [H6]
  · iexact H6
  iintro H6
  iapply (wp_loopP (bd := bd) (Q := R) k0_t9_loop k0_t9_ok (n := 8) rfl (fun k => stC (batch arg2 f (row i k0_t1.val)) (256 * (2 * k)) (2048 * (2 * k))) (st8₀_eq _)
    (fun k => pass2 i arg2 arg5 arg6 arg7 arg8 arg11 arg12 q5 q6 f (O := O) W k0_t1.val k) (fun r hr R' =>
      wp_ph2C i arg2 arg5 harg5 arg6 harg6 arg7 arg8 arg11 arg12 q5 q6 f W hO k0_t1 ht hF r hr)) $$ [H5 H6 H7 HO]
  · unfold pass2 pass heldR
    rw [pend_lt (by decide), pend_lt (by decide), cvC_zero, ciC_zero]
    icases H7 with ⟨H7, H8⟩
    isplitl [H5 H6 HO]
    · isplitr; · iexact Hlv
      isplitl [H5]; · iexact H5
      isplitl [H6]; · iexact H6
      iexact HO
    isplitl [H7]; · iexact H7
    iexact H8
  unfold pass2 pass
  rw [pend_ge (by decide), pend_ge (by decide)]
  iintro ⟨⟨-, H5, H6, HO⟩, H7, H8⟩
  have hs : stC (batch arg2 f (row i k0_t1.val)) (256 * (2 * 8)) (2048 * (2 * 8)) = stC (batch arg2 f (row i k0_t1.val)) 4096 32768 := rfl
  rw [hs]
  iapply (wp_ph3 i arg7 arg8 arg9 arg10 (C := ((cvC (batch arg2 f (row i k0_t1.val)) fun _ => 4096, ciC (batch arg2 f (row i k0_t1.val)) fun _ => 4096) : RS F))
    (r0 := ((fun _ => (dum (F := F)).1, fun _ => (dum (F := F)).2) : RS F))) $$ [H7 H8 H9]
  · isplitl [H7 H8]
    · unfold heldR
      isplitl [H7]; · iexact H7
      iexact H8
    · iexact H9
  iintro ⟨H7, H9⟩
  have hres : iterTo (ph3P ((cvC (batch arg2 f (row i k0_t1.val)) fun _ => 4096, ciC (batch arg2 f (row i k0_t1.val)) fun _ => 4096) : RS F)
        (stC (batch arg2 f (row i k0_t1.val)) 4096 32768)) k0_t12_loop.trips ((fun _ => (dum (F := F)).1, fun _ => (dum (F := F)).2) : RS F) = resP (batch arg2 f (row i k0_t1.val)) := rfl
  rw [hres]
  generalize resP (batch arg2 f (row i k0_t1.val)) = res
  unfold heldR
  icases H9 with ⟨H9, H10⟩
  iapply (wp_outC hO hS3) $$ [H9 H3 Hr0 HO]
  · isplitr; · iexact Hlv
    isplitl [H9]; · iexact H9
    isplitl [H3]; · iexact H3
    isplitl [Hr0]; · iexact Hr0
    iexact HO
  iintro ⟨H9, H3, Hr0, HO⟩
  iapply (wp_outC hO hS4) $$ [H10 H4 Hr1 HO]
  · isplitr; · iexact Hlv
    isplitl [H10]; · iexact H10
    isplitl [H4]; · iexact H4
    isplitl [Hr1]; · iexact Hr1
    iexact HO
  iintro ⟨H10, H4, Hr1, HO⟩
  rw [wp_ret]
  imodintro
  iapply Hk
  isplitl [H5 H6 H7 H9 H10 Hr0 Hr1 HO]
  · isplitr; · iexact Hlv
    isplitl [H5]; · iexact H5
    isplitl [H6]; · iexact H6
    isplitl [H7]; · iexists _; iexact H7
    isplitl [H9 H10]
    · iexists res
      isplitl [H9]; · iexact H9
      iexact H10
    isplitl [Hr0]; · iexact Hr0
    isplitl [Hr1]; · iexact Hr1
    iexact HO
  isplitl [H3]; · iexact H3
  iexact H4

end

end Cert.Proof.Run

end
-- ==== Proof.Task.lean ====
/-
  A task: its two batches in turn.
-/
module

public import proofs.«01_k».proof.Proof.Batch

@[expose] public section
noncomputable section
namespace Cert.Proof.Run
open Cert.KernelIdeal Cert.KernelIdeal.Gen
open Idealize.ShloMosaic
open Idealize.ShloMosaic.SparseCore (V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

attribute [local irreducible] blkCond resP

variable {F : FTy → Type} [FloatOps F] {d : Dev nD}
variable (i : grid0.Coords) (arg2 : Memref sig .scVector .hbm S64x524288 .f32) (arg3 : Memref sig .scVector .hbm S64x1024 .f32) (arg4 : Memref sig .scVector .hbm S64x1024 .i32) (arg5 : Memref sig .scVector .vmem S32768 .f32) (harg5 : arg5.IsWhole) (arg6 : Memref sig .scVector .vmem S32768 .f32) (harg6 : arg6.IsWhole) (arg7 : Memref sig .scVector .vmem S8192 .f32) (arg8 : Memref sig .scVector .vmem S8192 .i32) (arg9 : Memref sig .scVector .vmem S1024 .f32) (harg9 : arg9.IsWhole) (arg10 : Memref sig .scVector .vmem S1024 .i32) (harg10 : arg10.IsWhole) (arg11 : DmaSems sig S_) (arg12 : DmaSems sig S_) (v117_r0 : DmaSems sig S_) (v117_r1 : DmaSems sig S_)
variable (q5 q6 : PosShare TreeShare) (f : Buf (Elt F) (arg2.view.loc (Vi d i))) {O : CellTallies nD τ sig (HIx 1)} (W : Waits sig (HIx 1))
variable (S3 : Finset (Idx (arg3.view.loc (Vi d i)))) (S4 : Finset (Idx (arg4.view.loc (Vi d i))))

/-- The results of the task's first `t` batches are in place. -/
def done (t : ℕ) : sProp (MT nD τ sig (HIx 1) (Elt F) ℕ UU ℕ) :=
  iprop((∃ f3, ⌜∀ t1 < t, ∀ p < 1024, arg3.view.read (Elt F) f3 (yat (row i t1) p) = (resP (batch arg2 f (row i t1))).1 p⌝ ∗ (arg3.view.loc (Vi d i) ↦[S3]{fullShare} f3))
    ∗ (∃ f4, ⌜∀ t1 < t, ∀ p < 1024, arg4.view.read (Elt F) f4 (yat (row i t1) p) = (resP (batch arg2 f (row i t1))).2 p⌝ ∗ (arg4.view.loc (Vi d i) ↦[S4]{fullShare} f4)))

/-- A batch's row written leaves the rows before it. -/
theorem done_step {e : EltTy} {y : Memref sig .scVector .hbm S64x1024 e} {g : Buf (Elt F) (y.view.loc (Vi d i))} {r : ℕ → ℕ → Elt F e} (k0_t1 : Fin k0_t1_loop.trips) (ht : k0_t1.val < 2)
    (hg : ∀ t1 < k0_t1.val, ∀ p < 1024, y.view.read (Elt F) g (yat (row i t1) p) = r t1 p) :
    ∀ t1 < k0_t1.val + 1, ∀ p < 1024,
      y.view.read (Elt F) ((outV y ⟨_, k0_off78_inb i k0_t1⟩).view.write (Elt F) g (fun j => r k0_t1.val (j 0).val) Finset.univ) (yat (row i t1) p) = r t1 p := by
  intro t1 ht1 p hp
  have h2 : t1 < 2 := by omega
  rw [read_outV g _ ⟨_, k0_off78_inb i k0_t1⟩ (n := row i k0_t1.val) (by show k0_off78 i k0_t1 0 = _; rw [k0_off78_eq]; rfl)
    (by show k0_off78 i k0_t1 1 = _; rw [k0_off78_eq]; rfl) (row_lt i ht) (row i t1) p (row_lt i h2) hp]
  by_cases h : t1 = k0_t1.val
  · subst h
    rw [if_pos rfl]
    show r k0_t1.val (p % 1024) = _
    rw [Nat.mod_eq_of_lt hp]
  · rw [if_neg (by unfold row; omega)]
    exact hg t1 (by omega) p hp

/-- The task. -/
theorem wp_task (hO : ∀ g, O g none = 0) (hF : ∀ t < 2, Fits (batch arg2 f (row i t))) {bd : Option 𝒱₀.V}
    (hS3 : ∀ t, (outV arg3 ⟨_, k0_off78_inb i t⟩).view.set ⊆ S3) (hS4 : ∀ t, (outV arg4 ⟨_, k0_off78_inb i t⟩).view.set ⊆ S4)
    {Q : PUnit → sProp (MT nD τ sig (HIx 1) (Elt F) ℕ UU ℕ)} :
    iprop(rest i arg2 arg5 arg6 arg7 arg8 arg9 arg10 arg11 arg12 v117_r0 v117_r1 q5 q6 f (O := O) W ∗ done i arg2 arg3 arg4 f S3 S4 0)
      ⊢ iprop(((rest i arg2 arg5 arg6 arg7 arg8 arg9 arg10 arg11 arg12 v117_r0 v117_r1 q5 q6 f (O := O) W ∗ done i arg2 arg3 arg4 f S3 S4 2) -∗ Q PUnit.unit)
        -∗ wp frame (wpE (defs₀ (F := F)) 𝒱₀ (Vi d i) bd) Set.univ
          (Scf.Loop.for k0_t1_loop k0_t1_ok 0#32 (fun t _ => batchC i arg2 arg3 arg4 arg5 harg5 arg6 harg6 arg7 arg8 arg9 harg9 arg10 harg10 arg11 arg12 v117_r0 v117_r1 t) >>= fun _ => .ret PUnit.unit) Q) := by
  iintro H Hk
  iapply (wp_loopP (bd := bd) (Q := Q) k0_t1_loop k0_t1_ok (n := 2) rfl (fun _ => 0#32) rfl
    (fun t => iprop(rest i arg2 arg5 arg6 arg7 arg8 arg9 arg10 arg11 arg12 v117_r0 v117_r1 q5 q6 f (O := O) W ∗ done i arg2 arg3 arg4 f S3 S4 t)) (fun t ht R => by
      unfold done
      iintro ⟨Hr, ⟨%f3, %h3, H3⟩, ⟨%f4, %h4, H4⟩⟩ Hk
      iapply (wp_batchC i arg2 arg3 arg4 arg5 harg5 arg6 harg6 arg7 arg8 arg9 harg9 arg10 harg10 arg11 arg12 v117_r0 v117_r1 q5 q6 f W f3 f4 hO t ht (hF _ ht) (hS3 t) (hS4 t)) $$ [Hr H3 H4]
      · isplitl [Hr]; · iexact Hr
        isplitl [H3]; · iexact H3
        iexact H4
      iintro ⟨Hr, H3, H4⟩
      iapply Hk
      isplitl [Hr]; · iexact Hr
      isplitl [H3]
      · iexists _
        isplitr
        swap
        · iexact H3
        · ipureintro
          exact done_step (d := d) i (r := fun n => (resP (batch arg2 f (row i n))).1) t ht h3
      · iexists _
        isplitr
        swap
        · iexact H4
        · ipureintro
          exact done_step (d := d) i (r := fun n => (resP (batch arg2 f (row i n))).2) t ht h4)) $$ [H]
  · iexact H
  iintro H
  rw [wp_ret]
  imodintro
  iapply Hk
  iexact H

end Cert.Proof.Run

end
-- ==== Proof.Shape.lean ====
/-
  The printed bodies are the short programs of `Clean.lean`, by unfolding.
-/
module

public import proofs.«01_k».proof.Proof.Clean

@[expose] public section
noncomputable section
namespace Cert.Proof.Run
open Cert.KernelIdeal Cert.KernelIdeal.Gen
open Idealize.ShloMosaic
open Idealize.SL Idealize.SL.Sem

variable {F : FTy → Type} [FloatOps F]

variable (i : grid0.Coords) (arg2 : Memref sig .scVector .hbm S64x524288 .f32) (harg2 : arg2.IsWhole) (arg3 : Memref sig .scVector .hbm S64x1024 .f32) (harg3 : arg3.IsWhole) (arg4 : Memref sig .scVector .hbm S64x1024 .i32) (harg4 : arg4.IsWhole) (arg5 : Memref sig .scVector .vmem S32768 .f32) (harg5 : arg5.IsWhole) (arg6 : Memref sig .scVector .vmem S32768 .f32) (harg6 : arg6.IsWhole) (arg7 : Memref sig .scVector .vmem S8192 .f32) (harg7 : arg7.IsWhole) (arg8 : Memref sig .scVector .vmem S8192 .i32) (harg8 : arg8.IsWhole) (arg9 : Memref sig .scVector .vmem S1024 .f32) (harg9 : arg9.IsWhole) (arg10 : Memref sig .scVector .vmem S1024 .i32) (harg10 : arg10.IsWhole) (arg11 : DmaSems sig S_) (arg12 : DmaSems sig S_) (v117_r0 : DmaSems sig S_) (v117_r1 : DmaSems sig S_)

set_option maxRecDepth 100000
set_option maxHeartbeats 4000000

/-- A trip of the first buffer's compaction. -/
theorem t10_eq (k0_t1 : Fin k0_t1_loop.trips) (v20 : FVec F S16 .f32) (c0 c1 : BitVec 32) (k0_t9 : Fin k0_t9_loop.trips) (b0 b1 b2 b3 b4 b5 b6 b7 b8 b9 b10 b11 b12 b13 b14 b15 : IVec S16 32) (t : Fin k0_t10_loop.trips) (s : St8) :
    k0_t10_body i arg2 harg2 arg3 harg3 arg4 harg4 arg5 harg5 arg6 harg6 arg7 harg7 arg8 harg8 arg9 harg9 arg10 harg10 arg11 arg12 v117_r0 v117_r1 k0_t1 v20 c0 c1 k0_t9 b0 b1 b2 b3 b4 b5 b6 b7 b8 b9 b10 b11 b12 b13 b14 b15 t s
      = tripC (p := prc i) arg5 arg7 arg8 v20 (offs10 t) s := by
  obtain ⟨a0, a1, a2, a3, a4, a5, a6, a7, n0, n1, n2, n3, n4, n5, n6, n7⟩ := s
  rfl

/-- A trip of the second buffer's compaction. -/
theorem t11_eq (v4 v5 : IVec S16 32) (k0_t1 : Fin k0_t1_loop.trips) (v20 : FVec F S16 .f32) (v26 v28 v30 v32 v34 v36 v37 : IVec S16 32) (c0 : BitVec 32) (t : Fin k0_t11_loop.trips) (s : St8) :
    k0_t11_body i arg2 harg2 arg3 harg3 arg4 harg4 arg5 harg5 arg6 harg6 arg7 harg7 arg8 harg8 arg9 harg9 arg10 harg10 arg11 arg12 v117_r0 v117_r1 v4 v5 k0_t1 v20 v26 v28 v30 v32 v34 v36 v37 c0 t s
      = tripC (p := prc i) arg6 arg7 arg8 v20 (offs10 t) s := by
  obtain ⟨a0, a1, a2, a3, a4, a5, a6, a7, n0, n1, n2, n3, n4, n5, n6, n7⟩ := s
  rfl

/-- A trip of the first buffer's maxima. -/
theorem t4_eq (v1 : BitVec 32) (v2 : FVec F S16 .f32) (v3 v5 : IVec S16 32) (c0 c1 : BitVec 32) (k0_t1 : Fin k0_t1_loop.trips) (k0_t3 : Fin k0_t3_loop.trips) (a : BitVec 32) (t : Fin k0_t4_loop.trips) (s : V4 F) :
    k0_t4_body i arg2 harg2 arg3 harg3 arg4 harg4 arg5 harg5 arg6 harg6 arg7 harg7 arg8 harg8 arg9 harg9 arg10 harg10 arg11 arg12 v117_r0 v117_r1 v1 v2 v3 v5 c0 c1 k0_t1 k0_t3 a t s = rowMax (p := prc i) arg5 .ret (offs3 k0_t3 t) s := by
  obtain ⟨a0, a1, a2, a3⟩ := s
  rfl

/-- A trip of the second buffer's maxima. -/
theorem t6_eq (v1 : BitVec 32) (v2 : FVec F S16 .f32) (v3 v5 : IVec S16 32) (c0 c1 : BitVec 32) (k0_t1 : Fin k0_t1_loop.trips) (k0_t3 : Fin k0_t5_loop.trips) (a : BitVec 32) (t : Fin k0_t6_loop.trips) (s : V4 F) :
    k0_t6_body i arg2 harg2 arg3 harg3 arg4 harg4 arg5 harg5 arg6 harg6 arg7 harg7 arg8 harg8 arg9 harg9 arg10 harg10 arg11 arg12 v117_r0 v117_r1 v1 v2 v3 v5 c0 c1 k0_t1 k0_t3 a t s = rowMax (p := prc i) arg6 .ret (offs3 k0_t3 t) s := by
  obtain ⟨a0, a1, a2, a3⟩ := s
  rfl

/-- A stage of the final merge. -/
theorem t13_eq (v66_1 v66_2 v66_3 v66_4 v66_5 v66_6 v66_7 : IVec S16 32) (v72 : BitVec 32) (v74 : IVec S16 32) (t : Fin k0_t13_loop.trips) (s : BitVec 32) :
    k0_t13_body (F := F) i arg2 harg2 arg3 harg3 arg4 harg4 arg5 harg5 arg6 harg6 arg7 harg7 arg8 harg8 arg9 harg9 arg10 harg10 arg11 arg12 v117_r0 v117_r1 v66_1 v66_2 v66_3 v66_4 v66_5 v66_6 v66_7 v72 v74 t s = stageC (p := prc i) arg9 arg10 (.ret 0#32) (offs76 t) := by
  rfl

/-- A group of the first buffer's maxima. -/
theorem t3_eq (v1 : BitVec 32) (v5 : IVec S16 32) (c0 c1 : BitVec 32) (k0_t1 : Fin k0_t1_loop.trips) :
    k0_t3_body (F := F) i arg2 harg2 arg3 harg3 arg4 harg4 arg5 harg5 arg6 harg6 arg7 harg7 arg8 harg8 arg9 harg9 arg10 harg10 arg11 arg12 v117_r0 v117_r1 v1 k0_pay1 k0_pay2 v5 c0 c1 k0_t1 = grpC (p := prc i) arg5 := rfl

/-- A group of the second buffer's maxima. -/
theorem t5_eq (v1 : BitVec 32) (v5 : IVec S16 32) (c0 c1 : BitVec 32) (k0_t1 : Fin k0_t1_loop.trips) :
    k0_t5_body (F := F) i arg2 harg2 arg3 harg3 arg4 harg4 arg5 harg5 arg6 harg6 arg7 harg7 arg8 harg8 arg9 harg9 arg10 harg10 arg11 arg12 v117_r0 v117_r1 v1 k0_pay1 k0_pay2 v5 c0 c1 k0_t1 = grpC (p := prc i) arg6 := rfl

/-- A trip of the first pass. -/
theorem t2_eq (v1 : BitVec 32) (v5 : IVec S16 32) (c0 c1 : BitVec 32) (k0_t1 : Fin k0_t1_loop.trips) :
    k0_t2_body (F := F) i arg2 harg2 arg3 harg3 arg4 harg4 arg5 harg5 arg6 harg6 arg7 harg7 arg8 harg8 arg9 harg9 arg10 harg10 arg11 arg12 v117_r0 v117_r1 v1 k0_pay1 k0_pay2 v5 c0 c1 k0_t1 = ph1C i arg2 arg5 harg5 arg6 harg6 arg11 arg12 k0_t1 := by
  rfl

section
variable {p : Proc τ} {β γ : Type} {m n : Prog (TpuEff nD τ sig (Elt F) Λ₀ p) β}
theorem bindL (h : m = n) {L : β → Prog (TpuEff nD τ sig (Elt F) Λ₀ p) γ} : m >>= L = n >>= L := congrArg (· >>= L) h
theorem bindR {L L' : β → Prog (TpuEff nD τ sig (Elt F) Λ₀ p) γ} (h : L = L') : m >>= L = m >>= L' := congrArg (m >>= ·) h
theorem bindA {δ : Type} {L : β → Prog (TpuEff nD τ sig (Elt F) Λ₀ p) γ} {L' : γ → Prog (TpuEff nD τ sig (Elt F) Λ₀ p) δ}
    {R : β → Prog (TpuEff nD τ sig (Elt F) Λ₀ p) δ} (h : (fun x => L x >>= L') = R) : m >>= L >>= L' = m >>= R := (bind_assoc _ _ _).trans (bindR h)
end

/-- A possible start of a copy, followed by more. -/
theorem nextC_bind {a : Fin τ.nSC} {b : Fin τ.nSub} {β γ : Type} (x : Memref sig .scVector .hbm S64x524288 .f32) (c : Prop) [Decidable c] (o : c → Off2) (bf : Memref sig .scVector .vmem S32768 .f32) (hb : bf.IsWhole)
    (sm : DmaSems sig S_) (K : Prog (TpuEff nD τ sig (Elt F) Λ₀ (.scVector a b)) β) (L : β → Prog (TpuEff nD τ sig (Elt F) Λ₀ (.scVector a b)) γ) :
    nextC x c o bf hb sm K >>= L = nextC x c o bf hb sm (K >>= L) := by
  by_cases h : c
  · unfold nextC; rw [dif_pos h, dif_pos h]; rfl
  · unfold nextC; rw [dif_neg h, dif_neg h]

/-- The first half of a trip of the second pass. -/
theorem part33_eq (k0_t1 : Fin k0_t1_loop.trips) (t : FVec F S16 .f32) (r : Fin k0_t9_loop.trips) (s : St8) :
    k0_part33 (F := F) i arg2 harg2 arg3 harg3 arg4 harg4 arg5 harg5 arg6 harg6 arg7 harg7 arg8 harg8 arg9 harg9 arg10 harg10 arg11 arg12 v117_r0 v117_r1 k0_t1 t 0#32 1#32 r s.1 s.2.1 s.2.2.1 s.2.2.2.1 s.2.2.2.2.1 s.2.2.2.2.2.1 s.2.2.2.2.2.2.1 s.2.2.2.2.2.2.2.1 s.2.2.2.2.2.2.2.2.1 s.2.2.2.2.2.2.2.2.2.1 s.2.2.2.2.2.2.2.2.2.2.1 s.2.2.2.2.2.2.2.2.2.2.2.1 s.2.2.2.2.2.2.2.2.2.2.2.2.1 s.2.2.2.2.2.2.2.2.2.2.2.2.2.1 s.2.2.2.2.2.2.2.2.2.2.2.2.2.2.1 s.2.2.2.2.2.2.2.2.2.2.2.2.2.2.2
      = (waitC arg2 arg5 harg5 arg11 <| compC (p := prc i) arg5 arg7 arg8 t s >>= fun (a0, a1, a2, a3, a4, a5, a6, a7, n0, n1, n2, n3, n4, n5, n6, n7) =>
          nextC arg2 (k0_cond3 r = 1#1) (fun h => ⟨k0_off41 i k0_t1 r, k0_off41_inb i k0_t1 r h⟩) arg5 harg5 arg11 <|
          waitC arg2 arg6 harg6 arg12 <| .ret ⟨Scf.iv 0#32 1#32 r, a0, a1, a2, a3, a4, a5, a6, a7, k0_pay211 n0, k0_pay212 n1, k0_pay213 n2, k0_pay214 n3, k0_pay215 n4, k0_pay216 n5, k0_pay217 n6, k0_pay218 n7, 0#32⟩) := rfl

/-- A trip of the second pass. -/
theorem t9_eq (v4 v5 : IVec S16 32) (k0_t1 : Fin k0_t1_loop.trips) (v20 : FVec F S16 .f32) (v26 v28 v30 v32 v34 v36 v37 : IVec S16 32) :
    k0_t9_body i arg2 harg2 arg3 harg3 arg4 harg4 arg5 harg5 arg6 harg6 arg7 harg7 arg8 harg8 arg9 harg9 arg10 harg10 arg11 arg12 v117_r0 v117_r1 v4 v5 k0_t1 v20 v26 v28 v30 v32 v34 v36 v37 = ph2C i arg2 arg5 harg5 arg6 harg6 arg7 arg8 arg11 arg12 k0_t1 v20 := by
  funext r s
  have e := part33_eq (F := F) i arg2 harg2 arg3 harg3 arg4 harg4 arg5 harg5 arg6 harg6 arg7 harg7 arg8 harg8 arg9 harg9 arg10 harg10 arg11 arg12 v117_r0 v117_r1 k0_t1 v20 r s
  obtain ⟨a0, a1, a2, a3, a4, a5, a6, a7, n0, n1, n2, n3, n4, n5, n6, n7⟩ := s
  unfold k0_t9_body
  refine (bindL e).trans ?_
  unfold ph2C
  refine congrArg (waitC arg2 arg5 harg5 arg11) ?_
  refine bindA ?_
  funext s0
  exact nextC_bind _ _ _ _ _ _ _ _

/-- The first part of a batch. -/
theorem part77_eq (k0_t1 : Fin k0_t1_loop.trips) (v1 : BitVec 32) (v5 : IVec S16 32) :
    k0_part77 (F := F) i arg2 harg2 arg3 harg3 arg4 harg4 arg5 harg5 arg6 harg6 arg7 harg7 arg8 harg8 arg9 harg9 arg10 harg10 arg11 arg12 v117_r0 v117_r1 v1 k0_pay1 k0_pay2 v5 0#32 1#32 k0_t1
      = (startC arg2 ⟨k0_off1 i k0_t1, k0_off1_inb i k0_t1⟩ arg5 harg5 arg11 <|
  startC arg2 ⟨k0_off2 i k0_t1, k0_off2_inb i k0_t1⟩ arg6 harg6 arg12 <|
  Scf.Loop.for k0_t2_loop k0_t2_ok k0_pay843 (ph1C i arg2 arg5 harg5 arg6 harg6 arg11 arg12 k0_t1) >>= fun t =>
  Scf.Loop.for k0_t7_loop k0_t7_ok 0#32 (fun r _ => fillC arg9 arg10 ⟨_, k0_off7_inb r⟩) >>= fun _ =>
  Scf.Loop.for k0_t8_loop k0_t8_ok 0#32 (fun r _ => fillC arg7 arg8 ⟨_, k0_off8_inb r⟩) >>= fun _ =>
  .ret ⟨t, k0_pay867 v5, k0_pay868 v5, k0_pay869 v5, k0_pay870 v5, k0_pay871 v5, k0_pay872 v5, k0_pay873⟩) := rfl

/-- The second part of a batch. -/
theorem part78_eq (k0_t1 : Fin k0_t1_loop.trips) (t : FVec F S16 .f32) :
    let v5 : IVec S16 32 := iota .scVector S16 32 [0] iota_S16_d0_w32_scVector
    k0_part78 (F := F) i arg2 harg2 arg3 harg3 arg4 harg4 arg5 harg5 arg6 harg6 arg7 harg7 arg8 harg8 arg9 harg9 arg10 harg10 arg11 arg12 v117_r0 v117_r1 k0_pay3 v5 k0_t1 t (k0_pay867 v5) (k0_pay868 v5) (k0_pay869 v5) (k0_pay870 v5) (k0_pay871 v5) (k0_pay872 v5) k0_pay873
      = (startC arg2 ⟨k0_off1 i k0_t1, k0_off1_inb i k0_t1⟩ arg5 harg5 arg11 <|
  startC arg2 ⟨k0_off2 i k0_t1, k0_off2_inb i k0_t1⟩ arg6 harg6 arg12 <|
  Scf.Loop.for k0_t9_loop k0_t9_ok st8₀ (ph2C i arg2 arg5 harg5 arg6 harg6 arg7 arg8 arg11 arg12 k0_t1 t) >>= fun s =>
  .ret ⟨s.2.1, s.2.2.1, s.2.2.2.1, s.2.2.2.2.1, s.2.2.2.2.2.1, s.2.2.2.2.2.2.1, s.2.2.2.2.2.2.2.1, mx s.1, k0_pay896⟩) := by
  intro v5
  rw [k0_part78_eq_skeleton]
  unfold k0_part78_skel
  rw [t9_eq]
  rfl

end Cert.Proof.Run

end
-- ==== Proof.ShapeBlock.lean ====
/-
  The printed bodies are the short programs of `Clean.lean`, by unfolding.
-/
module

public import proofs.«01_k».proof.Proof.Clean

@[expose] public section
noncomputable section
namespace Cert.Proof.Run
open Cert.KernelIdeal Cert.KernelIdeal.Gen
open Idealize.ShloMosaic
open Idealize.SL Idealize.SL.Sem

variable {F : FTy → Type} [FloatOps F]

variable (i : grid0.Coords) (arg2 : Memref sig .scVector .hbm S64x524288 .f32) (harg2 : arg2.IsWhole) (arg3 : Memref sig .scVector .hbm S64x1024 .f32) (harg3 : arg3.IsWhole) (arg4 : Memref sig .scVector .hbm S64x1024 .i32) (harg4 : arg4.IsWhole) (arg5 : Memref sig .scVector .vmem S32768 .f32) (harg5 : arg5.IsWhole) (arg6 : Memref sig .scVector .vmem S32768 .f32) (harg6 : arg6.IsWhole) (arg7 : Memref sig .scVector .vmem S8192 .f32) (harg7 : arg7.IsWhole) (arg8 : Memref sig .scVector .vmem S8192 .i32) (harg8 : arg8.IsWhole) (arg9 : Memref sig .scVector .vmem S1024 .f32) (harg9 : arg9.IsWhole) (arg10 : Memref sig .scVector .vmem S1024 .i32) (harg10 : arg10.IsWhole) (arg11 : DmaSems sig S_) (arg12 : DmaSems sig S_) (v117_r0 : DmaSems sig S_) (v117_r1 : DmaSems sig S_)

set_option maxRecDepth 100000
set_option maxHeartbeats 4000000

/-- A block of the third pass. -/
theorem t12_eq (s : St8) :
    k0_t12_body (F := F) i arg2 harg2 arg3 harg3 arg4 harg4 arg5 harg5 arg6 harg6 arg7 harg7 arg8 harg8 arg9 harg9 arg10 harg10 arg11 arg12 v117_r0 v117_r1 s.2.1 s.2.2.1 s.2.2.2.1 s.2.2.2.2.1 s.2.2.2.2.2.1 s.2.2.2.2.2.2.1 s.2.2.2.2.2.2.2.1 (mx s.1) k0_pay896
      (mx s.2.1) (mx s.2.2.1) (mx s.2.2.2.1) (mx s.2.2.2.2.1) (mx s.2.2.2.2.2.1) (mx s.2.2.2.2.2.2.1) (mx s.2.2.2.2.2.2.2.1)
      = fun b _ => ph3C i arg7 arg8 arg9 arg10 s b := by
  rfl

end Cert.Proof.Run

end
-- ==== Proof.ShapeAll.lean ====
/-
  The printed task is two batches, each the short program of `Clean.lean`.
-/
module

public import proofs.«01_k».proof.Proof.Shape
public import proofs.«01_k».proof.Proof.ShapeBlock

@[expose] public section
noncomputable section
namespace Cert.Proof.Run
open Cert.KernelIdeal Cert.KernelIdeal.Gen
open Idealize.ShloMosaic
open Idealize.SL Idealize.SL.Sem

variable {F : FTy → Type} [FloatOps F]

variable (i : grid0.Coords) (arg2 : Memref sig .scVector .hbm S64x524288 .f32) (harg2 : arg2.IsWhole) (arg3 : Memref sig .scVector .hbm S64x1024 .f32) (harg3 : arg3.IsWhole) (arg4 : Memref sig .scVector .hbm S64x1024 .i32) (harg4 : arg4.IsWhole) (arg5 : Memref sig .scVector .vmem S32768 .f32) (harg5 : arg5.IsWhole) (arg6 : Memref sig .scVector .vmem S32768 .f32) (harg6 : arg6.IsWhole) (arg7 : Memref sig .scVector .vmem S8192 .f32) (harg7 : arg7.IsWhole) (arg8 : Memref sig .scVector .vmem S8192 .i32) (harg8 : arg8.IsWhole) (arg9 : Memref sig .scVector .vmem S1024 .f32) (harg9 : arg9.IsWhole) (arg10 : Memref sig .scVector .vmem S1024 .i32) (harg10 : arg10.IsWhole) (arg11 : DmaSems sig S_) (arg12 : DmaSems sig S_) (v117_r0 : DmaSems sig S_) (v117_r1 : DmaSems sig S_)

set_option maxRecDepth 100000
set_option maxHeartbeats 4000000

/-- The third part of a batch. -/
theorem part79_eq (s : St8) :
    k0_part79 (F := F) i arg2 harg2 arg3 harg3 arg4 harg4 arg5 harg5 arg6 harg6 arg7 harg7 arg8 harg8 arg9 harg9 arg10 harg10 arg11 arg12 v117_r0 v117_r1 s.2.1 s.2.2.1 s.2.2.2.1 s.2.2.2.2.1 s.2.2.2.2.2.1 s.2.2.2.2.2.2.1 s.2.2.2.2.2.2.2.1 (mx s.1) k0_pay896
      = (Scf.Loop.for k0_t12_loop k0_t12_ok 0#32 (fun b _ => ph3C i arg7 arg8 arg9 arg10 s b) >>= fun _ => .ret PUnit.unit) := by
  rw [k0_part79_eq_skeleton]
  unfold k0_part79_skel
  refine bindL (congrArg (Scf.Loop.for k0_t12_loop k0_t12_ok 0#32) ?_)
  exact t12_eq i arg2 harg2 arg3 harg3 arg4 harg4 arg5 harg5 arg6 harg6 arg7 harg7 arg8 harg8 arg9 harg9 arg10 harg10 arg11 arg12 v117_r0 v117_r1 s

/-- One batch. -/
theorem t1_eq (k0_t1 : Fin k0_t1_loop.trips) (v1 : BitVec 32) (z : BitVec 32) :
    k0_t1_body (F := F) i arg2 harg2 arg3 harg3 arg4 harg4 arg5 harg5 arg6 harg6 arg7 harg7 arg8 harg8 arg9 harg9 arg10 harg10 arg11 arg12 v117_r0 v117_r1 v1 (iota .scVector S16 32 [0] iota_S16_d0_w32_scVector) k0_t1 z
      = batchC i arg2 arg3 arg4 arg5 harg5 arg6 harg6 arg7 arg8 arg9 harg9 arg10 harg10 arg11 arg12 v117_r0 v117_r1 k0_t1 := by
  unfold k0_t1_body
  refine (bindL (part77_eq i arg2 harg2 arg3 harg3 arg4 harg4 arg5 harg5 arg6 harg6 arg7 harg7 arg8 harg8 arg9 harg9 arg10 harg10 arg11 arg12 v117_r0 v117_r1 k0_t1 v1 _)).trans ?_
  unfold batchC
  refine congrArg (startC arg2 _ arg5 harg5 arg11) (congrArg (startC arg2 _ arg6 harg6 arg12) ?_)
  refine bindA ?_
  funext t
  refine bindA ?_
  funext _
  refine bindA ?_
  funext _
  refine (bindL (part78_eq i arg2 harg2 arg3 harg3 arg4 harg4 arg5 harg5 arg6 harg6 arg7 harg7 arg8 harg8 arg9 harg9 arg10 harg10 arg11 arg12 v117_r0 v117_r1 k0_t1 t)).trans ?_
  refine congrArg (startC arg2 _ arg5 harg5 arg11) (congrArg (startC arg2 _ arg6 harg6 arg12) ?_)
  refine bindA ?_
  funext s
  refine (bindL (part79_eq i arg2 harg2 arg3 harg3 arg4 harg4 arg5 harg5 arg6 harg6 arg7 harg7 arg8 harg8 arg9 harg9 arg10 harg10 arg11 arg12 v117_r0 v117_r1 s)).trans ?_
  refine bindA ?_
  funext _
  rfl

/-- The task is two batches. -/
theorem body_eq :
    cc0__sc_body (F := F) i arg2 harg2 arg3 harg3 arg4 harg4 arg5 harg5 arg6 harg6 arg7 harg7 arg8 harg8 arg9 harg9 arg10 harg10 arg11 arg12 v117_r0 v117_r1 = (Scf.Loop.for k0_t1_loop k0_t1_ok 0#32 (fun t _ => batchC i arg2 arg3 arg4 arg5 harg5 arg6 harg6 arg7 arg8 arg9 harg9 arg10 harg10 arg11 arg12 v117_r0 v117_r1 t) >>= fun _ => .ret PUnit.unit) := by
  rw [cc0__sc_body_eq_skeleton]
  unfold cc0__sc_body_skel
  refine bindL (congrArg (Scf.Loop.for k0_t1_loop k0_t1_ok 0#32) ?_)
  funext t z
  exact t1_eq i arg2 harg2 arg3 harg3 arg4 harg4 arg5 harg5 arg6 harg6 arg7 harg7 arg8 harg8 arg9 harg9 arg10 harg10 arg11 arg12 v117_r0 v117_r1 t _ z

end Cert.Proof.Run

end
-- ==== Proof.Tile.lean ====
/-
  The task on its own buffers: from what a subcore owns and the rows it is given to those rows at the results.
-/
module

public import proofs.«01_k».proof.Proof.Task
public import proofs.«01_k».proof.Proof.ShapeAll

@[expose] public section
noncomputable section
namespace Cert.Proof.Run
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

attribute [local irreducible] blkCond resP

variable {F : FTy → Type}

local notation "𝕄" => MT nD τ sig (HIx 1) (Elt F) ℕ UU ℕ

/-- The input as the tasks see it and the two outputs, as locations of device `d`. -/
abbrev xLoc (d : Dev nD) : Loc nD τ sig := (SparseCore.T d).loc main_v0
abbrev y1Loc (d : Dev nD) : Loc nD τ sig := (SparseCore.T d).loc main_v1_0
abbrev y2Loc (d : Dev nD) : Loc nD τ sig := (SparseCore.T d).loc main_v1_1

/-- The two rows of the outputs that task `s` of core `c` writes. -/
def rowSet (c s : ℕ) : Finset S64x1024.Idx := Finset.univ.filter fun x => (x 0).val / 2 = 2 * s + c

/-- A memory reference held outright is its buffer at some contents. -/
theorem own_of_pts {c : Thread nD τ} {n : ℕ} (hn : 0 < n) {e : EltTy} (M : Memref sig c.2.kind .vmem ⟨1, ![n]⟩ e) (f : Buf (Elt F) (M.view.loc c)) :
    (M.view.loc c ↦[M.view.set]{fullShare} f : sProp 𝕄) ⊢ iprop(∃ g, own c M g) := by
  unfold own
  iintro H
  iexists (fun p => M.view.read (Elt F) f (fun a => ⟨p % n, by obtain rfl : a = 0 := Subsingleton.elim _ _; exact Nat.mod_lt _ hn⟩))
  iexists f
  isplitr
  · ipureintro
    intro x
    congr 1
    funext a
    obtain rfl : a = 0 := Subsingleton.elim _ _
    exact Fin.ext (Nat.mod_eq_of_lt (x 0).isLt).symm
  · iexact H

theorem pts_of_own {c : Thread nD τ} {n : ℕ} {e : EltTy} (M : Memref sig c.2.kind .vmem ⟨1, ![n]⟩ e) (g : ℕ → Elt F e) :
    (own c M g : sProp 𝕄) ⊢ iprop(∃ f, M.view.loc c ↦[M.view.set]{fullShare} f) := by
  unfold own
  iintro ⟨%f, -, H⟩
  iexists f
  iexact H

variable (d : Dev nD) (L : grid0.Coords)

/-- The four semaphores of a subcore's copies. -/
abbrev cell0 (d : Dev nD) (L : grid0.Coords) : GSem nD τ sig := (Vi d L, .dma cc0_scratch6.sem)
abbrev cell1 (d : Dev nD) (L : grid0.Coords) : GSem nD τ sig := (Vi d L, .dma cc0_scratch7.sem)
abbrev cell2 (d : Dev nD) (L : grid0.Coords) : GSem nD τ sig := (Vi d L, .dma cc0_scoped0.sem)
abbrev cell3 (d : Dev nD) (L : grid0.Coords) : GSem nD τ sig := (Vi d L, .dma cc0_scoped1.sem)

theorem ownSems0_V :
    (ownSems0 (Vi d L) : sProp 𝕄)
      = iprop(semVal (cell0 d L) 0 ∗ semVal (cell1 d L) 0 ∗ semVal (cell2 d L) 0 ∗ semVal (cell3 d L) 0
          ∗ bigSep (((((ownCells (Vi d L)).erase (cell0 d L)).erase (cell1 d L)).erase (cell2 d L)).erase (cell3 d L)) fun g => semVal g 0) := by
  have ne {a b : SemLoc sig} (h : a ≠ b) : ((Vi d L, a) : GSem nD τ sig) ≠ (Vi d L, b) := fun e => h (Prod.mk.inj e).2
  unfold SparseCore.Cfg.ownSems0
  rw [SparseCore.bigSep_erase' ((mem_ownCells (g := cell0 d L)).mpr ⟨rfl, by
      show (SemLoc.dma cc0_scratch6.sem : SemLoc sig).isScoped .scVector = true; decide⟩),
    SparseCore.bigSep_erase' (Finset.mem_erase.mpr ⟨ne (by decide), (mem_ownCells (g := cell1 d L)).mpr ⟨rfl, by
      show (SemLoc.dma cc0_scratch7.sem : SemLoc sig).isScoped .scVector = true; decide⟩⟩),
    SparseCore.bigSep_erase' (Finset.mem_erase.mpr ⟨ne (by decide), Finset.mem_erase.mpr ⟨ne (by decide), (mem_ownCells (g := cell2 d L)).mpr ⟨rfl, by
      show (SemLoc.dma cc0_scoped0.sem : SemLoc sig).isScoped .scVector = true; decide⟩⟩⟩),
    SparseCore.bigSep_erase' (Finset.mem_erase.mpr ⟨ne (by decide), Finset.mem_erase.mpr ⟨ne (by decide), Finset.mem_erase.mpr ⟨ne (by decide), (mem_ownCells (g := cell3 d L)).mpr ⟨rfl, by
      show (SemLoc.dma cc0_scoped1.sem : SemLoc sig).isScoped .scVector = true; decide⟩⟩⟩⟩)]

/-- A scratch buffer of the subcore as its device names it. -/
abbrev dref (L : grid0.Coords) (r : Ref sig .scVector) : DevRef τ sig := (Proc.scVector ((L 0).castLE hcore0) ((L 1).castLE hsub0)).devRef r

theorem ownBufs_V :
    (ownBufs (Vi d L) : sProp 𝕄)
      = iprop((∃ f, (Vi d L).loc cc0_scratch0 ↦{fullShare} f) ∗ (∃ f, (Vi d L).loc cc0_scratch1 ↦{fullShare} f) ∗ (∃ f, (Vi d L).loc cc0_scratch2 ↦{fullShare} f)
          ∗ (∃ f, (Vi d L).loc cc0_scratch3 ↦{fullShare} f) ∗ (∃ f, (Vi d L).loc cc0_scratch4 ↦{fullShare} f) ∗ (∃ f, (Vi d L).loc cc0_scratch5 ↦{fullShare} f)
          ∗ bigSep (((((((ownRefs (τ := τ) (.scVector ((L 0).castLE hcore0) ((L 1).castLE hsub0))).erase (dref L cc0_scratch0)).erase (dref L cc0_scratch1)).erase (dref L cc0_scratch2)).erase
              (dref L cc0_scratch3)).erase (dref L cc0_scratch4)).erase (dref L cc0_scratch5)) fun b => iprop(∃ f, ((d, b) : Loc nD τ sig) ↦{fullShare} f)) := by
  have ne {a b : Ref sig .scVector} (h : a ≠ b) : dref L a ≠ dref L b := fun e => h (Proc.devRef_injective _ e)
  have mem (r : Ref sig .scVector) (h : (dref L r).owner = .proc (.scVector ((L 0).castLE hcore0) ((L 1).castLE hsub0))) :
      dref L r ∈ ownRefs (τ := τ) (.scVector ((L 0).castLE hcore0) ((L 1).castLE hsub0)) := SparseCore.Cfg.mem_ownRefs_of_owner h
  unfold SparseCore.Cfg.ownBufs
  refine (SparseCore.bigSep_erase' (mem cc0_scratch0 rfl)).trans ?_
  rw [SparseCore.bigSep_erase' (Finset.mem_erase.mpr ⟨ne (by decide), mem cc0_scratch1 rfl⟩),
    SparseCore.bigSep_erase' (Finset.mem_erase.mpr ⟨ne (by decide), Finset.mem_erase.mpr ⟨ne (by decide), mem cc0_scratch2 rfl⟩⟩),
    SparseCore.bigSep_erase' (Finset.mem_erase.mpr ⟨ne (by decide), Finset.mem_erase.mpr ⟨ne (by decide), Finset.mem_erase.mpr ⟨ne (by decide), mem cc0_scratch3 rfl⟩⟩⟩),
    SparseCore.bigSep_erase' (Finset.mem_erase.mpr ⟨ne (by decide), Finset.mem_erase.mpr ⟨ne (by decide), Finset.mem_erase.mpr ⟨ne (by decide), Finset.mem_erase.mpr ⟨ne (by decide), mem cc0_scratch4 rfl⟩⟩⟩⟩),
    SparseCore.bigSep_erase' (Finset.mem_erase.mpr ⟨ne (by decide), Finset.mem_erase.mpr ⟨ne (by decide), Finset.mem_erase.mpr ⟨ne (by decide), Finset.mem_erase.mpr ⟨ne (by decide),
      Finset.mem_erase.mpr ⟨ne (by decide), mem cc0_scratch5 rfl⟩⟩⟩⟩⟩)]

variable [FloatOps F]

abbrev xV : Memref sig .scVector .hbm S64x524288 .f32 := Memref.whole main_v0_scv
abbrev y1V : Memref sig .scVector .hbm S64x1024 .f32 := Memref.whole main_v1_0_scv
abbrev y2V : Memref sig .scVector .hbm S64x1024 .i32 := Memref.whole main_v1_1_scv
abbrev s0 : Memref sig .scVector .vmem S32768 .f32 := Memref.whole cc0_scratch0
abbrev s1 : Memref sig .scVector .vmem S32768 .f32 := Memref.whole cc0_scratch1
abbrev s2 : Memref sig .scVector .vmem S8192 .f32 := Memref.whole cc0_scratch2
abbrev s3 : Memref sig .scVector .vmem S8192 .i32 := Memref.whole cc0_scratch3
abbrev s4 : Memref sig .scVector .vmem S1024 .f32 := Memref.whole cc0_scratch4
abbrev s5 : Memref sig .scVector .vmem S1024 .i32 := Memref.whole cc0_scratch5

/-- The words of batch `n` of the input. -/
def XB (f : S64x524288.Idx → Elt F .f32) (n : ℕ) : ℕ → Elt F .f32 := fun p => f (xat n p)

/-- What the tasks leave in the outputs. -/
def R1 (f : S64x524288.Idx → Elt F .f32) : S64x1024.Idx → Elt F .f32 := fun x => (resP (XB f (x 0).val)).1 (x 1).val
def R2 (f : S64x524288.Idx → Elt F .f32) : S64x1024.Idx → Elt F .i32 := fun x => (resP (XB f (x 0).val)).2 (x 1).val

/-- The row of an output that a batch writes is one of the task's two. -/
theorem set_out1 (t : Fin k0_t1_loop.trips) : (outV y1V ⟨_, k0_off78_inb L t⟩).view.set ⊆ rowSet (L 0).val (L 1).val := by
  show ((y1V.view.slice (Rect.unit (s := S64x1024) (k0_off78 L t) S1x1024.size (k0_off78_inb L t))).reshape S1024 squeezes_S1x1024_S1024.numel_eq).set ⊆ _
  rw [View.set_reshape, View.set_slice]
  intro z hz
  obtain ⟨w, hw, rfl⟩ := Finset.mem_map.mp hz
  have h := Rect.mem_set_unit.mp hw 0
  rw [k0_off78_eq] at h
  have ht : t.val < 2 := t.isLt
  refine Finset.mem_filter.mpr ⟨Finset.mem_univ _, ?_⟩
  have h2 : 4 * (L 1).val + 2 * (L 0).val + t.val ≤ (w 0).val ∧ (w 0).val < 4 * (L 1).val + 2 * (L 0).val + t.val + 1 := h
  show (w 0).val / 2 = _
  omega

theorem set_out2 (t : Fin k0_t1_loop.trips) : (outV y2V ⟨_, k0_off78_inb L t⟩).view.set ⊆ rowSet (L 0).val (L 1).val := by
  show ((y2V.view.slice (Rect.unit (s := S64x1024) (k0_off78 L t) S1x1024.size (k0_off78_inb L t))).reshape S1024 squeezes_S1x1024_S1024.numel_eq).set ⊆ _
  rw [View.set_reshape, View.set_slice]
  intro z hz
  obtain ⟨w, hw, rfl⟩ := Finset.mem_map.mp hz
  have h := Rect.mem_set_unit.mp hw 0
  rw [k0_off78_eq] at h
  have ht : t.val < 2 := t.isLt
  refine Finset.mem_filter.mpr ⟨Finset.mem_univ _, ?_⟩
  have h2 : 4 * (L 1).val + 2 * (L 0).val + t.val ≤ (w 0).val ∧ (w 0).val < 4 * (L 1).val + 2 * (L 0).val + t.val + 1 := h
  show (w 0).val / 2 = _
  omega

/-- An element of the task's rows is a word of one of its two batches. -/
theorem rowSet_yat {x : S64x1024.Idx} (hx : x ∈ rowSet (L 0).val (L 1).val) :
    ∃ t < 2, ∃ p < 1024, x = yat (row L t) p ∧ (x 0).val = row L t ∧ (x 1).val = p := by
  have h := (Finset.mem_filter.mp hx).2
  have h0 : (x 0).val < 64 := (x 0).isLt
  have h1 : (x 1).val < 1024 := (x 1).isLt
  have hr : (x 0).val = row L ((x 0).val % 2) := by unfold row; omega
  refine ⟨(x 0).val % 2, Nat.mod_lt _ (by decide), (x 1).val, h1, ?_, hr, rfl⟩
  funext j
  apply Fin.ext
  match j with
  | 0 => show (x 0).val = row L ((x 0).val % 2) % 64; omega
  | 1 => show (x 1).val = (x 1).val % 1024; omega

/-- What a task is given: two shares of the input, its rows of the outputs. -/
def goP (d : Dev nD) (c s : ℕ) (q5 q6 : PosShare TreeShare) (f : Buf (Elt F) (xLoc d)) (g1 : Buf (Elt F) (y1Loc d)) (g2 : Buf (Elt F) (y2Loc d)) : sProp 𝕄 :=
  iprop((xLoc d ↦{q5} f) ∗ (xLoc d ↦{q6} f) ∗ (y1Loc d ↦[rowSet c s]{fullShare} g1) ∗ (y2Loc d ↦[rowSet c s]{fullShare} g2))

/-- The task. -/
theorem tile_body (hF : (K (F := F)).Facts) (q5 q6 : PosShare TreeShare) (f : Buf (Elt F) (xLoc d)) (g1 : Buf (Elt F) (y1Loc d)) (g2 : Buf (Elt F) (y2Loc d))
    (hfit : ∀ n < 64, Fits (XB (F := F) f n)) (O : CellTallies nD τ sig (HIx 1)) (W : Waits sig (HIx 1)) (hO : ∀ g, O g none = 0) :
    iprop(levAts (K (F := F)).L (K (F := F)).lev ∗ emp ∗ goP d (L 0).val (L 1).val q5 q6 f g1 g2
        ∗ scopedBufs (Vi d L) ∗ scopedSems0 (Vi d L) ∗ owes (Vi d L) O W)
      ⊢ wp frame (wpE (defs₀ (F := F)) 𝒱₀ (Vi d L) none) Set.univ
          (cc0__sc_body L xV (Memref.isWhole_whole _) y1V (Memref.isWhole_whole _) y2V (Memref.isWhole_whole _)
            s0 (Memref.isWhole_whole _) s1 (Memref.isWhole_whole _) s2 (Memref.isWhole_whole _) s3 (Memref.isWhole_whole _) s4 (Memref.isWhole_whole _) s5 (Memref.isWhole_whole _)
            cc0_scratch6 cc0_scratch7 cc0_scoped0 cc0_scoped1)
          fun _ => iprop(goP d (L 0).val (L 1).val q5 q6 f (R1 f) (R2 f) ∗ scopedBufs (Vi d L) ∗ scopedSems0 (Vi d L)
            ∗ ∃ W', ⌜∀ p ∈ W', p ∈ W ∨ p.2 = none⌝ ∗ owes (Vi d L) O W') := by
  rw [body_eq, (K (F := F)).scopedBufs_V hF d ((L 0).castLE hcore0) ((L 1).castLE hsub0),
    SparseCore.Cfg.scopedSems0_V (Val := Elt F) d ((L 0).castLE hcore0) ((L 1).castLE hsub0), ownSems0_V, ownBufs_V]
  unfold goP
  have hu : ∀ (r : Ref sig .scVector), (Memref.whole r).view.set = Finset.univ := fun r => by rw [Memref.view_whole, View.set_whole]
  iintro ⟨#Hlv, -, ⟨Hx5, Hx6, H3, H4⟩, ⟨⟨%f0, H0⟩, ⟨%f1, H1⟩, ⟨%f2, H2⟩, ⟨%f3, H3s⟩, ⟨%f4, H4s⟩, ⟨%f5, H5s⟩, Hbufs⟩, ⟨Hs0, Hs1, Hs2, Hs3, Hsems⟩, HO⟩
  ihave H0 := (own_of_pts (c := Vi d L) (n := 32768) (by decide) s0 f0) $$ [H0]
  · rw [hu]; iexact H0
  ihave H1 := (own_of_pts (c := Vi d L) (n := 32768) (by decide) s1 f1) $$ [H1]
  · rw [hu]; iexact H1
  ihave H2 := (own_of_pts (c := Vi d L) (n := 8192) (by decide) s2 f2) $$ [H2]
  · rw [hu]; iexact H2
  ihave H3s := (own_of_pts (c := Vi d L) (n := 8192) (by decide) s3 f3) $$ [H3s]
  · rw [hu]; iexact H3s
  ihave H4s := (own_of_pts (c := Vi d L) (n := 1024) (by decide) s4 f4) $$ [H4s]
  · rw [hu]; iexact H4s
  ihave H5s := (own_of_pts (c := Vi d L) (n := 1024) (by decide) s5 f5) $$ [H5s]
  · rw [hu]; iexact H5s
  icases H2 with ⟨%e2, H2⟩
  icases H3s with ⟨%e3, H3s⟩
  icases H4s with ⟨%e4, H4s⟩
  icases H5s with ⟨%e5, H5s⟩
  iapply (wp_task (d := d) L xV y1V y2V s0 (Memref.isWhole_whole _) s1 (Memref.isWhole_whole _) s2 s3 s4 (Memref.isWhole_whole _) s5 (Memref.isWhole_whole _)
    cc0_scratch6 cc0_scratch7 cc0_scoped0 cc0_scoped1 q5 q6 f W (rowSet (L 0).val (L 1).val) (rowSet (L 0).val (L 1).val) hO
    (fun t ht => hfit _ (row_lt L ht)) (set_out1 L) (set_out2 L)) $$ [Hx5 Hx6 H3 H4 H0 H1 H2 H3s H4s H5s Hs0 Hs1 Hs2 Hs3 HO]
  · isplitr [H3 H4]
    · unfold rest idle shX heldR owe
      rw [hu]
      isplitr; · iexact Hlv
      isplitl [H0 Hx5 Hs0]
      · isplitl [H0]; · iexact H0
        isplitl [Hx5]; · iexact Hx5
        iexact Hs0
      isplitl [H1 Hx6 Hs1]
      · isplitl [H1]; · iexact H1
        isplitl [Hx6]; · iexact Hx6
        iexact Hs1
      isplitl [H2 H3s]
      · iexists ((e2, e3) : RS F)
        isplitl [H2]; · iexact H2
        iexact H3s
      isplitl [H4s H5s]
      · iexists ((e4, e5) : RS F)
        isplitl [H4s]; · iexact H4s
        iexact H5s
      isplitl [Hs2]; · iexact Hs2
      isplitl [Hs3]; · iexact Hs3
      iexists W
      isplitr
      · ipureintro; exact fun p hp => .inl hp
      · iexact HO
    · unfold done
      isplitl [H3]
      · iexists g1
        isplitr
        · ipureintro; exact fun t ht => absurd ht (Nat.not_lt_zero t)
        · iexact H3
      · iexists g2
        isplitr
        · ipureintro; exact fun t ht => absurd ht (Nat.not_lt_zero t)
        · iexact H4
  unfold rest idle shX heldR owe done
  rw [hu]
  iintro ⟨⟨-, ⟨⟨%e0, H0⟩, Hx5, Hs0⟩, ⟨⟨%e1, H1⟩, Hx6, Hs1⟩, ⟨%r2, H2, H3s⟩, ⟨%r4, H4s, H5s⟩, Hs2, Hs3, HO⟩, ⟨%h1, %hh1, H3⟩, ⟨%h2, %hh2, H4⟩⟩
  have c1 : ∀ x ∈ rowSet (L 0).val (L 1).val, h1 x = R1 (F := F) f x := by
    intro x hx
    obtain ⟨t, ht, p, hp, rfl, hr, hq⟩ := rowSet_yat L hx
    refine (hh1 t ht p hp).trans ?_
    unfold R1
    rw [hr, hq]
    rfl
  have c2 : ∀ x ∈ rowSet (L 0).val (L 1).val, h2 x = R2 (F := F) f x := by
    intro x hx
    obtain ⟨t, ht, p, hp, rfl, hr, hq⟩ := rowSet_yat L hx
    refine (hh2 t ht p hp).trans ?_
    unfold R2
    rw [hr, hq]
    rfl
  isplitl [Hx5 Hx6 H3 H4]
  · isplitl [Hx5]; · iexact Hx5
    isplitl [Hx6]; · iexact Hx6
    isplitl [H3]
    · iapply (Entails.of_eq (pointsTo_congr (f := h1) (g := R1 (F := F) f) c1))
      iexact H3
    · iapply (Entails.of_eq (pointsTo_congr (f := h2) (g := R2 (F := F) f) c2))
      iexact H4
  isplitl [H0 H1 H2 H3s H4s H5s Hbufs]
  · isplitl [H0]
    · ihave H := (pts_of_own (c := Vi d L) s0 _) $$ H0
      rw [hu]; iexact H
    isplitl [H1]
    · ihave H := (pts_of_own (c := Vi d L) s1 _) $$ H1
      rw [hu]; iexact H
    isplitl [H2]
    · ihave H := (pts_of_own (c := Vi d L) s2 _) $$ H2
      rw [hu]; iexact H
    isplitl [H3s]
    · ihave H := (pts_of_own (c := Vi d L) s3 _) $$ H3s
      rw [hu]; iexact H
    isplitl [H4s]
    · ihave H := (pts_of_own (c := Vi d L) s4 _) $$ H4s
      rw [hu]; iexact H
    isplitl [H5s]
    · ihave H := (pts_of_own (c := Vi d L) s5 _) $$ H5s
      rw [hu]; iexact H
    iexact Hbufs
  isplitl [Hs0 Hs1 Hs2 Hs3 Hsems]
  · isplitl [Hs0]; · iexact Hs0
    isplitl [Hs1]; · iexact Hs1
    isplitl [Hs2]; · iexact Hs2
    isplitl [Hs3]; · iexact Hs3
    iexact Hsems
  iexact HO

end Cert.Proof.Run

end
-- ==== Proof.Launch.lean ====
/-
  The launch: the input dealt to the tasks, the results gathered, the program's run.
-/
module

public import proofs.«01_k».proof.Proof.Tile

@[expose] public section
noncomputable section
namespace Cert.Proof.Run
open Cert.KernelIdeal Cert.KernelIdeal.Gen
open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (dealOf pointsTo_deal)

attribute [local irreducible] blkCond resP

variable {F : FTy → Type}

local notation "𝕄" => MT nD τ sig (HIx 1) (Elt F) ℕ UU ℕ

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Who holds what -/

/-- Core `c`'s share of the input, a task's, and the task's two halves. -/
def qC (c : Fin 2) : PosShare TreeShare := dealOf fullShare (Finset.univ : Finset (Fin 2)) c
def qT (c : Fin 2) (i : Fin 16) : PosShare TreeShare := dealOf (qC c) (Finset.univ : Finset (Fin 16)) i
def qH (c : Fin 2) (i : Fin 16) (h : Fin 2) : PosShare TreeShare := dealOf (qT c i) (Finset.univ : Finset (Fin 2)) h

/-- The rows of the outputs that core `c`'s tasks write. -/
def coreSet (c : ℕ) : Finset S64x1024.Idx := Finset.univ.filter fun x => (x 0).val / 2 % 2 = c

theorem coreSet_cover : (Finset.univ : Finset S64x1024.Idx) = (Finset.univ : Finset (Fin 2)).biUnion fun c => coreSet c.val := by
  ext x
  simp only [Finset.mem_univ, Finset.mem_biUnion, true_and, true_iff]
  exact ⟨⟨(x 0).val / 2 % 2, Nat.mod_lt _ (by decide)⟩, Finset.mem_filter.mpr ⟨Finset.mem_univ _, rfl⟩⟩

theorem coreSet_disjoint : ∀ a ∈ (Finset.univ : Finset (Fin 2)), ∀ b ∈ (Finset.univ : Finset (Fin 2)), a ≠ b → Disjoint (coreSet a.val) (coreSet b.val) := by
  intro a _ b _ h
  refine Finset.disjoint_left.mpr fun x ha hb => h (Fin.ext ?_)
  exact (Finset.mem_filter.mp ha).2.symm.trans (Finset.mem_filter.mp hb).2

theorem rowSet_cover (c : Fin 2) : coreSet c.val = (Finset.univ : Finset (Fin 16)).biUnion fun i => rowSet c.val i.val := by
  ext x
  have hx : (x 0).val < 64 := (x 0).isLt
  have hc := c.isLt
  simp only [Finset.mem_univ, Finset.mem_biUnion, true_and]
  constructor
  · intro h
    have h := (Finset.mem_filter.mp h).2
    exact ⟨⟨(x 0).val / 4, by omega⟩, Finset.mem_filter.mpr ⟨Finset.mem_univ _, by show (x 0).val / 2 = 2 * ((x 0).val / 4) + c.val; omega⟩⟩
  · rintro ⟨i, h⟩
    have h := (Finset.mem_filter.mp h).2
    exact Finset.mem_filter.mpr ⟨Finset.mem_univ _, by omega⟩

theorem rowSet_disjoint (c : Fin 2) : ∀ a ∈ (Finset.univ : Finset (Fin 16)), ∀ b ∈ (Finset.univ : Finset (Fin 16)), a ≠ b → Disjoint (rowSet c.val a.val) (rowSet c.val b.val) := by
  intro a _ b _ h
  refine Finset.disjoint_left.mpr fun x ha hb => h (Fin.ext ?_)
  have h1 := (Finset.mem_filter.mp ha).2
  have h2 := (Finset.mem_filter.mp hb).2
  omega

theorem bigSep_two (Φ : Fin 2 → sProp 𝕄) : bigSep Finset.univ Φ = iprop(Φ 0 ∗ Φ 1) := by
  rw [show (Finset.univ : Finset (Fin 2)) = {0, 1} by decide, SparseCore.bigSep_insert' (by decide), bigSep_singleton]

theorem x_deal (d : Dev nD) (c : Fin 2) (f : Buf (Elt F) (xLoc d)) :
    (xLoc d ↦{qC c} f : sProp 𝕄) = bigSep Finset.univ fun i : Fin 16 => iprop((xLoc d ↦{qH c i 0} f) ∗ (xLoc d ↦{qH c i 1} f)) := by
  rw [pointsTo_deal (Finset.univ : Finset (Fin 16)) Finset.univ_nonempty (qC c)]
  refine bigSep_congr fun i _ => ?_
  rw [pointsTo_deal (Finset.univ : Finset (Fin 2)) Finset.univ_nonempty, bigSep_two]
  rfl

theorem y1_rows (d : Dev nD) (c : Fin 2) (f : Buf (Elt F) (y1Loc d)) :
    (y1Loc d ↦[coreSet c.val]{fullShare} f : sProp 𝕄) = bigSep Finset.univ fun i : Fin 16 => y1Loc d ↦[rowSet c.val i.val]{fullShare} f := by
  rw [rowSet_cover c]
  exact pointsTo_biUnion (ℓ := y1Loc d) Finset.univ (fun i : Fin 16 => rowSet c.val i.val) (rowSet_disjoint c)

theorem y2_rows (d : Dev nD) (c : Fin 2) (f : Buf (Elt F) (y2Loc d)) :
    (y2Loc d ↦[coreSet c.val]{fullShare} f : sProp 𝕄) = bigSep Finset.univ fun i : Fin 16 => y2Loc d ↦[rowSet c.val i.val]{fullShare} f := by
  rw [rowSet_cover c]
  exact pointsTo_biUnion (ℓ := y2Loc d) Finset.univ (fun i : Fin 16 => rowSet c.val i.val) (rowSet_disjoint c)

theorem y1_cores (d : Dev nD) (f : Buf (Elt F) (y1Loc d)) :
    (y1Loc d ↦{fullShare} f : sProp 𝕄) = bigSep Finset.univ fun c : Fin 2 => y1Loc d ↦[coreSet c.val]{fullShare} f := by
  refine Eq.trans ?_ (pointsTo_biUnion (ℓ := y1Loc d) Finset.univ (fun c : Fin 2 => coreSet c.val) coreSet_disjoint)
  rw [← coreSet_cover]

theorem y2_cores (d : Dev nD) (f : Buf (Elt F) (y2Loc d)) :
    (y2Loc d ↦{fullShare} f : sProp 𝕄) = bigSep Finset.univ fun c : Fin 2 => y2Loc d ↦[coreSet c.val]{fullShare} f := by
  refine Eq.trans ?_ (pointsTo_biUnion (ℓ := y2Loc d) Finset.univ (fun c : Fin 2 => coreSet c.val) coreSet_disjoint)
  rw [← coreSet_cover]

/-- What a core is given. -/
def coP (d : Dev nD) (c : Fin 2) (f : Buf (Elt F) (xLoc d)) (g1 : Buf (Elt F) (y1Loc d)) (g2 : Buf (Elt F) (y2Loc d)) : sProp 𝕄 :=
  iprop((xLoc d ↦{qC c} f) ∗ (y1Loc d ↦[coreSet c.val]{fullShare} g1) ∗ (y2Loc d ↦[coreSet c.val]{fullShare} g2))

instance coP_storable (d : Dev nD) (c : Fin 2) (f : Buf (Elt F) (xLoc d)) (g1 : Buf (Elt F) (y1Loc d)) (g2 : Buf (Elt F) (y2Loc d)) :
    BI.Storable (upEmb : UEmb _ 𝕄) (coP d c f g1 g2) := by unfold coP; infer_instance
instance goP_storable (d : Dev nD) (c s : ℕ) (q5 q6 : PosShare TreeShare) (f : Buf (Elt F) (xLoc d)) (g1 : Buf (Elt F) (y1Loc d)) (g2 : Buf (Elt F) (y2Loc d)) :
    BI.Storable (upEmb : UEmb _ 𝕄) (goP d c s q5 q6 f g1 g2) := by unfold goP; infer_instance

theorem coP_tasks (d : Dev nD) (c : Fin 2) (f : Buf (Elt F) (xLoc d)) (g1 : Buf (Elt F) (y1Loc d)) (g2 : Buf (Elt F) (y2Loc d)) :
    coP d c f g1 g2 = bigSep Finset.univ fun i : Fin 16 => goP d c.val i.val (qH c i 0) (qH c i 1) f g1 g2 := by
  unfold coP goP
  rw [x_deal, y1_rows, y2_rows, ← bigSep_sep', ← bigSep_sep']
  refine bigSep_congr fun i _ => ?_
  exact Idealize.SL.BI.Entails.antisymm Idealize.SL.BI.sep_assoc Idealize.SL.BI.sep_assoc'

theorem all_cores (d : Dev nD) (f : Buf (Elt F) (xLoc d)) (g1 : Buf (Elt F) (y1Loc d)) (g2 : Buf (Elt F) (y2Loc d)) :
    iprop((xLoc d ↦{fullShare} f) ∗ (y1Loc d ↦{fullShare} g1) ∗ (y2Loc d ↦{fullShare} g2)) = (bigSep Finset.univ fun c : Fin 2 => coP d c f g1 g2 : sProp 𝕄) := by
  unfold coP
  rw [pointsTo_deal (Finset.univ : Finset (Fin 2)) Finset.univ_nonempty, y1_cores, y2_cores, bigSep_sep', bigSep_sep']
  rfl

/-! ## What the handshakes carry -/

variable [FloatOps F]
variable (m : (ℓ : Loc nD τ sig) → Buf (Elt F) ℓ) (ρ : Dev nD → PrngReg)

abbrev aLoc (d : Dev nD) : Loc nD τ sig := (SparseCore.T d).loc main_arg0
abbrev z1Loc (d : Dev nD) : Loc nD τ sig := (SparseCore.T d).loc main_v2
abbrev z2Loc (d : Dev nD) : Loc nD τ sig := (SparseCore.T d).loc main_v3

/-- The input in rows. -/
def xin (d : Dev nD) : Buf (Elt F) (xLoc d) := fun i => shapeCast S64x524288 (m (aLoc d) : S64x32768x16.Idx → Elt F .f32) shapeCasts_S64x32768x16_S64x524288 i
/-- The results. -/
def Z1 (d : Dev nD) : Buf (Elt F) (z1Loc d) := fun i => shapeCast S64x64x16 (R1 (F := F) (xin m d)) shapeCasts_S64x1024_S64x64x16 i
def Z2 (d : Dev nD) : Buf (Elt F) (z2Loc d) := fun i => shapeCast S64x64x16 (R2 (F := F) (xin m d)) shapeCasts_S64x1024_S64x64x16 i

/-- Every stream of every batch fits. -/
def AllFit : Prop := ∀ d, ∀ n < 64, Fits (XB (F := F) (xin m d) n)

/-- The call's handshakes. -/
def P : (K (F := F)).Pay (nD := nD) (Val := Elt F) (Name := ℕ) (U := UU) where
  st := fun q d c => match q with | 0 => coP d (Fin.cast nCore_zero c) (xin m d) (m (y1Loc d)) (m (y2Loc d))
  dn := fun q d c => match q with | 0 => coP d (Fin.cast nCore_zero c) (xin m d) (R1 (xin m d)) (R2 (xin m d))
  go := fun q d c i => match q with
    | 0 => goP d (Fin.cast nCore_zero c).val (Fin.cast nSub_zero i).val (qH (Fin.cast nCore_zero c) (Fin.cast nSub_zero i) 0) (qH (Fin.cast nCore_zero c) (Fin.cast nSub_zero i) 1) (xin m d) (m (y1Loc d)) (m (y2Loc d))
  td := fun q d c i => match q with
    | 0 => goP d (Fin.cast nCore_zero c).val (Fin.cast nSub_zero i).val (qH (Fin.cast nCore_zero c) (Fin.cast nSub_zero i) 0) (qH (Fin.cast nCore_zero c) (Fin.cast nSub_zero i) 1) (xin m d) (R1 (xin m d)) (R2 (xin m d))
  x := fun _ _ => iprop(emp)

instance P_storable : (P (F := F) m).IsStorable where
  st q d c := match q with
    | 0 => (inferInstance : BI.Storable (upEmb : UEmb _ 𝕄) (coP d (Fin.cast nCore_zero c) (xin m d) (m (y1Loc d)) (m (y2Loc d))))
  dn q d c := match q with
    | 0 => (inferInstance : BI.Storable (upEmb : UEmb _ 𝕄) (coP d (Fin.cast nCore_zero c) (xin m d) (R1 (xin m d)) (R2 (xin m d))))
  go q d c i := match q with
    | 0 => (inferInstance : BI.Storable (upEmb : UEmb _ 𝕄) (goP d (Fin.cast nCore_zero c).val (Fin.cast nSub_zero i).val (qH (Fin.cast nCore_zero c) (Fin.cast nSub_zero i) 0) (qH (Fin.cast nCore_zero c) (Fin.cast nSub_zero i) 1) (xin m d) (m (y1Loc d)) (m (y2Loc d))))
  td q d c i := match q with
    | 0 => (inferInstance : BI.Storable (upEmb : UEmb _ 𝕄) (goP d (Fin.cast nCore_zero c).val (Fin.cast nSub_zero i).val (qH (Fin.cast nCore_zero c) (Fin.cast nSub_zero i) 0) (qH (Fin.cast nCore_zero c) (Fin.cast nSub_zero i) 1) (xin m d) (R1 (xin m d)) (R2 (xin m d))))

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          xV (Memref.isWhole_whole _) y1V (Memref.isWhole_whole _) y2V (Memref.isWhole_whole _)
            s0 (Memref.isWhole_whole _) s1 (Memref.isWhole_whole _) s2 (Memref.isWhole_whole _) s3 (Memref.isWhole_whole _) s4 (Memref.isWhole_whole _) s5 (Memref.isWhole_whole _)
            cc0_scratch6 cc0_scratch7 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl (hF : (K (F := F)).Facts) (hfit : AllFit m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) hF _ _ (xin m d) (m (y1Loc d)) (m (y2Loc d)) (hfit d) O W hO).trans (wp_mono frame _ _ fun _ => obl_post)

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show coP d (Fin.cast nCore_zero c) (xin m d) (m (y1Loc d)) (m (y2Loc d)) ⊢ |={Set.univ}=> iprop(
      (bigSep Finset.univ fun i : Fin ((K (F := F)).nSub 0) =>
        goP d (Fin.cast nCore_zero c).val (Fin.cast nSub_zero i).val (qH (Fin.cast nCore_zero c) (Fin.cast nSub_zero i) 0) (qH (Fin.cast nCore_zero c) (Fin.cast nSub_zero i) 1) (xin m d) (m (y1Loc d)) (m (y2Loc d)))
      ∗ ((bigSep Finset.univ fun i : Fin ((K (F := F)).nSub 0) =>
          goP d (Fin.cast nCore_zero c).val (Fin.cast nSub_zero i).val (qH (Fin.cast nCore_zero c) (Fin.cast nSub_zero i) 0) (qH (Fin.cast nCore_zero c) (Fin.cast nSub_zero i) 1) (xin m d) (R1 (xin m d)) (R2 (xin m d)))
          -∗ coP d (Fin.cast nCore_zero c) (xin m d) (R1 (xin m d)) (R2 (xin m d))))
  rw [bigSep_tasks (F := F) (fun i => goP d (Fin.cast nCore_zero c).val i.val (qH (Fin.cast nCore_zero c) i 0) (qH (Fin.cast nCore_zero c) i 1) (xin m d) (m (y1Loc d)) (m (y2Loc d))),
    bigSep_tasks (F := F) (fun i => goP d (Fin.cast nCore_zero c).val i.val (qH (Fin.cast nCore_zero c) i 0) (qH (Fin.cast nCore_zero c) i 1) (xin m d) (R1 (xin m d)) (R2 (xin m d))),
    ← coP_tasks, ← coP_tasks]
  iintro H; imodintro
  isplitl [H]; · iexact H
  iintro H; iexact H

/-! ## The launch element -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a' : DevRef τ sig := Proc.devRef .tc (main_arg0 : Ref sig .tc)
abbrev x' : DevRef τ sig := Proc.devRef .tc (main_v0 : Ref sig .tc)
abbrev y1' : DevRef τ sig := Proc.devRef .tc (main_v1_0 : Ref sig .tc)
abbrev y2' : DevRef τ sig := Proc.devRef .tc (main_v1_1 : Ref sig .tc)
abbrev z1' : DevRef τ sig := Proc.devRef .tc (main_v2 : Ref sig .tc)
abbrev z2' : DevRef τ sig := Proc.devRef .tc (main_v3 : Ref sig .tc)
abbrev opX : HloOp τ sig (Elt F) := StableHlo.reshape main_arg0 main_v0 (rfl : (.f32 : EltTy) = .f32) shapeCasts_S64x32768x16_S64x524288
abbrev opZ1 : HloOp τ sig (Elt F) := StableHlo.reshape main_v1_0 main_v2 (rfl : (.f32 : EltTy) = .f32) shapeCasts_S64x1024_S64x64x16
abbrev opZ2 : HloOp τ sig (Elt F) := StableHlo.reshape main_v1_1 main_v3 (rfl : (.i32 : EltTy) = .i32) shapeCasts_S64x1024_S64x64x16

/-- The TensorCore's arrays. -/
abbrev S6 : Finset (DevRef τ sig) := {a', x', y1', y2', z1', z2'}

theorem held_S6 (d : Dev nD) (W : Valuation τ sig (Elt F)) :
    (held (T d) S6 W : sProp 𝕄)
      = iprop((aLoc d ↦{fullShare} W a') ∗ (xLoc d ↦{fullShare} W x') ∗ (y1Loc d ↦{fullShare} W y1') ∗ (y2Loc d ↦{fullShare} W y2')
          ∗ (z1Loc d ↦{fullShare} W z1') ∗ z2Loc d ↦{fullShare} W z2') := by
  unfold held S6
  rw [SparseCore.bigSep_insert' (by decide), SparseCore.bigSep_insert' (by decide), SparseCore.bigSep_insert' (by decide), SparseCore.bigSep_insert' (by decide),
    SparseCore.bigSep_insert' (by decide), bigSep_singleton]

theorem unscopedBufs_eq (d : Dev nD) (W : (b : Ref sig .tc) → Buf (Elt F) ((d.tc : Thread nD τ).loc b)) :
    (unscopedBufs d W : sProp 𝕄)
      = iprop((aLoc d ↦{fullShare} W main_arg0) ∗ (xLoc d ↦{fullShare} W main_v0) ∗ (y1Loc d ↦{fullShare} W main_v1_0) ∗ (y2Loc d ↦{fullShare} W main_v1_1)
          ∗ (z1Loc d ↦{fullShare} W main_v2) ∗ z2Loc d ↦{fullShare} W main_v3) := by
  unfold unscopedBufs
  rw [show (Finset.univ.filter fun b : Ref sig .tc => ¬ b.isScoped) = {main_arg0, main_v0, main_v1_0, main_v1_1, main_v2, main_v3} by decide,
    SparseCore.bigSep_insert' (by decide), SparseCore.bigSep_insert' (by decide), SparseCore.bigSep_insert' (by decide), SparseCore.bigSep_insert' (by decide),
    SparseCore.bigSep_insert' (by decide), bigSep_singleton]

/-- The arrays at the launch, after the first reshape, after the call, after each of the last two reshapes. -/
def W0 (d : Dev nD) : Valuation τ sig (Elt F) := fun b => m (d, b)
def W1 (d : Dev nD) : Valuation τ sig (Elt F) := (opX (F := F)).result (W0 m d)
def W2 (d : Dev nD) : Valuation τ sig (Elt F) := Function.update (Function.update (W1 m d) y1' (R1 (F := F) (xin m d))) y2' (R2 (F := F) (xin m d))
def W3 (d : Dev nD) : Valuation τ sig (Elt F) := (opZ1 (F := F)).result (W2 m d)
def W4 (d : Dev nD) : Valuation τ sig (Elt F) := (opZ2 (F := F)).result (W3 m d)

theorem unscoped_held (d : Dev nD) : (unscopedBufs d (fun b => m ((SparseCore.T d).loc b)) : sProp 𝕄) = held (T d) S6 (W0 m d) := by
  rw [unscopedBufs_eq, held_S6]; rfl

theorem W1_ne (d : Dev nD) {b : DevRef τ sig} (h : b ∉ ({x'} : Finset (DevRef τ sig))) : W1 m d b = m (d, b) := (opX (F := F)).result_of_not_mem _ h
theorem W1_x (d : Dev nD) : W1 m d x' = xin m d := StableHlo.reshape_result ..
theorem W2_y2 (d : Dev nD) : W2 m d y2' = R2 (F := F) (xin m d) := Function.update_self _ _ _
theorem W2_y1 (d : Dev nD) : W2 m d y1' = R1 (F := F) (xin m d) := (Function.update_of_ne (show y1' ≠ y2' by decide) _ _).trans (Function.update_self _ _ _)
theorem W2_ne (d : Dev nD) {b : DevRef τ sig} (h1 : b ≠ y1') (h2 : b ≠ y2') : W2 m d b = W1 m d b := (Function.update_of_ne h2 _ _).trans (Function.update_of_ne h1 _ _)
theorem W3_ne (d : Dev nD) {b : DevRef τ sig} (h : b ∉ ({z1'} : Finset (DevRef τ sig))) : W3 m d b = W2 m d b := (opZ1 (F := F)).result_of_not_mem _ h
theorem W3_z1 (d : Dev nD) : W3 m d z1' = Z1 m d := (StableHlo.reshape_result ..).trans (by rw [W2_y1]; rfl)
theorem W4_ne (d : Dev nD) {b : DevRef τ sig} (h : b ∉ ({z2'} : Finset (DevRef τ sig))) : W4 m d b = W3 m d b := (opZ2 (F := F)).result_of_not_mem _ h
theorem W4_z2 (d : Dev nD) : W4 m d z2' = Z2 m d := (StableHlo.reshape_result ..).trans (by rw [W3_ne m d (show y2' ∉ ({z1'} : Finset (DevRef τ sig)) by decide), W2_y2]; rfl)
theorem W4_z1 (d : Dev nD) : W4 m d z1' = Z1 m d := (W4_ne m d (by decide)).trans (W3_z1 m d)
theorem W4_a (d : Dev nD) : W4 m d a' = m (aLoc d) :=
  (W4_ne m d (by decide)).trans ((W3_ne m d (by decide)).trans ((W2_ne m d (by decide) (by decide)).trans (W1_ne m d (by decide))))

theorem st0_eq (d : Dev nD) : (bigSep Finset.univ fun c : Fin ((K (F := F)).nCore 0) => (P m).st 0 d c)
    = iprop((xLoc d ↦{fullShare} xin m d) ∗ (y1Loc d ↦{fullShare} m (y1Loc d)) ∗ (y2Loc d ↦{fullShare} m (y2Loc d))) := by
  rw [all_cores]
  exact bigSep_cores (F := F) (fun c => coP d c (xin m d) (m (y1Loc d)) (m (y2Loc d)))
theorem dn0_eq (d : Dev nD) : (bigSep Finset.univ fun c : Fin ((K (F := F)).nCore 0) => (P m).dn 0 d c)
    = iprop((xLoc d ↦{fullShare} xin m d) ∗ (y1Loc d ↦{fullShare} R1 (F := F) (xin m d)) ∗ (y2Loc d ↦{fullShare} R2 (F := F) (xin m d))) := by
  rw [all_cores]
  exact bigSep_cores (F := F) (fun c => coP d c (xin m d) (R1 (xin m d)) (R2 (xin m d)))

theorem hX : (opX (F := F)).bufs ⊆ S6 := show ({a', x'} : Finset (DevRef τ sig)) ⊆ S6 by decide
theorem hZ1 : (opZ1 (F := F)).bufs ⊆ S6 := show ({y1', z1'} : Finset (DevRef τ sig)) ⊆ S6 by decide
theorem hZ2 : (opZ2 (F := F)).bufs ⊆ S6 := show ({y2', z2'} : Finset (DevRef τ sig)) ⊆ S6 by decide

/-- What @main leaves: the argument and the two results. -/
abbrev FIN (d : Dev nD) : sProp 𝕄 := iprop((aLoc d ↦{fullShare} m (aLoc d)) ∗ (z1Loc d ↦{fullShare} Z1 m d) ∗ z2Loc d ↦{fullShare} Z2 m d)

theorem held_W1 (d : Dev nD) : (held (T d) S6 (W1 m d) : sProp 𝕄)
    = iprop((aLoc d ↦{fullShare} m (aLoc d)) ∗ (xLoc d ↦{fullShare} xin m d) ∗ (y1Loc d ↦{fullShare} m (y1Loc d)) ∗ (y2Loc d ↦{fullShare} m (y2Loc d))
          ∗ (z1Loc d ↦{fullShare} m (z1Loc d)) ∗ z2Loc d ↦{fullShare} m (z2Loc d)) := by
  rw [held_S6, W1_x, W1_ne m d (b := a') (by decide), W1_ne m d (b := y1') (by decide), W1_ne m d (b := y2') (by decide), W1_ne m d (b := z1') (by decide), W1_ne m d (b := z2') (by decide)]
theorem held_W2 (d : Dev nD) : (held (T d) S6 (W2 m d) : sProp 𝕄)
    = iprop((aLoc d ↦{fullShare} m (aLoc d)) ∗ (xLoc d ↦{fullShare} xin m d) ∗ (y1Loc d ↦{fullShare} R1 (F := F) (xin m d)) ∗ (y2Loc d ↦{fullShare} R2 (F := F) (xin m d))
          ∗ (z1Loc d ↦{fullShare} m (z1Loc d)) ∗ z2Loc d ↦{fullShare} m (z2Loc d)) := by
  rw [held_S6, W2_y1, W2_y2, W2_ne m d (b := a') (by decide) (by decide), W2_ne m d (b := x') (by decide) (by decide), W2_ne m d (b := z1') (by decide) (by decide), W2_ne m d (b := z2') (by decide) (by decide),
    W1_x, W1_ne m d (b := a') (by decide), W1_ne m d (b := z1') (by decide), W1_ne m d (b := z2') (by decide)]

/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S6) hX (V := W0 m d)) $$ [Hb Hheld]
  · isplitl [Hb] <;> iassumption
  iintro ⟨Hb, Hheld⟩
  rw [wp_ret]; imodintro
  have e1 : (held (T d) S6 ((opX (F := F)).result (W0 m d)) : sProp 𝕄) = _ := held_W1 m d
  ihave Hh := (Entails.of_eq e1) $$ Hheld
  icases Hh with ⟨Ha, Hx, Hy1, Hy2, Hz1, Hz2⟩
  iapply ((K (F := F)).wp_run (D (F := F)) 𝒱 (EH := EH) (P := P m) κ d 0) $$ [Hst Hx Hy1 Hy2 Hb Ha Hz1 Hz2 Hts]
  isplitr; · iexact Hctx
  isplitl [Hst]; · iexact Hst
  isplitl [Hx Hy1 Hy2]
  · rw [st0_eq]
    isplitl [Hx]; · iexact Hx
    isplitl [Hy1]; · iexact Hy1
    iexact Hy2
  iintro ⟨Hst, Hdn⟩
  ihave Hdn' := (Entails.of_eq (dn0_eq m d)) $$ Hdn
  icases Hdn' with ⟨Hx, Hy1, Hy2⟩
  iapply (wp_hlo_within 𝒱 (SparseCore.T d) none Set.univ (op := opZ1) (S := S6) hZ1 (V := W2 m d)) $$ [Hb Ha Hx Hy1 Hy2 Hz1 Hz2]
  · isplitl [Hb]; · iexact Hb
    rw [held_W2]
    isplitl [Ha]; · iexact Ha
    isplitl [Hx]; · iexact Hx
    isplitl [Hy1]; · iexact Hy1
    isplitl [Hy2]; · iexact Hy2
    isplitl [Hz1]; · iexact Hz1
    iexact Hz2
  iintro ⟨Hb, Hheld⟩
  rw [wp_ret]; imodintro
  iapply (wp_hlo_within 𝒱 (SparseCore.T d) none Set.univ (op := opZ2) (S := S6) hZ2 (V := W3 m d)) $$ [Hb Hheld]
  · isplitl [Hb]; · iexact Hb
    iexact Hheld
  iintro ⟨Hb, Hheld⟩
  have e4 : (held (T d) S6 ((opZ2 (F := F)).result (W3 m d)) : sProp 𝕄)
      = iprop((aLoc d ↦{fullShare} m (aLoc d)) ∗ (xLoc d ↦{fullShare} W4 m d x') ∗ (y1Loc d ↦{fullShare} W4 m d y1') ∗ (y2Loc d ↦{fullShare} W4 m d y2')
          ∗ (z1Loc d ↦{fullShare} Z1 m d) ∗ z2Loc d ↦{fullShare} Z2 m d) := by
    rw [← W4_a m d, ← W4_z1 m d, ← W4_z2 m d]; exact held_S6 d (W4 m d)
  ihave Hh := (Entails.of_eq e4) $$ Hheld
  icases Hh with ⟨Ha, -, -, -, Hz1, Hz2⟩
  rw [wp_ret]; imodintro; imodintro
  isplitl [Hst]; · iexact Hst
  isplitr [Hb Hts]
  · isplitl [Ha]; · iexact Ha
    isplitl [Hz1]; · iexact Hz1
    iexact Hz2
  isplitl [Hb] <;> iassumption

/-- What the claims read of device `d`'s final state. -/
def fq (d : Dev nD) (s' : Phys nD τ sig (Elt F)) : Prop :=
  s'.mem.mem (aLoc d) = m (aLoc d) ∧ s'.mem.mem (z1Loc d) = Z1 m d ∧ s'.mem.mem (z2Loc d) = Z2 m d

theorem hfin (d : Dev nD) (s' : Phys nD τ sig (Elt F)) : iprop(FIN m d ∗ SI s') ⊢ (⌜fq m d s'⌝ : sProp 𝕄) := by
  iintro ⟨⟨Ha, Hz1, Hz2⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h0, HSI, -⟩
  ihave H := (persistent_entails_right (SI_pointsTo_agree (st := s') (ℓ := z1Loc d) (I := Finset.univ) (q := fullShare) (f := Z1 m d))) $$ [HSI Hz1]
  · isplitl [HSI] <;> iassumption
  icases H with ⟨%h1, HSI, -⟩
  ihave H := (SI_pointsTo_agree (st := s') (ℓ := z2Loc d) (I := Finset.univ) (q := fullShare) (f := Z2 m d)) $$ [HSI Hz2]
  · isplitl [HSI] <;> iassumption
  icases H with %h2
  ipureintro
  exact ⟨funext fun i => h0 i (Finset.mem_univ i), funext fun i => h1 i (Finset.mem_univ i), funext fun i => h2 i (Finset.mem_univ i)⟩

/-! ## The program's run -/

def QC : PUnit × MemSt nD τ sig (Elt F) → Prop := fun r =>
  (∀ c : Dev nD, r.2.mem (aLoc c) = m (aLoc c) ∧ r.2.mem (z1Loc c) = Z1 m c ∧ r.2.mem (z2Loc c) = Z2 m c) ∧ r.2.sem = fun _ => 0

/-- The program's run, where every stream fits. -/
theorem run_main [∀ e, Nonempty (Elt F e)] (hfit : AllFit m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hfit)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Run

end
-- ==== Proof.Thr.lean ====
/-
  The thresholds, one lane at a time.
-/
module

public import proofs.«01_k».proof.Proof.Model

@[expose] public section
noncomputable section
namespace Cert.Proof.Run
open Cert.KernelIdeal Cert.KernelIdeal.Gen
open Idealize.ShloMosaic

variable {F : FTy → Type} [FloatOps F]

/-- The least value and the greatest. -/
def ninf : Elt F .f32 := FloatOps.ofBits (F := F) (φ := .f32) 0xFF800000#32
def pinf : Elt F .f32 := FloatOps.ofBits (F := F) (φ := .f32) 0x7F800000#32

/-- Every fourth row of a group of 128, from row `p`. -/
def chn (y : ℕ → Elt F .f32) (i p : ℕ) : Elt F .f32 :=
  (List.finRange 32).foldl (fun r q => FloatOps.maximumf (F := F) (φ := .f32) r (y (128 * i + 4 * q.val + p))) ninf

/-- The maximum of a group. -/
def grp (y : ℕ → Elt F .f32) (i : ℕ) : Elt F .f32 :=
  FloatOps.maximumf (F := F) (φ := .f32) (FloatOps.maximumf (F := F) (φ := .f32) (chn y i 0) (chn y i 1)) (FloatOps.maximumf (F := F) (φ := .f32) (chn y i 2) (chn y i 3))

/-- Four values. -/
abbrev F4 (F : FTy → Type) : Type := Elt F .f32 × Elt F .f32 × Elt F .f32 × Elt F .f32

/-- One value enters the four greatest. -/
def step4 (s : F4 F) (a : Elt F .f32) : F4 F :=
  (FloatOps.maximumf (F := F) (φ := .f32) s.1 a,
   FloatOps.maximumf (F := F) (φ := .f32) s.2.1 (FloatOps.minimumf (F := F) (φ := .f32) s.1 a),
   FloatOps.maximumf (F := F) (φ := .f32) s.2.2.1 (FloatOps.minimumf (F := F) (φ := .f32) s.2.1 (FloatOps.minimumf (F := F) (φ := .f32) s.1 a)),
   FloatOps.maximumf (F := F) (φ := .f32) s.2.2.2 (FloatOps.minimumf (F := F) (φ := .f32) s.2.2.1 (FloatOps.minimumf (F := F) (φ := .f32) s.2.1 (FloatOps.minimumf (F := F) (φ := .f32) s.1 a))))

/-- The four greatest group maxima of segment `s`. -/
def four (y : ℕ → Elt F .f32) (s : ℕ) : F4 F :=
  (List.finRange 16).foldl (fun st i => step4 st (grp y (16 * s + i.val))) (ninf, ninf, ninf, ninf)

/-- The least, over the segments, of the fourth greatest group maximum. -/
def thrS (y : ℕ → Elt F .f32) : Elt F .f32 :=
  (List.finRange 8).foldl (fun m r => FloatOps.minimumf (F := F) (φ := .f32) m
    (FloatOps.minimumf (F := F) (φ := .f32) (four y (2 * r.val)).2.2.2 (four y (2 * r.val + 1)).2.2.2)) pinf

theorem iterTo_take {n : ℕ} {S : Type} (f : Fin n → S → S) (s : S) (k : ℕ) (hk : k ≤ n) :
    iterTo f k s = ((List.finRange n).take k).foldl (fun s k => f k s) s := by
  induction k with
  | zero => rfl
  | succ k ih =>
    have hk' : k < n := hk
    show (if h : k < n then f ⟨k, h⟩ (iterTo f k s) else iterTo f k s) = _
    rw [dif_pos hk', ih hk'.le, List.take_add_one, List.foldl_append]
    have : (List.finRange n)[k]? = some ⟨k, hk'⟩ := by
      rw [List.getElem?_eq_getElem (by rw [List.length_finRange]; exact hk'), List.getElem_finRange]; rfl
    rw [this]; rfl

/-- All the steps in turn. -/
theorem iterTo_all {n : ℕ} {S : Type} (f : Fin n → S → S) (s : S) : iterTo f n s = (List.finRange n).foldl (fun s k => f k s) s := by
  rw [iterTo_take f s n le_rfl, List.take_of_length_le (by rw [List.length_finRange])]

/-- One lane of four vectors. -/
def lane4 (l : S16.Idx) (s : V4 F) : F4 F := (s.1 l, s.2.1 l, s.2.2.1 l, s.2.2.2 l)

theorem off3_eq : ∀ (i : Fin k0_t3_loop.trips) (j : Fin k0_t4_loop.trips) (u : Fin 32), k0_off3 i j (BitVec.ofNat 32 (16 * u.val)) 0 = 16 * (128 * i.val + 32 * j.val + u.val) := by
  decide +kernel

theorem rowMaxP_eight (g : ℕ → Elt F .f32) (o : Fin 32 → Off 32768) (a b c d : FVec F S16 .f32) :
    rowMaxP g ((List.finRange 32).map o) (a, b, c, d)
      = ((List.finRange 8).foldl (fun r q => maximumf r (get g ((o ⟨4 * q.val + 0, by omega⟩).1 0))) a,
         (List.finRange 8).foldl (fun r q => maximumf r (get g ((o ⟨4 * q.val + 1, by omega⟩).1 0))) b,
         (List.finRange 8).foldl (fun r q => maximumf r (get g ((o ⟨4 * q.val + 2, by omega⟩).1 0))) c,
         (List.finRange 8).foldl (fun r q => maximumf r (get g ((o ⟨4 * q.val + 3, by omega⟩).1 0))) d) := rfl

theorem chn_eq (y : ℕ → Elt F .f32) (i p : ℕ) :
    chn y i p = (List.finRange 4).foldl (fun r j => (List.finRange 8).foldl (fun r q => FloatOps.maximumf (F := F) (φ := .f32) r (y (128 * i + 4 * (8 * j.val + q.val) + p))) r) ninf := rfl

theorem fold_lane (g : ℕ → Elt F .f32) (l : S16.Idx) (o : Fin 8 → ℕ) (a : FVec F S16 .f32) :
    ((List.finRange 8).foldl (fun r q => maximumf r (get g (o q))) a : FVec F S16 .f32) l
      = (List.finRange 8).foldl (fun r q => FloatOps.maximumf (F := F) (φ := .f32) r (g (o q + (l 0).val))) (a l) := rfl

theorem trip_lane (g : ℕ → Elt F .f32) (l : S16.Idx) (i : Fin k0_t3_loop.trips) (j : Fin k0_t4_loop.trips) (a : V4 F) (p : ℕ) :
    lane4 l (rowMaxP g (offs3 i j) a)
      = ((List.finRange 8).foldl (fun r q => FloatOps.maximumf (F := F) (φ := .f32) r (g (16 * (128 * i.val + 4 * (8 * j.val + q.val) + 0) + (l 0).val))) (a.1 l),
         (List.finRange 8).foldl (fun r q => FloatOps.maximumf (F := F) (φ := .f32) r (g (16 * (128 * i.val + 4 * (8 * j.val + q.val) + 1) + (l 0).val))) (a.2.1 l),
         (List.finRange 8).foldl (fun r q => FloatOps.maximumf (F := F) (φ := .f32) r (g (16 * (128 * i.val + 4 * (8 * j.val + q.val) + 2) + (l 0).val))) (a.2.2.1 l),
         (List.finRange 8).foldl (fun r q => FloatOps.maximumf (F := F) (φ := .f32) r (g (16 * (128 * i.val + 4 * (8 * j.val + q.val) + 3) + (l 0).val))) (a.2.2.2 l)) := by
  obtain ⟨a, b, c, d⟩ := a
  unfold offs3
  rw [rowMaxP_eight]
  have key (p : ℕ) (hp : p < 4) (q : Fin 8) : k0_off3 i j (BitVec.ofNat 32 (16 * (4 * q.val + p))) 0 = 16 * (128 * i.val + 4 * (8 * j.val + q.val) + p) := by
    rw [off3_eq i j ⟨4 * q.val + p, by omega⟩]
    show 16 * (128 * i.val + 32 * j.val + (4 * q.val + p)) = _
    omega
  unfold lane4
  refine Prod.ext ?_ (Prod.ext ?_ (Prod.ext ?_ ?_))
  · refine (fold_lane g l (fun q => k0_off3 i j (BitVec.ofNat 32 (16 * (4 * q.val + 0))) 0) a).trans ?_
    simp only [key 0 (by decide)]
  · refine (fold_lane g l (fun q => k0_off3 i j (BitVec.ofNat 32 (16 * (4 * q.val + 1))) 0) b).trans ?_
    simp only [key 1 (by decide)]
  · refine (fold_lane g l (fun q => k0_off3 i j (BitVec.ofNat 32 (16 * (4 * q.val + 2))) 0) c).trans ?_
    simp only [key 2 (by decide)]
  · refine (fold_lane g l (fun q => k0_off3 i j (BitVec.ofNat 32 (16 * (4 * q.val + 3))) 0) d).trans ?_
    simp only [key 3 (by decide)]

theorem grpP_lane (g : ℕ → Elt F .f32) (l : S16.Idx) (i : Fin k0_t3_loop.trips) (s : V4 F) :
    lane4 l (grpP g i s) = step4 (lane4 l s) (grp (fun r => g (16 * r + (l 0).val)) i.val) := by
  have h : lane4 l (iterTo (fun j a => rowMaxP g (offs3 i j) a) k0_t4_loop.trips ninf4)
      = (chn (fun r => g (16 * r + (l 0).val)) i.val 0, chn (fun r => g (16 * r + (l 0).val)) i.val 1, chn (fun r => g (16 * r + (l 0).val)) i.val 2, chn (fun r => g (16 * r + (l 0).val)) i.val 3) := by
    rw [iterTo_all, chn_eq, chn_eq, chn_eq, chn_eq]
    rw [← List.foldl_hom (lane4 l) (g₁ := fun s k => rowMaxP g (offs3 i k) s)
      (g₂ := fun (s : F4 F) (j : Fin k0_t4_loop.trips) =>
        ((List.finRange 8).foldl (fun r q => FloatOps.maximumf (F := F) (φ := .f32) r (g (16 * (128 * i.val + 4 * (8 * j.val + q.val) + 0) + (l 0).val))) s.1,
         (List.finRange 8).foldl (fun r q => FloatOps.maximumf (F := F) (φ := .f32) r (g (16 * (128 * i.val + 4 * (8 * j.val + q.val) + 1) + (l 0).val))) s.2.1,
         (List.finRange 8).foldl (fun r q => FloatOps.maximumf (F := F) (φ := .f32) r (g (16 * (128 * i.val + 4 * (8 * j.val + q.val) + 2) + (l 0).val))) s.2.2.1,
         (List.finRange 8).foldl (fun r q => FloatOps.maximumf (F := F) (φ := .f32) r (g (16 * (128 * i.val + 4 * (8 * j.val + q.val) + 3) + (l 0).val))) s.2.2.2))]
    · rfl
    · intro a j; exact (trip_lane g l i j a 0).symm
  unfold grpP
  generalize iterTo (fun j a => rowMaxP g (offs3 i j) a) k0_t4_loop.trips ninf4 = a at h ⊢
  have h1 : a.1 l = _ := congrArg (fun z : F4 F => z.1) h
  have h2 : a.2.1 l = _ := congrArg (fun z : F4 F => z.2.1) h
  have h3 : a.2.2.1 l = _ := congrArg (fun z : F4 F => z.2.2.1) h
  have h4 : a.2.2.2 l = _ := congrArg (fun z : F4 F => z.2.2.2) h
  have hg : grp (fun r => g (16 * r + (l 0).val)) i.val = FloatOps.maximumf (F := F) (φ := .f32) (FloatOps.maximumf (F := F) (φ := .f32) (a.1 l) (a.2.1 l)) (FloatOps.maximumf (F := F) (φ := .f32) (a.2.2.1 l) (a.2.2.2 l)) := by
    rw [h1, h2, h3, h4]; rfl
  rw [hg]
  rfl

theorem segP_lane (g : ℕ → Elt F .f32) (l : S16.Idx) :
    lane4 l (segP g) = (List.finRange 16).foldl (fun st i => step4 st (grp (fun r => g (16 * r + (l 0).val)) i.val)) (ninf, ninf, ninf, ninf) := by
  unfold segP
  rw [iterTo_all, ← List.foldl_hom (lane4 l) (g₁ := fun s k => grpP g k s) (g₂ := fun (st : F4 F) (i : Fin k0_t3_loop.trips) => step4 st (grp (fun r => g (16 * r + (l 0).val)) i.val))]
  · rfl
  · intro a j; exact (grpP_lane g l j a).symm

theorem grp_shift (X : ℕ → Elt F .f32) (l s i : ℕ) : grp (fun r => seg X s (16 * r + l)) i = grp (fun r => X (16 * r + l)) (16 * s + i) := by
  have h (p : ℕ) : chn (fun r => seg X s (16 * r + l)) i p = chn (fun r => X (16 * r + l)) (16 * s + i) p := by
    unfold chn seg
    have e (q : Fin 32) : s * 32768 + (16 * (128 * i + 4 * q.val + p) + l) = 16 * (128 * (16 * s + i) + 4 * q.val + p) + l := by omega
    simp only [e]
  unfold grp
  rw [h, h, h, h]

theorem four_eq (X : ℕ → Elt F .f32) (l : S16.Idx) (s : ℕ) : lane4 l (segP (seg X s)) = four (fun r => X (16 * r + (l 0).val)) s := by
  rw [segP_lane]
  unfold four
  congr 1
  funext st i
  rw [grp_shift]

/-- A lane's threshold. -/
theorem thr_eq (X : ℕ → Elt F .f32) (l : S16.Idx) : thr X l = thrS (fun r => X (16 * r + (l 0).val)) := by
  unfold thr
  rw [iterTo_all]
  refine (List.foldl_hom (fun m : FVec F S16 .f32 => m l) (g₁ := fun s k => ph1P X k s)
    (g₂ := fun (m : Elt F .f32) (r : Fin k0_t2_loop.trips) => FloatOps.minimumf (F := F) (φ := .f32) m
      (FloatOps.minimumf (F := F) (φ := .f32) (four (fun r => X (16 * r + (l 0).val)) (2 * r.val)).2.2.2 (four (fun r => X (16 * r + (l 0).val)) (2 * r.val + 1)).2.2.2)) ?_).symm.trans rfl
  intro m r
  rw [← four_eq, ← four_eq]
  rfl

end Cert.Proof.Run

end
-- ==== Proof.Fits.lean ====
/-
  The precondition read: every stream of every lane keeps fewer candidates than it has places.
-/
module

public import proofs.«01_k».proof.Proof.Launch
public import proofs.«01_k».proof.Proof.Thr
public import Idealize.ShloMosaic.Lib.ReduceAll
public import Idealize.ShloMosaic.Lib.StableHlo.Predicate
public import proofs.«01_k».proof.Pre_streams_fit
public import proofs.«01_k».proof.Proof.Gen.Pre_streams_fit
public import Idealize.ShloMosaic.Lib.ValueIdxRank6

@[expose] public section
noncomputable section
namespace Cert.Proof.Pre
open Cert.Pre_streams_fit Cert.Pre_streams_fit.Facts
open Idealize.ShloMosaic

variable {F : FTy → Type} [FloatOps F] [Cert.Pre_streams_fit.Facts]

/-- The groups' four running maxima. -/
def g5 (x : FVec F S64x32768x16 .f32) : FVec F S64x16x16x4x16 .f32 :=
  Host.reduce FloatOps.maximumf (shapeCast S64x16x16x32x4x16 x shapeCasts_S64x32768x16_S64x16x16x32x4x16) (constant S_ .f32 0xFF800000#32) reducesTo_S64x16x16x32x4x16_S64x16x16x4x16_d3 h_S_

/-- One of them. -/
def g4 (g : FVec F S64x16x16x4x16 .f32) (j : ℕ) (h : S64x16x16x4x16.Slices ![0, 0, 0, j, 0] S64x16x16x1x16) : FVec F S64x16x16x16 .f32 :=
  shapeCast S64x16x16x16 (extractStridedSlice S64x16x16x1x16 ![0, 0, 0, j, 0] g h) shapeCasts_S64x16x16x1x16_S64x16x16x16

/-- The groups' maxima. -/
def a4 (x : FVec F S64x32768x16 .f32) : FVec F S64x16x16x16 .f32 :=
  maximumf (maximumf (g4 (g5 x) 0 slices_S64x16x16x4x16_S64x16x16x1x16_0_0_0_0_0) (g4 (g5 x) 1 slices_S64x16x16x4x16_S64x16x16x1x16_0_0_0_1_0))
    (maximumf (g4 (g5 x) 2 slices_S64x16x16x4x16_S64x16x16x1x16_0_0_0_2_0) (g4 (g5 x) 3 slices_S64x16x16x4x16_S64x16x16x1x16_0_0_0_3_0))

/-- One group's maxima. -/
def sl (g : FVec F S64x16x16x16 .f32) (j : ℕ) (h : S64x16x16x16.Slices ![0, 0, j, 0] S64x16x1x16) : FVec F S64x16x16 .f32 :=
  shapeCast S64x16x16 (extractStridedSlice S64x16x1x16 ![0, 0, j, 0] g h) shapeCasts_S64x16x1x16_S64x16x16

abbrev V4H (F : FTy → Type) : Type := FVec F S64x16x16 .f32 × FVec F S64x16x16 .f32 × FVec F S64x16x16 .f32 × FVec F S64x16x16 .f32

/-- One group enters the four greatest. -/
def stepH (s : V4H F) (a : FVec F S64x16x16 .f32) : V4H F :=
  (maximumf s.1 a, maximumf s.2.1 (minimumf s.1 a), maximumf s.2.2.1 (minimumf s.2.1 (minimumf s.1 a)),
    maximumf s.2.2.2 (minimumf s.2.2.1 (minimumf s.2.1 (minimumf s.1 a))))

def b4 : V4H F :=
  let b : FVec F S64x16x16 .f32 := broadcastInDim S64x16x16 ![] bcast_S_S64x16x16 (constant S_ .f32 0xFF800000#32)
  (b, b, b, b)

/-- The four greatest group maxima of each segment. -/
def s4 (x : FVec F S64x32768x16 .f32) : V4H F :=
  (stepH (stepH (stepH (stepH (stepH (stepH (stepH (stepH (stepH (stepH (stepH (stepH (stepH (stepH (stepH (stepH b4 (F := F) (sl (a4 x) 0 slices_S64x16x16x16_S64x16x1x16_0_0_0_0)) (sl (a4 x) 1 slices_S64x16x16x16_S64x16x1x16_0_0_1_0)) (sl (a4 x) 2 slices_S64x16x16x16_S64x16x1x16_0_0_2_0)) (sl (a4 x) 3 slices_S64x16x16x16_S64x16x1x16_0_0_3_0)) (sl (a4 x) 4 slices_S64x16x16x16_S64x16x1x16_0_0_4_0)) (sl (a4 x) 5 slices_S64x16x16x16_S64x16x1x16_0_0_5_0)) (sl (a4 x) 6 slices_S64x16x16x16_S64x16x1x16_0_0_6_0)) (sl (a4 x) 7 slices_S64x16x16x16_S64x16x1x16_0_0_7_0)) (sl (a4 x) 8 slices_S64x16x16x16_S64x16x1x16_0_0_8_0)) (sl (a4 x) 9 slices_S64x16x16x16_S64x16x1x16_0_0_9_0)) (sl (a4 x) 10 slices_S64x16x16x16_S64x16x1x16_0_0_10_0)) (sl (a4 x) 11 slices_S64x16x16x16_S64x16x1x16_0_0_11_0)) (sl (a4 x) 12 slices_S64x16x16x16_S64x16x1x16_0_0_12_0)) (sl (a4 x) 13 slices_S64x16x16x16_S64x16x1x16_0_0_13_0)) (sl (a4 x) 14 slices_S64x16x16x16_S64x16x1x16_0_0_14_0)) (sl (a4 x) 15 slices_S64x16x16x16_S64x16x1x16_0_0_15_0))

/-- Segments in pairs. -/
def pr (s : FVec F S64x16x16 .f32) (j : ℕ) (h : S64x8x2x16.Slices ![0, 0, j, 0] S64x8x1x16) : FVec F S64x8x16 .f32 :=
  shapeCast S64x8x16 (extractStridedSlice S64x8x1x16 ![0, 0, j, 0] (shapeCast S64x8x2x16 s shapeCasts_S64x16x16_S64x8x2x16) h) shapeCasts_S64x8x1x16_S64x8x16

/-- The thresholds. -/
def th (s : FVec F S64x16x16 .f32) : FVec F S64x16 .f32 :=
  Host.reduce FloatOps.minimumf (minimumf (pr s 0 slices_S64x8x2x16_S64x8x1x16_0_0_0_0) (pr s 1 slices_S64x8x2x16_S64x8x1x16_0_0_1_0)) (constant S_ .f32 0x7F800000#32) reducesTo_S64x8x16_S64x16_d1 h_S_

/-- The streams' counts. -/
def ct (x : FVec F S64x32768x16 .f32) (t : FVec F S64x16 .f32) : IVec S64x8x16 32 :=
  Host.reduce IntOp.addi
    (extui 32 (cmpf .oge (shapeCast S64x16x8x256x16 x shapeCasts_S64x32768x16_S64x16x8x256x16)
      (broadcastInDim S64x16x8x256x16 ![0, 1, 2, 3, 4] bcast_S64x1x1x1x16_S64x16x8x256x16_0_1_2_3_4 (broadcastInDim S64x1x1x1x16 ![0, 4] bcast_S64x16_S64x1x1x1x16_0_4 t))) natLt_1_32)
    (constantI S_ 32 0#32) reducesTo_S64x16x8x256x16_S64x8x16_d1_3 h_S_

/-- All counts are small. -/
def fin (c : IVec S64x8x16 32) : IVec S_ 1 :=
  Host.reduce IntOp.andi (cmpi .slt c (broadcastInDim S64x8x16 ![] bcast_S_S64x8x16 (constantI S_ 32 64#32))) (constantI S_ 1 1#1) reducesTo_S64x8x16_S_d0_1_2 h_S_

theorem fn_eq (x : FVec F S64x32768x16 .f32) : fn x = fin (ct x (th (s4 x).2.2.2)) := rfl

/-- A reshape reads the element of equal row-major place. -/
theorem castAt {α : Type} {s t : Shape} (x : s.Idx → α) (h : s.ShapeCasts t) (i : t.Idx) (y : s.Idx) (e : (s.rowMajor y).val = (t.rowMajor i).val) :
    shapeCast t x h i = x y := by
  unfold shapeCast
  exact congrArg x (Shape.reshapeEquiv_eq_of_rowMajor _ e)

/-- A reduction along listed places. -/
theorem reduce_list {α : Type} {s t u : Shape} {axes} (f : α → α → α) (x : s.Idx → α) (init : u.Idx → α) (h : s.ReducesTo axes t) (hu : 0 < u.numel) (j : t.Idx)
    {K : ℕ} (g : Fin K → s.Idx) (hg : ∀ a b, a < b → (s.rowMajor (g a)).val < (s.rowMajor (g b)).val) (hm : ∀ i, h.drop i = j ↔ ∃ q, g q = i) :
    Host.reduce f x init h hu j = (List.finRange K).foldl (fun r q => f r (x (g q))) (init (Shape.Idx.first hu)) := by
  rw [Host.reduce_eq_foldl]
  have e : (((List.finRange s.numel).map s.rowMajor.symm).filter fun i => h.drop i = j) = (List.finRange K).map g := by
    haveI : Std.Irrefl (fun a b : s.Idx => (s.rowMajor a).val < (s.rowMajor b).val) := ⟨fun a => lt_irrefl _⟩
    haveI : Std.Antisymm (fun a b : s.Idx => (s.rowMajor a).val < (s.rowMajor b).val) := ⟨fun a b h1 h2 => absurd h1 (lt_asymm h2)⟩
    refine List.Pairwise.eq_of_mem_iff (r := fun a b : s.Idx => (s.rowMajor a).val < (s.rowMajor b).val) ?_ ?_ ?_
    · refine List.Pairwise.filter _ ?_
      rw [List.pairwise_map]
      refine (List.pairwise_lt_finRange _).imp ?_
      intro a b hab
      rw [Equiv.apply_symm_apply, Equiv.apply_symm_apply]
      exact hab
    · rw [List.pairwise_map]
      exact (List.pairwise_lt_finRange _).imp (fun {a b} hab => hg a b hab)
    · intro a
      rw [List.mem_filter, List.mem_map, List.mem_map]
      constructor
      · rintro ⟨-, h2⟩
        obtain ⟨q, hq⟩ := (hm a).mp (of_decide_eq_true h2)
        exact ⟨q, List.mem_finRange _, hq⟩
      · rintro ⟨q, -, hq⟩
        exact ⟨⟨s.rowMajor a, List.mem_finRange _, Equiv.symm_apply_apply _ _⟩, decide_eq_true ((hm a).mpr ⟨q, hq⟩)⟩
  rw [e, List.foldl_map]

open ValueIdx Run

/-- A lane's column of a batch. -/
def row (x : FVec F S64x32768x16 .f32) (n : Fin 64) (l : Fin 16) : ℕ → Elt F .f32 := fun r => x (ix3 n ⟨r % 32768, Nat.mod_lt _ (by decide)⟩ l)

theorem g5_at (x : FVec F S64x32768x16 .f32) (n : Fin 64) (s i : Fin 16) (p : Fin 4) (l : Fin 16) :
    g5 x (ix5 n s i p l) = chn (row x n l) (16 * s.val + i.val) p.val := by
  unfold g5
  rw [reduce_list _ _ _ _ _ _ (fun q : Fin 32 => (ix6 n s i q p l : S64x16x16x32x4x16.Idx))]
  · unfold chn
    refine congrArg₂ (fun f b => List.foldl f b (List.finRange 32)) ?_ rfl
    funext r q
    refine congrArg (FloatOps.maximumf (F := F) (φ := .f32) r) ?_
    refine castAt x _ _ _ ?_
    rw [Shape.rowMajor_val_three, Shape.rowMajor_val_six]
    show (n.val * 32768 + (128 * (16 * s.val + i.val) + 4 * q.val + p.val) % 32768) * 16 + l.val = ((((n.val * 16 + s.val) * 16 + i.val) * 32 + q.val) * 4 + p.val) * 16 + l.val
    omega
  · intro a b hab
    rw [Shape.rowMajor_val_six, Shape.rowMajor_val_six]
    show ((((n.val * 16 + s.val) * 16 + i.val) * 32 + a.val) * 4 + p.val) * 16 + l.val < ((((n.val * 16 + s.val) * 16 + i.val) * 32 + b.val) * 4 + p.val) * 16 + l.val
    have : a.val < b.val := hab
    omega
  · intro z
    have h0 : ((reducesTo_S64x16x16x32x4x16_S64x16x16x4x16_d3 (self := inferInstance)).drop z 0 : Nat) = z 0 := Shape.ReducesTo.drop_apply_val _ z 0
    have h1 : ((reducesTo_S64x16x16x32x4x16_S64x16x16x4x16_d3 (self := inferInstance)).drop z 1 : Nat) = z 1 := Shape.ReducesTo.drop_apply_val _ z 1
    have h2 : ((reducesTo_S64x16x16x32x4x16_S64x16x16x4x16_d3 (self := inferInstance)).drop z 2 : Nat) = z 2 := Shape.ReducesTo.drop_apply_val _ z 2
    have h3 : ((reducesTo_S64x16x16x32x4x16_S64x16x16x4x16_d3 (self := inferInstance)).drop z 3 : Nat) = z 4 := Shape.ReducesTo.drop_apply_val _ z 3
    have h4 : ((reducesTo_S64x16x16x32x4x16_S64x16x16x4x16_d3 (self := inferInstance)).drop z 4 : Nat) = z 5 := Shape.ReducesTo.drop_apply_val _ z 4
    constructor
    · intro e
      rw [e] at h0 h1 h2 h3 h4
      refine ⟨z 3, ?_⟩
      rw [eq_ix6 z]
      funext a
      match a with
      | 0 => exact Fin.ext h0
      | 1 => exact Fin.ext h1
      | 2 => exact Fin.ext h2
      | 3 => rfl
      | 4 => exact Fin.ext h3
      | 5 => exact Fin.ext h4
    · rintro ⟨q, rfl⟩
      funext a
      match a with
      | 0 => exact Fin.ext h0
      | 1 => exact Fin.ext h1
      | 2 => exact Fin.ext h2
      | 3 => exact Fin.ext h3
      | 4 => exact Fin.ext h4

theorem g4_at (g : FVec F S64x16x16x4x16 .f32) (j : Fin 4) (h : S64x16x16x4x16.Slices ![0, 0, 0, j.val, 0] S64x16x16x1x16) (n : Fin 64) (s i l : Fin 16) :
    g4 g j.val h (ix4 n s i l) = g (ix5 n s i j l) := by
  unfold g4
  rw [castAt _ _ _ (ix5 n s i 0 l : S64x16x16x1x16.Idx)]
  · unfold extractStridedSlice
    refine congrArg g ?_
    funext a
    match a with
    | 0 => exact Fin.ext (Nat.zero_add _)
    | 1 => exact Fin.ext (Nat.zero_add _)
    | 2 => exact Fin.ext (Nat.zero_add _)
    | 3 => exact Fin.ext (Nat.add_zero _)
    | 4 => exact Fin.ext (Nat.zero_add _)
  · rw [Shape.rowMajor_val_five, Shape.rowMajor_val_four]
    show (((n.val * 16 + s.val) * 16 + i.val) * 1 + 0) * 16 + l.val = ((n.val * 16 + s.val) * 16 + i.val) * 16 + l.val
    omega

theorem a4_at (x : FVec F S64x32768x16 .f32) (n : Fin 64) (s i l : Fin 16) : a4 x (ix4 n s i l) = grp (row x n l) (16 * s.val + i.val) := by
  unfold a4 grp
  show FloatOps.maximumf (F := F) (φ := .f32) (FloatOps.maximumf (F := F) (φ := .f32) (g4 (g5 x) (0 : Fin 4).val _ (ix4 n s i l)) (g4 (g5 x) (1 : Fin 4).val _ (ix4 n s i l))) (FloatOps.maximumf (F := F) (φ := .f32) (g4 (g5 x) (2 : Fin 4).val _ (ix4 n s i l)) (g4 (g5 x) (3 : Fin 4).val _ (ix4 n s i l))) = _
  rw [g4_at, g4_at, g4_at, g4_at, g5_at, g5_at, g5_at, g5_at]
  rfl

theorem sl_at (g : FVec F S64x16x16x16 .f32) (j : Fin 16) (h : S64x16x16x16.Slices ![0, 0, j.val, 0] S64x16x1x16) (n : Fin 64) (s l : Fin 16) :
    sl g j.val h (ix3 n s l) = g (ix4 n s j l) := by
  unfold sl
  rw [castAt _ _ _ (ix4 n s 0 l : S64x16x1x16.Idx)]
  · unfold extractStridedSlice
    refine congrArg g ?_
    funext a
    match a with
    | 0 => exact Fin.ext (Nat.zero_add _)
    | 1 => exact Fin.ext (Nat.zero_add _)
    | 2 => exact Fin.ext (Nat.add_zero _)
    | 3 => exact Fin.ext (Nat.zero_add _)
  · rw [Shape.rowMajor_val_four, Shape.rowMajor_val_three]
    show ((n.val * 16 + s.val) * 1 + 0) * 16 + l.val = (n.val * 16 + s.val) * 16 + l.val
    omega

/-- One place of four arrays. -/
def at4 (n : Fin 64) (s l : Fin 16) (v : V4H F) : F4 F := (v.1 (ix3 n s l), v.2.1 (ix3 n s l), v.2.2.1 (ix3 n s l), v.2.2.2 (ix3 n s l))

theorem stepH_at (n : Fin 64) (s l : Fin 16) (v : V4H F) (a : FVec F S64x16x16 .f32) : at4 n s l (stepH v a) = step4 (at4 n s l v) (a (ix3 n s l)) := rfl

theorem b4_at (n : Fin 64) (s l : Fin 16) : at4 n s l (b4 (F := F)) = (ninf, ninf, ninf, ninf) := rfl

theorem step_at (x : FVec F S64x32768x16 .f32) (n : Fin 64) (s l : Fin 16) (v : V4H F) (j : Fin 16) (h : S64x16x16x16.Slices ![0, 0, j.val, 0] S64x16x1x16) :
    at4 n s l (stepH v (sl (a4 x) j.val h)) = step4 (at4 n s l v) (grp (row x n l) (16 * s.val + j.val)) := by
  rw [stepH_at, sl_at, a4_at]

theorem step_at' (x : FVec F S64x32768x16 .f32) (n : Fin 64) (s l : Fin 16) (v : V4H F) (j : ℕ) (hj : j < 16) (h : S64x16x16x16.Slices ![0, 0, j, 0] S64x16x1x16) :
    at4 n s l (stepH v (sl (a4 x) j h)) = step4 (at4 n s l v) (grp (row x n l) (16 * s.val + j)) := step_at x n s l v ⟨j, hj⟩ h

theorem s4_at (x : FVec F S64x32768x16 .f32) (n : Fin 64) (s l : Fin 16) : at4 n s l (s4 x) = four (row x n l) s.val := by
  unfold s4
  rw [step_at' x n s l _ 15 (by decide), step_at' x n s l _ 14 (by decide), step_at' x n s l _ 13 (by decide), step_at' x n s l _ 12 (by decide), step_at' x n s l _ 11 (by decide), step_at' x n s l _ 10 (by decide), step_at' x n s l _ 9 (by decide), step_at' x n s l _ 8 (by decide), step_at' x n s l _ 7 (by decide), step_at' x n s l _ 6 (by decide), step_at' x n s l _ 5 (by decide), step_at' x n s l _ 4 (by decide), step_at' x n s l _ 3 (by decide), step_at' x n s l _ 2 (by decide), step_at' x n s l _ 1 (by decide), step_at' x n s l _ 0 (by decide), b4_at]
  rfl

theorem pr_at (v : FVec F S64x16x16 .f32) (j : Fin 2) (h : S64x8x2x16.Slices ![0, 0, j.val, 0] S64x8x1x16) (n : Fin 64) (r : Fin 8) (l : Fin 16) :
    pr v j.val h (ix3 n r l) = v (ix3 n ⟨2 * r.val + j.val, by omega⟩ l) := by
  unfold pr
  rw [castAt _ _ _ (ix4 n r 0 l : S64x8x1x16.Idx)]
  · unfold extractStridedSlice
    refine castAt v _ _ _ ?_
    rw [Shape.rowMajor_val_four, Shape.rowMajor_val_three]
    show (n.val * 16 + (2 * r.val + j.val)) * 16 + l.val = (((0 + n.val) * 8 + (0 + r.val)) * 2 + (j.val + 0)) * 16 + (0 + l.val)
    omega
  · rw [Shape.rowMajor_val_four, Shape.rowMajor_val_three]
    show ((n.val * 8 + r.val) * 1 + 0) * 16 + l.val = (n.val * 8 + r.val) * 16 + l.val
    omega

/-- The precondition's threshold is the lane's. -/
theorem th_at (x : FVec F S64x32768x16 .f32) (n : Fin 64) (l : Fin 16) : th (s4 x).2.2.2 (ix2 n l) = thrS (row x n l) := by
  unfold th
  rw [reduce_list _ _ _ _ _ _ (fun r : Fin 8 => (ix3 n r l : S64x8x16.Idx))]
  · unfold thrS
    refine congrArg₂ (fun f b => List.foldl f b (List.finRange 8)) ?_ rfl
    funext m r
    refine congrArg (FloatOps.minimumf (F := F) (φ := .f32) m) ?_
    refine congrArg₂ (FloatOps.minimumf (F := F) (φ := .f32)) ?_ ?_
    · refine (pr_at _ 0 _ n r l).trans ?_
      exact congrArg (fun z : F4 F => z.2.2.2) (s4_at x n ⟨2 * r.val + 0, by omega⟩ l)
    · refine (pr_at _ 1 _ n r l).trans ?_
      exact congrArg (fun z : F4 F => z.2.2.2) (s4_at x n ⟨2 * r.val + 1, by omega⟩ l)
  · intro a b hab
    rw [Shape.rowMajor_val_three, Shape.rowMajor_val_three]
    show (n.val * 8 + a.val) * 16 + l.val < (n.val * 8 + b.val) * 16 + l.val
    have : a.val < b.val := hab
    omega
  · intro z
    have h0 : ((reducesTo_S64x8x16_S64x16_d1 (self := inferInstance)).drop z 0 : Nat) = z 0 := Shape.ReducesTo.drop_apply_val _ z 0
    have h1 : ((reducesTo_S64x8x16_S64x16_d1 (self := inferInstance)).drop z 1 : Nat) = z 2 := Shape.ReducesTo.drop_apply_val _ z 1
    constructor
    · intro e
      rw [e] at h0 h1
      refine ⟨z 1, ?_⟩
      rw [eq_ix3 z]
      funext a
      match a with
      | 0 => exact Fin.ext h0
      | 1 => rfl
      | 2 => exact Fin.ext h1
    · rintro ⟨q, rfl⟩
      funext a
      match a with
      | 0 => exact Fin.ext h0
      | 1 => exact Fin.ext h1

/-- The batch's words are the argument's. -/
theorem XB_at (x : FVec F S64x32768x16 .f32) (h : S64x32768x16.ShapeCasts Cert.KernelIdeal.S64x524288) (n : Fin 64) (r l : ℕ) (hr : r < 32768) (hl : l < 16) :
    XB (F := F) (fun i => shapeCast Cert.KernelIdeal.S64x524288 x h i) n.val (16 * r + l) = row x n ⟨l, hl⟩ r := by
  unfold XB row
  refine castAt x h _ _ ?_
  rw [Shape.rowMajor_val_three, Shape.rowMajor_val_two]
  show (n.val * 32768 + r % 32768) * 16 + l = (n.val % 64) * 524288 + (16 * r + l) % 524288
  omega

/-- A sum of bits counts them. -/
theorem count_bits {α : Type} (b : α → BitVec 1) (L : List α) : ∀ r : BitVec 32, r.toNat + L.length < 2 ^ 32 →
    (L.foldl (fun r q => IntOp.addi r ((b q).setWidth 32)) r).toNat = r.toNat + (L.filter fun q => b q = 1#1).length := by
  induction L with
  | nil => intro r _; simp
  | cons a L ih =>
    intro r hr
    rw [List.length_cons] at hr
    have e : (IntOp.addi r ((b a).setWidth 32)).toNat = r.toNat + if b a = 1#1 then 1 else 0 := by
      show (r + (b a).setWidth 32).toNat = _
      rw [BitVec.toNat_add, StableHlo.Predicate.toNat_setWidth_bit]
      by_cases h : b a = 1#1
      · rw [if_pos h]; omega
      · rw [if_neg h]; omega
    rw [List.foldl_cons, ih _ (by rw [e]; by_cases h : b a = 1#1 <;> simp only [h, if_true, if_false] <;> omega), e]
    by_cases h : b a = 1#1
    · rw [List.filter_cons_of_pos (by simpa using h), if_pos h, List.length_cons]; omega
    · rw [List.filter_cons_of_neg (by simpa using h), if_neg h, Nat.add_zero]

theorem ct_at (x : FVec F S64x32768x16 .f32) (t : FVec F S64x16 .f32) (n : Fin 64) (k : Fin 8) (l : Fin 16) :
    (ct x t (ix3 n k l)).toNat = ((List.finRange 4096).filter fun N => FloatOps.cmpf (F := F) (φ := .f32) .oge (row x n l (rowNo k.val N.val)) (t (ix2 n l)) = 1#1).length := by
  unfold ct
  rw [reduce_list _ _ _ _ _ _ (fun N : Fin 4096 => (ix5 n ⟨N.val / 256, by omega⟩ k ⟨N.val % 256, Nat.mod_lt _ (by decide)⟩ l : S64x16x8x256x16.Idx))]
  · refine Eq.trans ?_ ((count_bits (fun N : Fin 4096 => FloatOps.cmpf (F := F) (φ := .f32) .oge (row x n l (rowNo k.val N.val)) (t (ix2 n l))) (List.finRange 4096) 0#32 (by rw [List.length_finRange]; decide)).trans ?_)
    · refine congrArg BitVec.toNat (congrArg₂ (fun f b => List.foldl f b (List.finRange 4096)) ?_ rfl)
      funext r N
      refine congrArg (fun z : BitVec 1 => IntOp.addi r (z.setWidth 32)) ?_
      refine congrArg₂ (FloatOps.cmpf (F := F) (φ := .f32) .oge) ?_ ?_
      · refine castAt x _ _ _ ?_
        rw [Shape.rowMajor_val_three, Shape.rowMajor_val_five]
        show (n.val * 32768 + (N.val / 256 * 2048 + k.val * 256 + N.val % 256) % 32768) * 16 + l.val = (((n.val * 16 + N.val / 256) * 8 + k.val) * 256 + N.val % 256) * 16 + l.val
        omega
      · refine congrArg t ?_
        funext a
        match a with
        | 0 => rfl
        | 1 => rfl
    · exact Nat.zero_add _
  · intro a b hab
    rw [Shape.rowMajor_val_five, Shape.rowMajor_val_five]
    show (((n.val * 16 + a.val / 256) * 8 + k.val) * 256 + a.val % 256) * 16 + l.val < (((n.val * 16 + b.val / 256) * 8 + k.val) * 256 + b.val % 256) * 16 + l.val
    have : a.val < b.val := hab
    omega
  · intro z
    have h0 : ((reducesTo_S64x16x8x256x16_S64x8x16_d1_3 (self := inferInstance)).drop z 0 : Nat) = z 0 := Shape.ReducesTo.drop_apply_val _ z 0
    have h1 : ((reducesTo_S64x16x8x256x16_S64x8x16_d1_3 (self := inferInstance)).drop z 1 : Nat) = z 2 := Shape.ReducesTo.drop_apply_val _ z 1
    have h2 : ((reducesTo_S64x16x8x256x16_S64x8x16_d1_3 (self := inferInstance)).drop z 2 : Nat) = z 4 := Shape.ReducesTo.drop_apply_val _ z 2
    constructor
    · intro e
      rw [e] at h0 h1 h2
      have b1 : (z 1).val < 16 := (z 1).isLt
      have b3 : (z 3).val < 256 := (z 3).isLt
      refine ⟨⟨(z 1).val * 256 + (z 3).val, by omega⟩, ?_⟩
      funext a
      match a with
      | 0 => exact Fin.ext h0
      | 1 => exact Fin.ext (show ((z 1).val * 256 + (z 3).val) / 256 = (z 1).val by omega)
      | 2 => exact Fin.ext h1
      | 3 => exact Fin.ext (show ((z 1).val * 256 + (z 3).val) % 256 = (z 3).val by omega)
      | 4 => exact Fin.ext h2
    · rintro ⟨q, rfl⟩
      funext a
      match a with
      | 0 => exact Fin.ext h0
      | 1 => exact Fin.ext h1
      | 2 => exact Fin.ext h2

/-- All ones: every count is below 64. -/
theorem fin_ones (c : IVec S64x8x16 32) (h : fin c = fun _ => 1#1) (i : S64x8x16.Idx) (hc : (c i).toNat < 2 ^ 31) : (c i).toNat < 64 := by
  have e := congrFun h (Shape.Idx.first h_S_)
  unfold fin at e
  haveI : Subsingleton S_.Idx := ⟨fun a b => funext fun j => j.elim0⟩
  exact (StableHlo.Predicate.slt_iff_toNat (b := 64#32) hc (by decide)).mp (Host.reduce_andi_all _ _ _ _ _ e i)

/-- Where the precondition reads all ones, every stream of a batch keeps fewer than 64 items. -/
theorem fits_of_pre (x : FVec F S64x32768x16 .f32) (h : fn x = fun _ => 1#1) (hs : S64x32768x16.ShapeCasts Cert.KernelIdeal.S64x524288) (n : Fin 64) :
    Fits (XB (F := F) (fun i => shapeCast Cert.KernelIdeal.S64x524288 x hs i) n.val) := by
  intro k hk l hl
  rw [fn_eq] at h
  have hc := ct_at x (th (s4 x).2.2.2) n ⟨k, hk⟩ ⟨l, hl⟩
  have hb : (ct x (th (s4 x).2.2.2) (ix3 n ⟨k, hk⟩ ⟨l, hl⟩)).toNat < 64 := by
    refine fin_ones _ h _ ?_
    rw [hc]
    refine lt_of_le_of_lt (List.length_filter_le _ _) ?_
    rw [List.length_finRange]; decide
  rw [hc, th_at] at hb
  refine lt_of_le_of_lt (le_of_eq ?_) hb
  unfold cands
  rw [List.length_map, ← List.map_coe_finRange_eq_range, List.filter_map, List.length_map]
  refine congrArg List.length (List.filter_congr fun N _ => ?_)
  have hrow (r : ℕ) (hr : r < 32768) := XB_at x hs n r l hr hl
  have ht : thr (XB (F := F) (fun i => shapeCast Cert.KernelIdeal.S64x524288 x hs i) n.val) (ln l) = thrS (row x n ⟨l, hl⟩) := by
    rw [thr_eq]
    refine congrArg thrS (funext fun r => ?_)
    have e2 : ((ln l) 0).val = l := Nat.mod_eq_of_lt hl
    rw [e2]
    have e3 : row x n ⟨l, hl⟩ r = row x n ⟨l, hl⟩ (r % 32768) := by unfold row; simp only [Nat.mod_mod]
    rw [e3, ← hrow (r % 32768) (Nat.mod_lt _ (by decide))]
    unfold XB
    refine congrArg _ (funext fun a => ?_)
    match a with
    | 0 => rfl
    | 1 => exact Fin.ext (show (16 * r + l) % 524288 = (16 * (r % 32768) + l) % 524288 by omega)
  have hN := N.isLt
  show decide (FloatOps.cmpf (F := F) (φ := .f32) .oge (XB (F := F) (fun i => shapeCast Cert.KernelIdeal.S64x524288 x hs i) n.val (16 * rowNo k N.val + l)) (thr (XB (F := F) (fun i => shapeCast Cert.KernelIdeal.S64x524288 x hs i) n.val) (ln l)) = 1#1) = _
  rw [ht, hrow (rowNo k N.val) (by unfold rowNo; omega)]

end Cert.Proof.Pre

end
-- ==== Proof.Frames.lean ====
/-
  The two programs run: the kernel at either reading of its floats, the reference, and the kernel's results.
-/
module

public import proofs.«01_k».proof.Defs
public import proofs.«01_k».proof.Proof.Fits
public import proofs.«01_k».proof.Proof.Gen.Kernel
public import proofs.«01_k».proof.Proof.Gen.ReferenceIdeal.Run

@[expose] public section
noncomputable section
namespace Cert.Proof
open Idealize.ShloMosaic Idealize.SL.Sem
open Cert.KernelIdeal.Facts

attribute [local instance] Cert.Kernel.Gen.facts Cert.KernelIdeal.Gen.facts Cert.ReferenceIdeal.Gen.facts Cert.Pre_streams_fit.Gen.facts

/-- The precondition says that every stream of every batch fits. -/
theorem allFit {F : FTy → Type} [FloatOps F] (m : (ℓ : Loc Cert.KernelIdeal.nD Cert.KernelIdeal.τ Cert.KernelIdeal.sig) → Buf (Elt F) ℓ)
    (h : ∀ c : Dev Cert.KernelIdeal.nD, Cert.Pre_streams_fit.fn (F := F) (m ((c.tc : Thread Cert.KernelIdeal.nD Cert.KernelIdeal.τ).loc Cert.KernelIdeal.main_arg0)) = fun _ => 1#1) :
    Run.AllFit (F := F) m := fun d n hn => Pre.fits_of_pre _ (h d) _ ⟨n, hn⟩

/-- The kernel runs over the machine's own floats. -/
theorem frame_kernel : Cert.quiescent_Kernel := fun m ρ hpre =>
  (θ_run Cert.KernelIdeal.defs _ _).mono (fun _ h => ⟨fun c => (h.1 c).1, h.2⟩) (Run.run_main (F := Bits) m ρ (allFit m hpre))

/-- The kernel runs over the extended reals. -/
theorem frame_ideal : Cert.quiescent_KernelIdeal := fun m ρ hpre =>
  (θ_run Cert.KernelIdeal.defs _ _).mono (fun _ h => ⟨fun c => (h.1 c).1, h.2⟩) (Run.run_main (F := Ideal) m ρ (allFit m hpre))

/-- The reference runs; it has no semaphores. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reference runs under the kernel's precondition as well. -/
theorem frame_reference_fit : Cert.quiescent_ReferenceIdeal_pre_streams_fit := fun m ρ _ =>
  frame_reference m ρ trivial

end Cert.Proof

end
-- ==== Proof.Sort.lean ====
/-
  The tree merge and the tree sort over a linear order: a merge is the bitonic merge of the tree's entries in
  place order, so the sort leaves the entries in descending (or ascending) order.
-/
module

public import proofs.«01_k».proof.Proof.Model
public import Idealize.ShloMosaic.Lib.SortNet.Sorts
public import Idealize.ShloMosaic.Lib.SortNet.TopList

@[expose] public section
noncomputable section
namespace Cert.Proof.Srt
open Cert.Proof.Run
open Idealize.ShloMosaic.SortNet

variable {α β : Type}

/-- The left half of a tree. -/
def lf {n : ℕ} (t : Tr α (n + 1)) : Tr α n := t.1
/-- The right half of a tree. -/
def rt {n : ℕ} (t : Tr α (n + 1)) : Tr α n := t.2
/-- A tree of two halves. -/
def nd {n : ℕ} (a b : Tr α n) : Tr α (n + 1) := (a, b)

theorem lf_nd {n : ℕ} (a b : Tr α n) : lf (nd a b) = a := rfl
theorem rt_nd {n : ℕ} (a b : Tr α n) : rt (nd a b) = b := rfl

theorem hcT_succ (h l : α → α → α) (n : ℕ) (a b : Tr α (n + 1)) :
    hcT h l (n + 1) a b = (nd (hcT h l n (lf a) (lf b)).1 (hcT h l n (rt a) (rt b)).1, nd (hcT h l n (lf a) (lf b)).2 (hcT h l n (rt a) (rt b)).2) := rfl

theorem mrgT_succ (h l : α → α → α) (n : ℕ) (t : Tr α (n + 1)) :
    mrgT h l (n + 1) t = nd (mrgT h l n (hcT h l n (lf t) (rt t)).1) (mrgT h l n (hcT h l n (lf t) (rt t)).2) := rfl

theorem srtT_true (h l : α → α → α) (n : ℕ) (t : Tr α (n + 1)) :
    srtT h l true (n + 1) t = mrgT h l (n + 1) (nd (srtT h l true n (lf t)) (srtT h l false n (rt t))) := rfl

theorem srtT_false (h l : α → α → α) (n : ℕ) (t : Tr α (n + 1)) :
    srtT h l false (n + 1) t = mrgT l h (n + 1) (nd (srtT h l true n (lf t)) (srtT h l false n (rt t))) := rfl

/-- A tree's entry at a place. -/
def toF : (n : ℕ) → Tr α n → Fin (2 ^ n) → α
  | 0, t => fun _ => t
  | n + 1, t => fun j => if h : j.val < 2 ^ n then toF n (lf t) ⟨j.val, h⟩
      else toF n (rt t) ⟨j.val - 2 ^ n, by have h1 := j.isLt; have h2 : 2 ^ (n + 1) = 2 ^ n * 2 := Nat.pow_succ 2 n; omega⟩

theorem toF_zero (t : Tr α 0) (j : Fin (2 ^ 0)) : toF 0 t j = t := rfl

theorem toF_lower (n : ℕ) (t : Tr α (n + 1)) (j : Fin (2 ^ n)) : toF (n + 1) t (lowerPos n j) = toF n (lf t) j := by
  show dite _ _ _ = _
  rw [dif_pos (show (lowerPos n j).val < 2 ^ n from j.isLt)]
  rfl

theorem toF_upper (n : ℕ) (t : Tr α (n + 1)) (j : Fin (2 ^ n)) : toF (n + 1) t (upperPos n j) = toF n (rt t) j := by
  show dite _ _ _ = _
  rw [dif_neg (show ¬ (upperPos n j).val < 2 ^ n by rw [upperPos_val]; omega)]
  congr 1
  apply Fin.ext
  show j.val + 2 ^ n - 2 ^ n = j.val
  omega

/-- Two trees agree if their entries do. -/
theorem toF_halves (n : ℕ) {P : Fin (2 ^ (n + 1)) → Prop} (h1 : ∀ j, P (lowerPos n j)) (h2 : ∀ j, P (upperPos n j)) : ∀ j, P j := by
  intro j
  by_cases hj : j.val < 2 ^ n
  · rw [eq_lowerPos j hj]; exact h1 _
  · rw [eq_upperPos j hj]; exact h2 _

/-- An exchange of trees, place by place. -/
theorem toF_hcT (h l : α → α → α) (n : ℕ) : ∀ (a b : Tr α n) (j : Fin (2 ^ n)),
    toF n (hcT h l n a b).1 j = h (toF n a j) (toF n b j) ∧ toF n (hcT h l n a b).2 j = l (toF n a j) (toF n b j) := by
  induction n with
  | zero => exact fun a b j => ⟨rfl, rfl⟩
  | succ n ih =>
    intro a b
    refine toF_halves n (fun j => ?_) (fun j => ?_)
    · rw [hcT_succ, toF_lower, toF_lower, toF_lower, toF_lower]; exact ih _ _ _
    · rw [hcT_succ, toF_upper, toF_upper, toF_upper, toF_upper]; exact ih _ _ _

/-- The tree merge is the bitonic merge. -/
theorem toF_mrgT [LinearOrder α] (n : ℕ) : ∀ (t : Tr α n) (j : Fin (2 ^ n)),
    toF n (mrgT max min n t) j = Network.apply (mergeDescNet n) (toF n t) j := by
  induction n with
  | zero => exact fun t j => rfl
  | succ n ih =>
    intro t
    refine toF_halves n (fun j => ?_) (fun j => ?_)
    · rw [(apply_mergeDescNet_succ n (toF (n + 1) t) _).1, mrgT_succ, toF_lower, lf_nd, ih]
      refine congrFun (congrArg _ (funext fun k => ?_)) _
      rw [(toF_hcT max min n _ _ k).1, toF_lower, toF_upper]
    · rw [(apply_mergeDescNet_succ n (toF (n + 1) t) _).2, mrgT_succ, toF_upper, rt_nd, ih]
      refine congrFun (congrArg _ (funext fun k => ?_)) _
      rw [(toF_hcT max min n _ _ k).2, toF_lower, toF_upper]

/-- A descending half beside an ascending one. -/
theorem descAsc_pair [LinearOrder α] (n : ℕ) (a b : Tr α n) (h1 : Antitone (toF n a)) (h2 : Monotone (toF n b)) :
    DescAsc (toF (n + 1) (nd a b)) := by
  refine ⟨2 ^ n, Or.inl ⟨fun i j hij hj => ?_, fun i j hij hi => ?_⟩⟩
  · have hi : i.val < 2 ^ n := lt_of_le_of_lt hij hj
    rw [eq_lowerPos i hi, eq_lowerPos j hj, toF_lower, toF_lower]
    exact h1 hij
  · have hj : ¬ j.val < 2 ^ n := by have : i.val ≤ j.val := hij; omega
    rw [eq_upperPos i (by omega), eq_upperPos j hj, toF_upper, toF_upper]
    refine h2 ?_
    show i.val - 2 ^ n ≤ j.val - 2 ^ n
    have : i.val ≤ j.val := hij
    omega

/-- The merge with the greater entries to the left leaves a descending tree. -/
theorem mrgT_desc [LinearOrder α] (n : ℕ) (t : Tr α n) (h : DescAsc (toF n t)) : Antitone (toF n (mrgT max min n t)) := by
  have e : toF n (mrgT max min n t) = Network.apply (mergeDescNet n) (toF n t) := funext fun j => toF_mrgT n t j
  rw [e]
  exact mergeDescNet_apply_antitone n _ h

/-- The merge with the lesser entries to the left leaves an ascending tree. -/
theorem mrgT_asc [LinearOrder α] (n : ℕ) (t : Tr α n) (h : DescAsc (toF n t)) : Monotone (toF n (mrgT min max n t)) :=
  fun _ _ hij => mrgT_desc (α := αᵒᵈ) n t h.dual hij

/-- The tree sort leaves a descending tree, or an ascending one. -/
theorem srtT_sorted [LinearOrder α] (n : ℕ) : ∀ t : Tr α n,
    Antitone (toF n (srtT max min true n t)) ∧ Monotone (toF n (srtT max min false n t)) := by
  induction n with
  | zero => exact fun t => ⟨fun _ _ _ => le_rfl, fun _ _ _ => le_rfl⟩
  | succ n ih => exact fun t => ⟨mrgT_desc _ _ (descAsc_pair n _ _ (ih (lf t)).1 (ih (rt t)).2), mrgT_asc _ _ (descAsc_pair n _ _ (ih (lf t)).1 (ih (rt t)).2)⟩

/-! ## The entries as a multiset -/

/-- The entries of a tree. -/
def toM : (n : ℕ) → Tr α n → Multiset α
  | 0, t => {t}
  | n + 1, t => toM n (lf t) + toM n (rt t)

theorem toM_nd (n : ℕ) (a b : Tr α n) : toM (n + 1) (nd a b) = toM n a + toM n b := rfl
theorem toM_succ (n : ℕ) (t : Tr α (n + 1)) : toM (n + 1) t = toM n (lf t) + toM n (rt t) := rfl

theorem toM_hcT (h l : α → α → α) (hhl : ∀ a b, ({h a b} + {l a b} : Multiset α) = {a} + {b}) (n : ℕ) : ∀ a b : Tr α n,
    toM n (hcT h l n a b).1 + toM n (hcT h l n a b).2 = toM n a + toM n b := by
  induction n with
  | zero => exact hhl
  | succ n ih =>
    intro a b
    rw [hcT_succ, toM_nd, toM_nd, add_add_add_comm, ih, ih, add_add_add_comm, ← toM_succ, ← toM_succ]

theorem toM_mrgT (h l : α → α → α) (hhl : ∀ a b, ({h a b} + {l a b} : Multiset α) = {a} + {b}) (n : ℕ) : ∀ t : Tr α n,
    toM n (mrgT h l n t) = toM n t := by
  induction n with
  | zero => exact fun t => rfl
  | succ n ih => intro t; rw [mrgT_succ, toM_nd, ih, ih, toM_hcT h l hhl, ← toM_succ]

theorem toM_srtT (h l : α → α → α) (hhl : ∀ a b, ({h a b} + {l a b} : Multiset α) = {a} + {b}) (n : ℕ) : ∀ (w : Bool) (t : Tr α n),
    toM n (srtT h l w n t) = toM n t := by
  induction n with
  | zero => exact fun w t => rfl
  | succ n ih =>
    intro w t
    cases w
    · rw [srtT_false, toM_mrgT l h (fun a b => (add_comm _ _).trans (hhl a b)), toM_nd, ih, ih, ← toM_succ]
    · rw [srtT_true, toM_mrgT h l hhl, toM_nd, ih, ih, ← toM_succ]

theorem max_min_pair [LinearOrder α] (a b : α) : ({max a b} + {min a b} : Multiset α) = {a} + {b} := by
  rcases le_total a b with h | h
  · rw [max_eq_right h, min_eq_left h, add_comm]
  · rw [max_eq_left h, min_eq_right h]

/-- The list of the entries in place order has the tree's entries. -/
theorem toM_ofFn (n : ℕ) : ∀ t : Tr α n, ((List.ofFn (toF n t) : List α) : Multiset α) = toM n t := by
  induction n with
  | zero => exact fun t => rfl
  | succ n ih =>
    intro t
    have e : List.ofFn (toF (n + 1) t) = List.ofFn (toF n (lf t)) ++ List.ofFn (toF n (rt t)) := by
      have hp : 2 ^ (n + 1) = 2 ^ n + 2 ^ n := by rw [Nat.pow_succ]; omega
      refine List.ext_getElem (by rw [List.length_append, List.length_ofFn, List.length_ofFn, List.length_ofFn, hp]) fun i h1 h2 => ?_
      rw [List.getElem_ofFn]
      by_cases hi : i < 2 ^ n
      · rw [List.getElem_append_left (by rw [List.length_ofFn]; exact hi), List.getElem_ofFn]
        exact toF_lower n t ⟨i, hi⟩
      · rw [List.getElem_append_right (by rw [List.length_ofFn]; omega), List.getElem_ofFn]
        have h1' : i < 2 ^ (n + 1) := by rw [List.length_ofFn] at h1; exact h1
        have hh : ¬ (⟨i, h1'⟩ : Fin (2 ^ (n + 1))).val < 2 ^ n := hi
        rw [eq_upperPos _ hh, toF_upper]
        congr 1
        apply Fin.ext
        show i - 2 ^ n = i - (List.ofFn (toF n (lf t))).length
        rw [List.length_ofFn]
    rw [e, ← Multiset.coe_add, ih, ih, ← toM_succ]

/-! ## Entry by entry -/

/-- A tree with every entry mapped. -/
def mapT (f : α → β) : (n : ℕ) → Tr α n → Tr β n
  | 0, t => f t
  | n + 1, t => nd (mapT f n (lf t)) (mapT f n (rt t))

theorem mapT_nd (f : α → β) (n : ℕ) (a b : Tr α n) : mapT f (n + 1) (nd a b) = nd (mapT f n a) (mapT f n b) := rfl
theorem mapT_succ (f : α → β) (n : ℕ) (t : Tr α (n + 1)) : mapT f (n + 1) t = nd (mapT f n (lf t)) (mapT f n (rt t)) := rfl
theorem lf_mapT (f : α → β) (n : ℕ) (t : Tr α (n + 1)) : lf (mapT f (n + 1) t) = mapT f n (lf t) := rfl
theorem rt_mapT (f : α → β) (n : ℕ) (t : Tr α (n + 1)) : rt (mapT f (n + 1) t) = mapT f n (rt t) := rfl

theorem toM_mapT (f : α → β) (n : ℕ) : ∀ t : Tr α n, toM n (mapT f n t) = (toM n t).map f := by
  induction n with
  | zero => exact fun t => rfl
  | succ n ih => intro t; rw [mapT_succ, toM_nd, ih, ih, ← Multiset.map_add, ← toM_succ]

theorem toF_mapT (f : α → β) (n : ℕ) : ∀ (t : Tr α n) (j : Fin (2 ^ n)), toF n (mapT f n t) j = f (toF n t j) := by
  induction n with
  | zero => exact fun t j => rfl
  | succ n ih =>
    intro t
    refine toF_halves n (fun j => ?_) (fun j => ?_)
    · rw [toF_lower, toF_lower, lf_mapT]; exact ih _ _
    · rw [toF_upper, toF_upper, rt_mapT]; exact ih _ _

section
variable (f : α → β) (h l : α → α → α) (h' l' : β → β → β) (hh : ∀ a b, f (h a b) = h' (f a) (f b)) (hl : ∀ a b, f (l a b) = l' (f a) (f b))
include hh hl

theorem mapT_hcT (n : ℕ) : ∀ a b : Tr α n,
    mapT f n (hcT h l n a b).1 = (hcT h' l' n (mapT f n a) (mapT f n b)).1 ∧ mapT f n (hcT h l n a b).2 = (hcT h' l' n (mapT f n a) (mapT f n b)).2 := by
  induction n with
  | zero => exact fun a b => ⟨hh a b, hl a b⟩
  | succ n ih =>
    intro a b
    rw [hcT_succ, hcT_succ, mapT_nd, mapT_nd, (ih _ _).1, (ih _ _).1, (ih _ _).2, (ih _ _).2]
    exact ⟨rfl, rfl⟩

theorem mapT_mrgT (n : ℕ) : ∀ t : Tr α n, mapT f n (mrgT h l n t) = mrgT h' l' n (mapT f n t) := by
  induction n with
  | zero => exact fun t => rfl
  | succ n ih =>
    intro t
    rw [mrgT_succ, mrgT_succ, mapT_nd, ih, ih, (mapT_hcT f h l h' l' hh hl n _ _).1, (mapT_hcT f h l h' l' hh hl n _ _).2, lf_mapT, rt_mapT]
end

section
variable (f : α → β) (h l : α → α → α) (h' l' : β → β → β) (hh : ∀ a b, f (h a b) = h' (f a) (f b)) (hl : ∀ a b, f (l a b) = l' (f a) (f b))
include hh hl

theorem mapT_srtT (n : ℕ) : ∀ (w : Bool) (t : Tr α n), mapT f n (srtT h l w n t) = srtT h' l' w n (mapT f n t) := by
  induction n with
  | zero => exact fun w t => rfl
  | succ n ih =>
    intro w t
    cases w
    · rw [srtT_false, srtT_false, mapT_mrgT f l h l' h' hl hh, mapT_nd, ih, ih, lf_mapT, rt_mapT]
    · rw [srtT_true, srtT_true, mapT_mrgT f h l h' l' hh hl, mapT_nd, ih, ih, lf_mapT, rt_mapT]
end

end Cert.Proof.Srt
-- ==== Proof.Chunk.lean ====
/-
  Sixteen sorted entries merged into sixty-four sorted ones: the position-for-position greater of the last sixteen
  and the sixteen read backwards, then the bitonic merge, leave the sixty-four greatest of the eighty.
-/
module

public import proofs.«01_k».proof.Proof.Sort
public import Mathlib.Data.Fin.Rev
public import Mathlib.Data.List.OfFn
public import Mathlib.Data.List.FinRange
public import Mathlib.Data.Multiset.AddSub

@[expose] public section
noncomputable section
namespace Cert.Proof.Srt
open Idealize.ShloMosaic.SortNet

variable {α : Type} [LinearOrder α]

theorem ofFn_max_min (n : ℕ) (a b : Fin n → α) :
    ((List.ofFn fun j => max (a j) (b j) : List α) : Multiset α) + (List.ofFn fun j => min (a j) (b j) : List α)
      = (List.ofFn a : Multiset α) + (List.ofFn b : List α) := by
  induction n with
  | zero => rfl
  | succ n ih =>
    have e := ih (fun j => a j.succ) (fun j => b j.succ)
    rw [List.ofFn_succ, List.ofFn_succ, List.ofFn_succ, List.ofFn_succ]
    rw [← Multiset.cons_coe, ← Multiset.cons_coe, ← Multiset.cons_coe, ← Multiset.cons_coe]
    rw [← Multiset.singleton_add, ← Multiset.singleton_add, ← Multiset.singleton_add (a 0), ← Multiset.singleton_add (b 0)]
    rw [add_add_add_comm, max_min_pair, e, add_add_add_comm]

/-- The last sixteen places. -/
def hiPl (j : Fin 16) : Fin (2 ^ 6) := ⟨48 + j.val, by have := j.isLt; show _ < 64; omega⟩
/-- The first forty-eight places. -/
def loPl (j : Fin 48) : Fin (2 ^ 6) := ⟨j.val, by have := j.isLt; show _ < 64; omega⟩

theorem ofFn_split (R : Fin (2 ^ 6) → α) : List.ofFn R = (List.ofFn fun j => R (loPl j)) ++ List.ofFn fun j => R (hiPl j) := by
  have := List.ofFn_add (m := 48) (n := 16) (f := (R : Fin (48 + 16) → α))
  exact this

section
variable (R : Fin (2 ^ 6) → α) (T : Fin 16 → α) (R' : Fin (2 ^ 6) → α) (h1 : ∀ j, R' (loPl j) = R (loPl j))
  (h2 : ∀ j, R' (hiPl j) = max (R (hiPl j)) (T j.rev))
include h1 h2

theorem mix_perm : (List.ofFn R' ++ List.ofFn fun j => min (R (hiPl j)) (T j.rev)).Perm (List.ofFn R ++ List.ofFn T) := by
  have hT : (List.ofFn fun j => T j.rev).Perm (List.ofFn T) := Equiv.Perm.ofFn_comp_perm Fin.revPerm T
  rw [← Multiset.coe_eq_coe, ← Multiset.coe_add, ← Multiset.coe_add, ofFn_split R', ofFn_split R, funext h1, funext h2,
    ← Multiset.coe_add, ← Multiset.coe_add, add_assoc, ofFn_max_min, ← add_assoc, Multiset.coe_eq_coe.mpr hT]

variable (hR : Antitone R) (hT : Antitone T)
include hR hT

theorem mix_dom (q : Fin (2 ^ 6)) (j : Fin 16) : min (R (hiPl j)) (T j.rev) ≤ R' q := by
  by_cases hq : q.val < 48
  · have e : q = loPl ⟨q.val, hq⟩ := rfl
    rw [e, h1]
    refine (min_le_left _ _).trans (hR ?_)
    show q.val ≤ 48 + j.val
    omega
  · have hq' : q.val < 64 := q.isLt
    have e : q = hiPl ⟨q.val - 48, by omega⟩ := Fin.ext (by show q.val = 48 + (q.val - 48); omega)
    rw [e, h2]
    by_cases hj : q.val - 48 ≤ j.val
    · refine (min_le_left _ _).trans ((hR ?_).trans (le_max_left _ _))
      show 48 + (q.val - 48) ≤ 48 + j.val
      omega
    · refine (min_le_right _ _).trans ((hT ?_).trans (le_max_right _ _))
      rw [Fin.rev_le_rev]
      show j.val ≤ q.val - 48
      omega

theorem mix_descAsc : DescAsc R' := by
  classical
  have hex : ∃ m : ℕ, 16 ≤ m ∨ ∃ h : m < 16, R (hiPl ⟨m, h⟩) ≤ T (Fin.rev ⟨m, h⟩) := ⟨16, Or.inl le_rfl⟩
  obtain ⟨m, hm, hmin⟩ : ∃ m : ℕ, (16 ≤ m ∨ ∃ h : m < 16, R (hiPl ⟨m, h⟩) ≤ T (Fin.rev ⟨m, h⟩)) ∧
      ∀ k < m, ¬ (16 ≤ k ∨ ∃ h : k < 16, R (hiPl ⟨k, h⟩) ≤ T (Fin.rev ⟨k, h⟩)) :=
    ⟨Nat.find hex, Nat.find_spec hex, fun k hk => Nat.find_min hex hk⟩
  have hlow : ∀ q : Fin (2 ^ 6), q.val < 48 + m → R' q = R q := by
    intro q hq
    by_cases h : q.val < 48
    · exact h1 ⟨q.val, h⟩
    · have hq' : q.val < 64 := q.isLt
      have e : q = hiPl ⟨q.val - 48, by omega⟩ := Fin.ext (by show q.val = 48 + (q.val - 48); omega)
      rw [e, h2]
      refine max_eq_left (le_of_lt (not_le.mp fun hle => hmin (q.val - 48) (by omega) (Or.inr ⟨by omega, hle⟩)))
  have hhigh : ∀ j : Fin 16, m ≤ j.val → R' (hiPl j) = T j.rev := by
    intro j hj
    rw [h2]
    refine max_eq_right ?_
    rcases hm with hm | ⟨h, hm⟩
    · have := j.isLt; omega
    · refine (hR ?_).trans (hm.trans (hT ?_))
      · show 48 + m ≤ 48 + j.val; omega
      · rw [Fin.rev_le_rev]; exact hj
  refine ⟨48 + m, Or.inl ⟨fun i j hij hj => ?_, fun i j hij hi => ?_⟩⟩
  · have hij' : i.val ≤ j.val := hij
    rw [hlow i (by omega), hlow j hj]; exact hR hij
  · have hij' : i.val ≤ j.val := hij
    have hi' : i.val < 64 := i.isLt
    have hj' : j.val < 64 := j.isLt
    have ei : i = hiPl ⟨i.val - 48, by omega⟩ := Fin.ext (by show i.val = 48 + (i.val - 48); omega)
    have ej : j = hiPl ⟨j.val - 48, by omega⟩ := Fin.ext (by show j.val = 48 + (j.val - 48); omega)
    rw [ei, ej, hhigh _ (by show m ≤ i.val - 48; omega), hhigh _ (by show m ≤ j.val - 48; omega)]
    refine hT ?_
    rw [Fin.rev_le_rev]
    show i.val - 48 ≤ j.val - 48
    omega

/-- The merge leaves the sixty-four greatest, in order. -/
theorem mix_top : Antitone (Network.apply (mergeDescNet 6) R') ∧
    List.ofFn (Network.apply (mergeDescNet 6) R') = topList 64 (List.ofFn R ++ List.ofFn T) := by
  have ha := mergeDescNet_apply_antitone 6 R' (mix_descAsc R T R' h1 h2 hR hT)
  refine ⟨ha, ?_⟩
  obtain ⟨σ, hσ⟩ := Network.exists_perm (mergeDescNet 6) R'
  have hp : (List.ofFn (Network.apply (mergeDescNet 6) R')).Perm (List.ofFn R') := by
    rw [hσ]; exact Equiv.Perm.ofFn_comp_perm σ R'
  have hpw : (List.ofFn (Network.apply (mergeDescNet 6) R')).Pairwise (· ≥ ·) :=
    List.pairwise_ofFn.mpr fun i j hij => ha (le_of_lt hij)
  have hl : (List.ofFn (Network.apply (mergeDescNet 6) R')).length = 64 := by rw [List.length_ofFn]; rfl
  have h := eq_topList ((hp.append_right _).trans (mix_perm R T R' h1 h2)) hpw (fun a ha b hb => by
    have ha' := hp.subset ha
    rw [List.mem_ofFn] at ha' hb
    obtain ⟨q, rfl⟩ := ha'
    obtain ⟨j, rfl⟩ := hb
    exact mix_dom R T R' h1 h2 hR hT q j)
  rw [hl] at h
  exact h
end

end Cert.Proof.Srt
-- ==== Proof.Lane.lean ====
/-
  One lane of the result's storage over the extended reals: entries in the order of values, then of lower row
  numbers; an exchange of rows is an exchange of entries, so the block merge is the merge of sorted entries.
-/
module

public import proofs.«01_k».proof.Proof.Chunk
public import Idealize.ShloMosaic.PureOps.Ideal.Laws
public import Mathlib.Data.Prod.Lex

@[expose] public section
noncomputable section
namespace Cert.Proof.Srt
open Cert.KernelIdeal Cert.KernelIdeal.Gen
open Cert.Proof.Run
open Idealize.ShloMosaic
open Idealize.ShloMosaic.SortNet

/-- Entries in order: the greater value first, then the lower number. -/
abbrev K : Type := EReal ×ₗ ℤᵒᵈ

/-- An entry's key. -/
def key (a : Elt Ideal .f32 × BitVec 32) : K := toLex ((a.1 : EReal), OrderDual.toDual a.2.toInt)

theorem key_inj {a b : Elt Ideal .f32 × BitVec 32} (h : key a = key b) : a = b := by
  have h' := toLex.injective h
  have h1 := congrArg Prod.fst h'
  have h2 := congrArg Prod.snd h'
  exact Prod.ext h1 (BitVec.toInt_inj.mp (OrderDual.toDual.injective h2))

theorem key_lt (a b : Elt Ideal .f32 × BitVec 32) :
    key a < key b ↔ (a.1 : EReal) < b.1 ∨ ((a.1 : EReal) = b.1 ∧ b.2.toInt < a.2.toInt) := by
  unfold key
  rw [Prod.Lex.toLex_lt_toLex]
  exact Iff.rfl

/-- One lane of sixteen entries. -/
def en (i : S16.Idx) (a : PV Ideal) : K := key (a.1 i, a.2 i)

theorem ofBool_or_and : ∀ p q r : Bool, (IntOp.ori (BitVec.ofBool p) (IntOp.andi (BitVec.ofBool q) (BitVec.ofBool r)) = 1#1) ↔ (p = true ∨ (q = true ∧ r = true)) := by
  decide

theorem gtV_iff (i : S16.Idx) (a b : PV Ideal) : gtV a b i = 1#1 ↔ en i b < en i a := by
  unfold en
  rw [key_lt]
  have e : gtV a b i = IntOp.ori (BitVec.ofBool (decide ((b.1 i : EReal) < a.1 i))) (IntOp.andi (BitVec.ofBool (decide ((a.1 i : EReal) = b.1 i))) (BitVec.ofBool ((a.2 i).slt (b.2 i)))) := rfl
  rw [e, ofBool_or_and, decide_eq_true_iff, decide_eq_true_iff, BitVec.slt_iff_toInt_lt]
  exact or_congr Iff.rfl (and_congr eq_comm Iff.rfl)

theorem select_no {β : Type} {c : BitVec 1} (h : c ≠ 1#1) (x y : β) : Scalar.select c x y = y := if_neg h

theorem en_hi (i : S16.Idx) (a b : PV Ideal) : en i (hiV a b) = max (en i a) (en i b) := by
  have e : en i (hiV a b) = key (Scalar.select (gtV a b i) (a.1 i) (b.1 i), Scalar.select (gtV a b i) (a.2 i) (b.2 i)) := rfl
  rw [e]
  by_cases h : gtV a b i = 1#1
  · rw [h, max_eq_left (le_of_lt ((gtV_iff i a b).mp h))]; rfl
  · rw [max_eq_right (not_lt.mp fun hl => h ((gtV_iff i a b).mpr hl))]
    rw [select_no h, select_no h]; rfl

theorem en_lo (i : S16.Idx) (a b : PV Ideal) : en i (loV a b) = min (en i a) (en i b) := by
  have e : en i (loV a b) = key (Scalar.select (gtV a b i) (b.1 i) (a.1 i), Scalar.select (gtV a b i) (b.2 i) (a.2 i)) := rfl
  rw [e]
  by_cases h : gtV a b i = 1#1
  · rw [h, min_eq_right (le_of_lt ((gtV_iff i a b).mp h))]; rfl
  · rw [min_eq_left (not_lt.mp fun hl => h ((gtV_iff i a b).mpr hl))]
    rw [select_no h, select_no h]; rfl

/-- One lane of row `q`. -/
def rowK (r : RS Ideal) (i : S16.Idx) (q : ℕ) : K := en i (rowG r (16 * q))

theorem rowK_rowS (r : RS Ideal) (i : S16.Idx) (q q' : ℕ) (v : PV Ideal) :
    rowK (rowS r (16 * q') v) i q = if q = q' then en i v else rowK r i q := by
  have hi : (i 0).val < 16 := (i 0).isLt
  have hp : ∀ {β : Type} (g : ℕ → β) (w : S16.Idx → β), put g (16 * q') w (16 * q + (i 0).val) = if q = q' then w i else g (16 * q + (i 0).val) := by
    intro β g w
    unfold put
    by_cases h : q = q'
    · subst h
      rw [if_pos ⟨by omega, by omega⟩, if_pos rfl]
      have : 16 * q + (i 0).val - 16 * q = (i 0).val := by omega
      rw [this, ln_val]
    · rw [if_neg (by omega), if_neg h]
  show key (put r.1 (16 * q') v.1 (16 * q + (i 0).val), put r.2 (16 * q') v.2 (16 * q + (i 0).val)) = _
  rw [hp, hp]
  by_cases h : q = q'
  · rw [if_pos h, if_pos h, if_pos h]; rfl
  · rw [if_neg h, if_neg h, if_neg h]; rfl

/-- One lane of the sixty-four rows. -/
def vec (r : RS Ideal) (i : S16.Idx) : Fin (2 ^ 6) → K := fun q => rowK r i q.val

/-- Exchanges between rows are exchanges between a lane's entries. -/
theorem vec_stageP (N : Network (2 ^ 6)) (i : S16.Idx) : ∀ r : RS Ideal,
    vec (stageP (N.map fun c => (16 * c.hi.val, 16 * c.lo.val)) r) i = Network.apply N (vec r i) := by
  induction N with
  | nil => exact fun r => rfl
  | cons c N ih =>
    intro r
    rw [Network.apply_cons, List.map_cons]
    refine (ih _).trans (congrArg _ (funext fun q => ?_))
    unfold vec Cmpx.apply
    rw [rowK_rowS, rowK_rowS, en_hi, en_lo]
    by_cases h : q = c.lo
    · rw [if_pos h, if_pos (congrArg Fin.val h), min_comm]; rfl
    · rw [if_neg h, if_neg fun e => h (Fin.ext e)]
      by_cases h' : q = c.hi
      · rw [if_pos h', if_pos (congrArg Fin.val h'), max_comm]; rfl
      · rw [if_neg h', if_neg fun e => h' (Fin.ext e)]

/-- The exchanges of stage `s` are those of the bitonic merge at its distance. -/
theorem prs76_eq : ∀ s : Fin k0_t13_loop.trips,
    prs76 s = (stage 6 (5 - s.val) fun _ => true).map fun c => (16 * c.hi.val, 16 * c.lo.val) := by
  decide +kernel

/-- The six stages are the bitonic merge. -/
theorem vec_stages (r : RS Ideal) (i : S16.Idx) :
    vec (iterTo (fun s r => stageP (prs76 s) r) k0_t13_loop.trips r) i = Network.apply (mergeDescNet 6) (vec r i) := by
  have key : ∀ k ≤ 6, vec (iterTo (fun s r => stageP (prs76 s) r) k r) i
      = Network.apply ((List.range k).flatMap fun s => stage 6 (5 - s) fun _ => true) (vec r i) := by
    intro k hk
    induction k with
    | zero => rfl
    | succ k ih =>
      have h := iterTo_succ (fun s r => stageP (prs76 s) r) (⟨k, hk⟩ : Fin k0_t13_loop.trips) r
      rw [show k + 1 = (⟨k, hk⟩ : Fin k0_t13_loop.trips).val + 1 from rfl, h, prs76_eq, vec_stageP, ih (by omega), ← Network.apply_append]
      rw [show (⟨k, hk⟩ : Fin k0_t13_loop.trips).val = k from rfl, List.range_succ, List.flatMap_append, List.flatMap_singleton]
  have h6 := key 6 le_rfl
  have e : ((List.range 6).flatMap fun s => stage 6 (5 - s) fun _ => true) = mergeDescNet 6 := rfl
  rw [e] at h6
  exact h6

/-- Every place of a block's rows. -/
theorem offs75_eq : ∀ (b : Fin k0_t12_loop.trips) (u : Fin 16), (offs75 b u.val).1 0 = 16 * (16 * b.val + u.val) := by
  decide +kernel

theorem offsR_eq (u : ℕ) (h : u < 16) : (offsR u).1 0 = 16 * (48 + u) := by
  unfold offsR
  rw [dif_pos h]
  show 768 + 16 * u = 16 * (48 + u)
  omega

/-- The rows read into a tree, one lane. -/
theorem toM_loadsP (C : RS Ideal) (i : S16.Idx) (o : ℕ → ℕ) (n : ℕ) : ∀ u : ℕ,
    toM n (mapT (en i) n (loadsP C o n u)) = ((List.range (2 ^ n)).map fun j => en i (rowG C (o (u + j))) : List K) := by
  induction n with
  | zero => exact fun u => rfl
  | succ n ih =>
    intro u
    have e : loadsP C o (n + 1) u = nd (loadsP C o n u) (loadsP C o n (u + 2 ^ n)) := rfl
    rw [e, mapT_nd, toM_nd, ih, ih, Multiset.coe_add, Nat.pow_succ, Nat.mul_two, List.range_add, List.map_append, List.map_map]
    congr 3
    funext j
    show _ = en i (rowG C (o (u + (2 ^ n + j))))
    rw [Nat.add_assoc]

/-- A tree merged into the last rows, one lane: the greater of row and entry, the entries backwards. -/
theorem rowK_mergesP (i : S16.Idx) (n : ℕ) : ∀ (u : ℕ) (hu : u + 2 ^ n ≤ 16) (t : Tr (PV Ideal) n) (r : RS Ideal),
    (∀ j : Fin (2 ^ n), rowK (mergesP (fun u => (offsR u).1 0) n u t r) i (48 + (u + j.val)) = max (rowK r i (48 + (u + j.val))) (en i (toF n t j.rev)))
    ∧ ∀ q, (q < 48 + u ∨ 48 + u + 2 ^ n ≤ q) → rowK (mergesP (fun u => (offsR u).1 0) n u t r) i q = rowK r i q := by
  induction n with
  | zero =>
    intro u hu t r
    have e : mergesP (fun u => (offsR u).1 0) 0 u t r = rowS r (16 * (48 + u)) (hiV (rowG r (16 * (48 + u))) t) := by
      rw [← offsR_eq u (by omega)]; rfl
    rw [e]
    refine ⟨fun j => ?_, fun q hq => ?_⟩
    · have hj : j.val = 0 := by have := j.isLt; omega
      rw [rowK_rowS, if_pos (by omega), hj]
      exact en_hi i (rowG r (16 * (48 + u))) t
    · rw [rowK_rowS, if_neg (by omega)]
  | succ n ih =>
    intro u hu t r
    have hp : 2 ^ (n + 1) = 2 ^ n + 2 ^ n := by rw [Nat.pow_succ]; omega
    have hpos : 0 < 2 ^ n := Nat.two_pow_pos n
    have e : mergesP (fun u => (offsR u).1 0) (n + 1) u t r
        = mergesP (fun u => (offsR u).1 0) n (u + 2 ^ n) (lf t) (mergesP (fun u => (offsR u).1 0) n u (rt t) r) := rfl
    rw [e]
    obtain ⟨i1, i2⟩ := ih u (by omega) (rt t) r
    obtain ⟨o1, o2⟩ := ih (u + 2 ^ n) (by omega) (lf t) (mergesP (fun u => (offsR u).1 0) n u (rt t) r)
    refine ⟨toF_halves n (fun j => ?_) (fun j => ?_), fun q hq => ?_⟩
    · have hj := j.isLt
      rw [o2 _ (Or.inl (by rw [lowerPos_val]; omega)), lowerPos_val, i1 j]
      have er : (lowerPos n j).rev = upperPos n j.rev := Fin.ext (by
        rw [Fin.val_rev, upperPos_val, Fin.val_rev, lowerPos_val]; omega)
      rw [er, toF_upper]
    · have hj := j.isLt
      have ej : u + (upperPos n j).val = u + 2 ^ n + j.val := by rw [upperPos_val]; omega
      rw [ej, o1 j, i2 _ (Or.inr (by omega))]
      have er : (upperPos n j).rev = lowerPos n j.rev := Fin.ext (by
        rw [Fin.val_rev, upperPos_val, lowerPos_val, Fin.val_rev]; omega)
      rw [er, toF_lower]
    · rw [o2 _ (by omega), i2 _ (by omega)]

/-- A lane of the sixty-four rows, as a list. -/
def lst (r : RS Ideal) (i : S16.Idx) : List K := List.ofFn (vec r i)

/-- A lane of a block's sixteen rows. -/
def blk (C : RS Ideal) (i : S16.Idx) (b : ℕ) : List K := (List.range 16).map fun u => rowK C i (16 * b + u)

/-- A block merged: a descending lane becomes the sixty-four greatest of itself and the block's lane. -/
theorem lst_blockP (C : RS Ideal) (b : Fin k0_t12_loop.trips) (r : RS Ideal) (i : S16.Idx) (h : Antitone (vec r i)) :
    Antitone (vec (blockP C b r) i) ∧ lst (blockP C b r) i = topList 64 (lst r i ++ blk C i b.val) := by
  have e1 : mapT (en i) 4 (srtT hiV loV true 4 (loadsP C (fun u => (offs75 b u).1 0) 4 0))
      = srtT max min true 4 (mapT (en i) 4 (loadsP C (fun u => (offs75 b u).1 0) 4 0)) :=
    mapT_srtT (en i) hiV loV max min (en_hi i) (en_lo i) 4 true _
  have hdesc : Antitone (toF 4 (mapT (en i) 4 (srtT hiV loV true 4 (loadsP C (fun u => (offs75 b u).1 0) 4 0)))) := by
    rw [e1]; exact (srtT_sorted 4 _).1
  have hperm : (List.ofFn (toF 4 (mapT (en i) 4 (srtT hiV loV true 4 (loadsP C (fun u => (offs75 b u).1 0) 4 0))))).Perm (blk C i b.val) := by
    rw [← Multiset.coe_eq_coe, toM_ofFn, e1, toM_srtT max min max_min_pair, toM_loadsP]
    refine congrArg _ (List.map_congr_left fun u hu => ?_)
    have hu' : u < 16 := List.mem_range.mp hu
    rw [Nat.zero_add]
    have := offs75_eq b ⟨u, hu'⟩
    show en i (rowG C ((offs75 b u).1 0)) = en i (rowG C (16 * (16 * b.val + u)))
    rw [← this]
  obtain ⟨m1, m2⟩ := rowK_mergesP i 4 0 le_rfl (srtT hiV loV true 4 (loadsP C (fun u => (offs75 b u).1 0) 4 0)) r
  have hmix := mix_top (vec r i) (toF 4 (mapT (en i) 4 (srtT hiV loV true 4 (loadsP C (fun u => (offs75 b u).1 0) 4 0))))
    (vec (mergesP (fun u => (offsR u).1 0) 4 0 (srtT hiV loV true 4 (loadsP C (fun u => (offs75 b u).1 0) 4 0)) r) i)
    (fun j => m2 j.val (Or.inl j.isLt))
    (fun j => by
      have := m1 j
      rw [Nat.zero_add] at this
      refine this.trans ?_
      rw [toF_mapT]
      rfl)
    h hdesc
  have e2 : vec (blockP C b r) i = Network.apply (mergeDescNet 6) (vec (mergesP (fun u => (offsR u).1 0) 4 0 (srtT hiV loV true 4 (loadsP C (fun u => (offs75 b u).1 0) 4 0)) r) i) :=
    vec_stages _ i
  rw [e2]
  refine ⟨hmix.1, ?_⟩
  unfold lst
  rw [e2, hmix.2]
  exact topList_perm (hperm.append_left _)

end Cert.Proof.Srt
-- ==== Proof.Skip.lean ====
/-
  When a block is passed over: the greatest of the stream's positions is not past the block's first place, so no
  lane of the stream has a candidate in it.
-/
module

public import proofs.«01_k».proof.Proof.Model
public import Idealize.ShloMosaic.Lib.SortNet.Bitonic

@[expose] public section
noncomputable section
namespace Cert.Proof.Srt
open Cert.KernelIdeal Cert.KernelIdeal.Gen
open Cert.Proof.Run
open Idealize.ShloMosaic
open Idealize.ShloMosaic.SortNet

variable {F : FTy → Type} [FloatOps F]

theorem maxui_spec (x y : BitVec 32) : (IntOp.maxui x y = x ∨ IntOp.maxui x y = y) ∧ x.toNat ≤ (IntOp.maxui x y).toNat ∧ y.toNat ≤ (IntOp.maxui x y).toNat := by
  unfold IntOp.maxui
  by_cases h : y.ult x = true
  · have h' := BitVec.lt_def.mp (BitVec.ult_iff_lt.mp h)
    rw [if_pos h]
    exact ⟨Or.inl rfl, le_rfl, h'.le⟩
  · have h' : ¬ y.toNat < x.toNat := fun hl => h (BitVec.ult_iff_lt.mpr (BitVec.lt_def.mpr hl))
    rw [if_neg h]
    exact ⟨Or.inr rfl, by omega, le_rfl⟩

theorem foldl_maxui {ι : Type} (f : ι → BitVec 32) (l : List ι) : ∀ z : BitVec 32,
    ((l.foldl (fun r k => IntOp.maxui r (f k)) z = z ∨ ∃ k ∈ l, l.foldl (fun r k => IntOp.maxui r (f k)) z = f k)
    ∧ z.toNat ≤ (l.foldl (fun r k => IntOp.maxui r (f k)) z).toNat ∧ ∀ k ∈ l, (f k).toNat ≤ (l.foldl (fun r k => IntOp.maxui r (f k)) z).toNat) := by
  induction l with
  | nil => exact fun z => ⟨Or.inl rfl, le_rfl, fun k hk => absurd hk List.not_mem_nil⟩
  | cons a l ih =>
    intro z
    obtain ⟨m1, m2, m3⟩ := maxui_spec z (f a)
    obtain ⟨i1, i2, i3⟩ := ih (IntOp.maxui z (f a))
    rw [List.foldl_cons]
    refine ⟨?_, m2.trans i2, fun k hk => ?_⟩
    · rcases i1 with i1 | ⟨k, hk, i1⟩
      · rcases m1 with m1 | m1
        · exact Or.inl (i1.trans m1)
        · exact Or.inr ⟨a, List.mem_cons_self, i1.trans m1⟩
      · exact Or.inr ⟨k, List.mem_cons_of_mem _ hk, i1⟩
    · rcases List.mem_cons.mp hk with rfl | hk
      · exact m3.trans i2
      · exact i3 k hk

theorem xor_top (x : BitVec 32) (h : x.toNat < 2 ^ 31) : (x ^^^ 2147483648#32).toNat = x.toNat + 2 ^ 31 := by
  rw [BitVec.toNat_xor]
  exact xor_two_pow_of_clear x.toNat 31 ((and_two_pow_eq_zero_iff_testBit _ _).mpr (Nat.testBit_lt_two_pow h))

/-- The greatest of sixteen words is one of them and none is greater. -/
theorem mx_spec (a : IVec S16 32) (h : ∀ i, (a i).toNat < 2 ^ 31) : (∃ i, mx a = a i) ∧ ∀ i, (a i).toNat ≤ (mx a).toNat := by
  have e : mx a = (((List.finRange 16).filter fun k => decide (0 < k.val ∧ k.val ≤ 15)).foldl
      (fun r k => IntOp.maxui r (a (Shape.ofLane k) ^^^ 2147483648#32)) (a (Shape.ofLane (0 : Fin 16)) ^^^ 2147483648#32)) ^^^ 2147483648#32 := rfl
  obtain ⟨f1, f2, f3⟩ := foldl_maxui (fun k : Fin 16 => a (Shape.ofLane k) ^^^ 2147483648#32) ((List.finRange 16).filter fun k => decide (0 < k.val ∧ k.val ≤ 15))
    (a (Shape.ofLane (0 : Fin 16)) ^^^ 2147483648#32)
  have hk : ∃ k : Fin 16, ((List.finRange 16).filter fun k => decide (0 < k.val ∧ k.val ≤ 15)).foldl
      (fun r k => IntOp.maxui r (a (Shape.ofLane k) ^^^ 2147483648#32)) (a (Shape.ofLane (0 : Fin 16)) ^^^ 2147483648#32) = a (Shape.ofLane k) ^^^ 2147483648#32 := by
    rcases f1 with f1 | ⟨k, _, f1⟩
    · exact ⟨0, f1⟩
    · exact ⟨k, f1⟩
  obtain ⟨k, hk⟩ := hk
  have em : mx a = a (Shape.ofLane k) := by
    rw [e, hk, BitVec.xor_assoc, BitVec.xor_self, BitVec.xor_zero]
  refine ⟨⟨_, em⟩, fun i => ?_⟩
  obtain ⟨j, rfl⟩ : ∃ j : Fin 16, i = Shape.ofLane j := ⟨i 0, by funext a; obtain rfl : a = 0 := Subsingleton.elim _ _; rfl⟩
  have hle : (a (Shape.ofLane j) ^^^ 2147483648#32).toNat ≤ (a (Shape.ofLane k) ^^^ 2147483648#32).toNat := by
    rw [← hk]
    by_cases hj : j.val = 0
    · have : j = 0 := Fin.ext hj
      rw [this]; exact f2
    · exact f3 j (List.mem_filter.mpr ⟨List.mem_finRange j, decide_eq_true ⟨by omega, by have := j.isLt; omega⟩⟩)
  rw [xor_top _ (h _), xor_top _ (h _)] at hle
  rw [em]
  omega

/-- One of eight words. -/
def sel8 (k : BitVec 32) (m : Fin 8 → BitVec 32) : BitVec 32 :=
  Scalar.select (Scalar.cmpi .eq k 0#32) (m 0) (Scalar.select (Scalar.cmpi .eq k 1#32) (m 1) (Scalar.select (Scalar.cmpi .eq k 2#32) (m 2)
    (Scalar.select (Scalar.cmpi .eq k 3#32) (m 3) (Scalar.select (Scalar.cmpi .eq k 4#32) (m 4) (Scalar.select (Scalar.cmpi .eq k 5#32) (m 5)
      (Scalar.select (Scalar.cmpi .eq k 6#32) (m 6) (m 7)))))))

theorem sel8_eq (b : Fin 32) (m : Fin 8 → BitVec 32) :
    sel8 (Scalar.shrsi (Scf.iv 0#32 1#32 b) 2#32) m = m ⟨b.val / 4, by have := b.isLt; omega⟩ := by
  fin_cases b <;> rfl

theorem blkCond_eq (X : ℕ → Elt F .f32) (N n : ℕ) (b : Fin k0_t12_loop.trips) :
    blkCond b (stC X N n) = Scalar.cmpi .ne (w := 32) (Scalar.extui (Scalar.cmpi .sgt
      (sel8 (Scalar.shrsi (Scf.iv 0#32 1#32 b) 2#32) fun j => mx (posC X j.val N)) (Scalar.muli (Scf.iv 0#32 1#32 b) 256#32))) 0#32 := rfl

theorem bit_ne : ∀ c : BitVec 1, Scalar.cmpi .ne (w := 32) (Scalar.extui c) 0#32 ≠ 1#1 → c ≠ 1#1 := by decide

theorem first_place : ∀ b : Fin 32, (Scalar.muli (Scf.iv 0#32 1#32 b) 256#32 : BitVec 32).toInt = 256 * (b.val : ℤ) := by decide +kernel

/-- A block passed over holds no candidate. -/
theorem blk_none (X : ℕ → Elt F .f32) (hF : Fits X) (n : ℕ) (b : Fin k0_t12_loop.trips) (h : ¬ blkCond b (stC X 4096 n) = 1#1)
    (l : ℕ) (hl : l < 16) : (cands X (b.val / 4) l 4096).length ≤ 16 * (b.val % 4) := by
  have hb : b.val < 32 := b.isLt
  have hpos : ∀ i : S16.Idx, (posC X (b.val / 4) 4096 i).toNat = 1024 * (b.val / 4) + (i 0).val + 16 * (cands X (b.val / 4) (i 0).val 4096).length := by
    intro i
    have hi : (i 0).val < 16 := (i 0).isLt
    have := hF (b.val / 4) (by omega) (i 0).val hi
    show (BitVec.ofNat 32 _).toNat = _
    rw [BitVec.toNat_ofNat]
    exact Nat.mod_eq_of_lt (by omega)
  have hsm : ∀ i : S16.Idx, (posC X (b.val / 4) 4096 i).toNat < 2 ^ 31 := by
    intro i
    have hi : (i 0).val < 16 := (i 0).isLt
    have := hF (b.val / 4) (by omega) (i 0).val hi
    rw [hpos]
    omega
  obtain ⟨⟨i0, m1⟩, m2⟩ := mx_spec (posC X (b.val / 4) 4096) hsm
  rw [blkCond_eq, sel8_eq b] at h
  have h' := bit_ne _ h
  have h2 : ¬ (Scalar.muli (Scf.iv 0#32 1#32 b) 256#32 : BitVec 32).toInt < (mx (posC X (b.val / 4) 4096)).toInt := by
    intro hlt
    apply h'
    show BitVec.ofBool (BitVec.slt _ _) = 1#1
    rw [BitVec.slt_iff_toInt_lt.mpr hlt]
    rfl
  rw [first_place b, BitVec.toInt_eq_toNat_of_lt (by rw [m1]; have := hsm i0; omega)] at h2
  have h3 := m2 (ln l)
  rw [hpos] at h3
  have e : ((ln l) 0).val = l := Nat.mod_eq_of_lt hl
  rw [e] at h3
  omega

end Cert.Proof.Srt
-- ==== Proof.Fold.lean ====
/-
  The blocks merged in turn leave, in every lane, the sixty-four greatest entries of the batch.
-/
module

public import proofs.«01_k».proof.Proof.Lane
public import proofs.«01_k».proof.Proof.Skip
public import Mathlib.Data.List.Nodup
public import Mathlib.Data.List.Perm.Basic

@[expose] public section
noncomputable section
namespace Cert.Proof.Srt
open Cert.KernelIdeal Cert.KernelIdeal.Gen
open Cert.Proof.Run
open Idealize.ShloMosaic
open Idealize.ShloMosaic.SortNet

attribute [local irreducible] blkCond blockP

/-! ## Lists -/

theorem flat_range {β : Type} (f : ℕ → β) (w n : ℕ) : ((List.range n).flatMap fun b => (List.range w).map fun u => f (w * b + u)) = (List.range (w * n)).map f := by
  induction n with
  | zero => rfl
  | succ n ih =>
    rw [List.range_succ, List.flatMap_append, ih, List.flatMap_singleton, Nat.mul_succ, List.range_add, List.map_append, List.map_map]
    rfl

theorem gd_lt {β : Type} (L : List β) (d : β) {q : ℕ} (h : q < L.length) : L.getD q d = L[q] := by
  rw [List.getD, List.getElem?_eq_getElem h]; rfl

theorem gd_ge {β : Type} (L : List β) (d : β) {q : ℕ} (h : L.length ≤ q) : L.getD q d = d := by
  rw [List.getD, List.getElem?_eq_none h]; rfl

theorem map_getD {β γ : Type} (g : β → γ) (L : List β) (d : β) (n : ℕ) (h : L.length ≤ n) :
    ((List.range n).map fun q => g (L.getD q d)) = L.map g ++ List.replicate (n - L.length) (g d) := by
  refine List.ext_getElem (by rw [List.length_append, List.length_map, List.length_map, List.length_range, List.length_replicate]; omega) fun q h1 h2 => ?_
  rw [List.getElem_map, List.getElem_range]
  by_cases hq : q < L.length
  · rw [List.getElem_append_left (by rw [List.length_map]; exact hq), List.getElem_map, gd_lt _ _ hq]
  · rw [List.getElem_append_right (by rw [List.length_map]; omega), List.getElem_replicate, gd_ge _ _ (by omega)]

/-! ## The entries -/

/-- The key of no candidate. -/
def kd : K := key (dum (F := Ideal))

theorem dum_bot : ((dum (F := Ideal)).1 : EReal) = ⊥ := by
  show Ideal.ofBits .f32 0xFF800000#32 = ⊥
  simp [Ideal.ofBits, Ideal.ieee]

/-- An entry with a row number is no less than no candidate. -/
theorem kd_le (a : Elt Ideal .f32 × BitVec 32) (h : a.2.toInt ≤ 1073741824) : kd ≤ key a := by
  refine not_lt.mp fun hlt => ?_
  rcases (key_lt _ _).mp hlt with h1 | ⟨_, h1⟩
  · rw [dum_bot] at h1; exact not_lt_bot h1
  · have e : (dum (F := Ideal)).2.toInt = 1073741824 := by decide
    rw [e] at h1
    omega

theorem toInt_row (r : ℕ) (h : r < 32768) : (BitVec.ofNat 32 r).toInt = r := by
  have e : (BitVec.ofNat 32 r).toNat = r := by rw [BitVec.toNat_ofNat]; exact Nat.mod_eq_of_lt (by omega)
  rw [BitVec.toInt_eq_toNat_of_lt (by rw [e]; omega), e]

theorem rowNo_lt {k n : ℕ} (hk : k < 8) (hn : n < 4096) : rowNo k n < 32768 := by unfold rowNo; omega

variable (X : ℕ → Elt Ideal .f32)

theorem kd_le_cand {k l : ℕ} (hk : k < 8) {a : Elt Ideal .f32 × BitVec 32} (ha : a ∈ cands X k l 4096) : kd ≤ key a := by
  unfold cands at ha
  obtain ⟨n, hn, rfl⟩ := List.mem_map.mp ha
  have hn' := rowNo_lt hk (List.mem_range.mp (List.mem_filter.mp hn).1)
  refine kd_le _ ?_
  show (BitVec.ofNat 32 (rowNo k n)).toInt ≤ _
  rw [toInt_row _ hn']
  omega

/-- The candidates' storage at the end. -/
def fin' : RS Ideal := (cvC X fun _ => 4096, ciC X fun _ => 4096)

/-- The storage's entry in slot `p / 64, p % 64`. -/
def slot (l p : ℕ) : K := key ((cands X (p / 64) l 4096).getD (p % 64) dum)

theorem kd_le_slot {l p : ℕ} (hp : p < 512) : kd ≤ slot X l p := by
  unfold slot
  by_cases h : p % 64 < (cands X (p / 64) l 4096).length
  · rw [gd_lt _ _ h]
    exact kd_le_cand X (by omega) (List.getElem_mem h)
  · rw [gd_ge _ _ (by omega)]
    exact le_rfl

theorem key_parts (e : Elt Ideal .f32 × BitVec 32) : key (e.1, e.2) = key e := rfl

theorem rowK_fin (i : S16.Idx) (q : ℕ) : rowK (fin' X) i q = key (entC X (fun _ => 4096) (16 * q + (i 0).val)) :=
  key_parts (entC X (fun _ => 4096) (16 * q + (i 0).val))

theorem rowK_slot (i : S16.Idx) (q : ℕ) : rowK (fin' X) i q = slot X (i 0).val q := by
  have hi : (i 0).val < 16 := (i 0).isLt
  rw [rowK_fin]
  unfold entC slot
  rw [show (16 * q + (i 0).val) / 1024 = q / 64 by omega, show (16 * q + (i 0).val) % 16 = (i 0).val by omega,
    show (16 * q + (i 0).val) / 16 % 64 = q % 64 by omega]

theorem blk_eq (i : S16.Idx) (b : ℕ) : blk (fin' X) i b = (List.range 16).map fun u => slot X (i 0).val (16 * b + u) := by
  exact List.map_congr_left fun u _ => rowK_slot X i _

theorem kd_mem {i : S16.Idx} {k : ℕ} (hk : k ≤ 32) {a : K} (ha : a ∈ List.replicate 64 kd ++ (List.range k).flatMap (blk (fin' X) i)) : kd ≤ a := by
  rcases List.mem_append.mp ha with h | h
  · rw [List.eq_of_mem_replicate h]
  · obtain ⟨b, hb, h⟩ := List.mem_flatMap.mp h
    rw [blk_eq] at h
    obtain ⟨u, hu, rfl⟩ := List.mem_map.mp h
    have hb' := List.mem_range.mp hb
    have hu' := List.mem_range.mp hu
    exact kd_le_slot X (by omega)

/-- The merge, block by block: a lane is the sixty-four greatest of the blocks so far. -/
theorem lst_blocks (hF : Fits X) (i : S16.Idx) (k : ℕ) (hk : k ≤ 32) :
    Antitone (vec (iterTo (ph3P (fin' X) (stC X 4096 32768)) k ((fun _ => (dum (F := Ideal)).1, fun _ => (dum (F := Ideal)).2) : RS Ideal)) i) ∧
    lst (iterTo (ph3P (fin' X) (stC X 4096 32768)) k ((fun _ => (dum (F := Ideal)).1, fun _ => (dum (F := Ideal)).2) : RS Ideal)) i
      = topList 64 (List.replicate 64 kd ++ (List.range k).flatMap (blk (fin' X) i)) := by
  induction k with
  | zero =>
    refine ⟨fun _ _ _ => le_rfl, ?_⟩
    rw [List.range_zero, List.flatMap_nil, List.append_nil, topList_eq_self (List.pairwise_replicate.mpr (Or.inr le_rfl)) (by rw [List.length_replicate])]
    exact List.ofFn_const 64 kd
  | succ k ih =>
    obtain ⟨ih1, ih2⟩ := ih (by omega)
    have hs := iterTo_succ (ph3P (fin' X) (stC X 4096 32768)) (⟨k, hk⟩ : Fin k0_t12_loop.trips) ((fun _ => (dum (F := Ideal)).1, fun _ => (dum (F := Ideal)).2) : RS Ideal)
    have hs' : iterTo (ph3P (fin' X) (stC X 4096 32768)) (k + 1) ((fun _ => (dum (F := Ideal)).1, fun _ => (dum (F := Ideal)).2) : RS Ideal)
        = ph3P (fin' X) (stC X 4096 32768) ⟨k, hk⟩ (iterTo (ph3P (fin' X) (stC X 4096 32768)) k ((fun _ => (dum (F := Ideal)).1, fun _ => (dum (F := Ideal)).2) : RS Ideal)) := hs
    rw [hs', List.range_succ, List.flatMap_append, List.flatMap_singleton, ← List.append_assoc]
    unfold ph3P
    by_cases hb : blkCond (⟨k, hk⟩ : Fin k0_t12_loop.trips) (stC X 4096 32768) = 1#1
    · rw [if_pos hb]
      obtain ⟨b1, b2⟩ := lst_blockP (fin' X) ⟨k, hk⟩ _ i ih1
      refine ⟨b1, b2.trans ?_⟩
      show topList 64 (lst (iterTo (ph3P (fin' X) (stC X 4096 32768)) k _) i ++ blk (fin' X) i k) = _
      rw [ih2, topList_append_topList]
    · rw [if_neg hb]
      refine ⟨ih1, ih2.trans ?_⟩
      refine (topList_append_of_le 64 _ _ (by rw [List.length_append, List.length_replicate]; omega) fun s hs a ha => ?_).symm
      have ha' := kd_mem X (by omega) (mem_of_mem_topList ha)
      rw [blk_eq] at hs
      obtain ⟨u, hu, rfl⟩ := List.mem_map.mp hs
      have hu' := List.mem_range.mp hu
      have hi : (i 0).val < 16 := (i 0).isLt
      have hlen := blk_none X hF 32768 ⟨k, hk⟩ hb (i 0).val hi
      have hlen' : (cands X (k / 4) (i 0).val 4096).length ≤ 16 * (k % 4) := hlen
      have e : slot X (i 0).val (16 * k + u) = kd := by
        unfold slot
        rw [show (16 * k + u) / 64 = k / 4 by omega, gd_ge _ _ (by omega)]
        rfl
      rw [e]
      exact ha'

/-- Whether lane `l` keeps row `r`. -/
def kept (l r : ℕ) : Prop := (thr X (ln l) : EReal) ≤ X (16 * r + l)

/-- The entry of row `r`. -/
def ent (l r : ℕ) : K := key (X (16 * r + l), BitVec.ofNat 32 r)

theorem keeps_iff (k l n : ℕ) : keeps X k l n ↔ kept X l (rowNo k n) := by
  unfold keeps kept
  show BitVec.ofBool (decide ((thr X (ln l) : EReal) ≤ X (16 * rowNo k n + l))) = 1#1 ↔ _
  by_cases h : (thr X (ln l) : EReal) ≤ X (16 * rowNo k n + l)
  · rw [decide_eq_true h]; exact ⟨fun _ => h, fun _ => rfl⟩
  · rw [decide_eq_false h]; exact ⟨fun e => absurd e (by decide), fun e => absurd e h⟩

/-- The eight streams take every row once. -/
theorem rows_perm : ((List.range 8).flatMap fun k => (List.range 4096).map (rowNo k)).Perm (List.range 32768) := by
  refine (List.perm_ext_iff_of_nodup ?_ List.nodup_range).mpr fun r => ?_
  · rw [List.nodup_flatMap]
    refine ⟨fun k _ => ?_, ?_⟩
    · refine (List.nodup_map_iff_inj_on List.nodup_range).mpr fun n _ n' _ e => ?_
      unfold rowNo at e; omega
    · refine (List.nodup_range (n := 8)).imp_of_mem fun {k k'} hk hk' hne => ?_
      have h1 := List.mem_range.mp hk
      have h2 := List.mem_range.mp hk'
      intro r hr hr'
      obtain ⟨n, _, e⟩ := List.mem_map.mp hr
      obtain ⟨n', _, e'⟩ := List.mem_map.mp hr'
      unfold rowNo at e e'
      omega
  · rw [List.mem_flatMap, List.mem_range]
    constructor
    · rintro ⟨k, hk, hr⟩
      obtain ⟨n, hn, rfl⟩ := List.mem_map.mp hr
      exact rowNo_lt (List.mem_range.mp hk) (List.mem_range.mp hn)
    · intro hr
      refine ⟨r / 256 % 8, List.mem_range.mpr (by omega), List.mem_map.mpr ⟨r / 2048 * 256 + r % 256, List.mem_range.mpr (by omega), ?_⟩⟩
      unfold rowNo; omega

open Classical in
/-- The candidates of the eight streams are the kept rows. -/
theorem cands_perm (l : ℕ) : ((List.range 8).flatMap fun k => (cands X k l 4096).map key).Perm (((List.range 32768).filter fun r => decide (kept X l r)).map (ent X l)) := by
  have e : ((List.range 8).flatMap fun k => (cands X k l 4096).map key)
      = (((List.range 8).flatMap fun k => (List.range 4096).map (rowNo k)).filter fun r => decide (kept X l r)).map (ent X l) := by
    rw [List.filter_flatMap, List.map_flatMap]
    congr 1
    funext k
    unfold cands
    rw [List.filter_map, List.map_map, List.map_map]
    congr 1
    refine List.filter_congr fun n _ => ?_
    exact decide_eq_decide.mpr (keeps_iff X k l n)
  rw [e]
  exact (rows_perm.filter _).map _

/-- All the blocks' entries, stream by stream: the candidates and what fills up each stream's storage. -/
theorem blocks_eq (hF : Fits X) (l : ℕ) (hl : l < 16) : (List.range 32).flatMap (blk (fin' X) (ln l))
    = (List.range 8).flatMap fun k => (cands X k l 4096).map key ++ List.replicate (64 - (cands X k l 4096).length) kd := by
  have hl' : ((ln l) 0).val = l := Nat.mod_eq_of_lt hl
  have e2 : blk (fin' X) (ln l) = fun b => (List.range 16).map fun u => slot X l (16 * b + u) := by
    funext b
    rw [blk_eq, hl']
  have e3 : ∀ k ∈ List.range 8, ((List.range 64).map fun u => slot X l (64 * k + u)) = (cands X k l 4096).map key ++ List.replicate (64 - (cands X k l 4096).length) kd := by
    intro k hk
    refine Eq.trans ?_ (map_getD key (cands X k l 4096) dum 64 (hF k (List.mem_range.mp hk) l hl).le)
    refine List.map_congr_left fun q hq => ?_
    have hq' := List.mem_range.mp hq
    unfold slot
    rw [show (64 * k + q) / 64 = k by omega, show (64 * k + q) % 64 = q by omega]
  have h16 := flat_range (slot X l) 16 32
  have h64 := flat_range (slot X l) 64 8
  rw [show 16 * 32 = 64 * 8 from rfl] at h16
  rw [e2, h16, ← h64]
  exact List.flatMap_congr e3

open Classical in
theorem blocks_perm (hF : Fits X) (l : ℕ) (hl : l < 16) : (List.replicate 64 kd ++ (List.range 32).flatMap (blk (fin' X) (ln l))).Perm
    (((List.range 32768).filter fun r => decide (kept X l r)).map (ent X l) ++ (List.replicate 64 kd ++ (List.range 8).flatMap fun k => List.replicate (64 - (cands X k l 4096).length) kd)) := by
  rw [blocks_eq X hF l hl]
  have h1 := (List.flatMap_append_perm (List.range 8) (fun k => (cands X k l 4096).map key) (fun k => List.replicate (64 - (cands X k l 4096).length) kd)).symm.append_left (List.replicate 64 kd)
  have h2 := List.perm_append_comm_assoc (List.replicate 64 kd) ((List.range 8).flatMap fun k => (cands X k l 4096).map key) ((List.range 8).flatMap fun k => List.replicate (64 - (cands X k l 4096).length) kd)
  exact (h1.trans h2).trans ((cands_perm X l).append_right _)

open Classical in
/-- Where at least sixty-four rows are kept, a lane of the result is the sixty-four greatest entries of the batch. -/
theorem lst_resP (hF : Fits X) (l : ℕ) (hl : l < 16) (hc : 64 ≤ ((List.range 32768).filter fun r => decide (kept X l r)).length) :
    lst (resP X) (ln l) = topList 64 ((List.range 32768).map (ent X l)) := by
  have e0 : lst (resP X) (ln l) = topList 64 (List.replicate 64 kd ++ (List.range 32).flatMap (blk (fin' X) (ln l))) := (lst_blocks X hF (ln l) 32 le_rfl).2
  have hp := blocks_perm X hF l hl
  have hkd : ∀ a ∈ ((List.range 32768).filter fun r => decide (kept X l r)).map (ent X l), kd ≤ a := by
    intro a ha
    have := (cands_perm X l).symm.subset ha
    obtain ⟨k, hk, h⟩ := List.mem_flatMap.mp this
    obtain ⟨c, hc, rfl⟩ := List.mem_map.mp h
    exact kd_le_cand X (List.mem_range.mp hk) hc
  rw [e0, topList_perm hp, topList_append_of_le 64 _ _ (by rw [List.length_map]; exact hc) (fun s hs a ha => by
    have hs' : s = kd := by
      rcases List.mem_append.mp hs with h | h
      · exact List.eq_of_mem_replicate h
      · obtain ⟨k, _, h⟩ := List.mem_flatMap.mp h
        exact List.eq_of_mem_replicate h
    rw [hs']
    exact hkd a (mem_of_mem_topList ha))]
  have hall : (((List.range 32768).filter fun r => decide (kept X l r)).map (ent X l) ++ ((List.range 32768).filter fun r => !decide (kept X l r)).map (ent X l)).Perm
      ((List.range 32768).map (ent X l)) := by
    rw [← List.map_append]
    exact (List.filter_append_perm _ _).map _
  rw [← topList_perm hall, topList_append_of_le 64 _ _ (by rw [List.length_map]; exact hc)]
  intro s hs a ha
  obtain ⟨r, hr, rfl⟩ := List.mem_map.mp hs
  obtain ⟨q, hq, rfl⟩ := List.mem_map.mp (mem_of_mem_topList ha)
  have hr' : ¬ kept X l r := by simpa using (List.mem_filter.mp hr).2
  have hq' : kept X l q := by simpa using (List.mem_filter.mp hq).2
  refine le_of_lt ((key_lt _ _).mpr (Or.inl ?_))
  unfold kept at hr' hq'
  exact lt_of_lt_of_le (not_le.mp hr') hq'

end Cert.Proof.Srt
-- ==== Proof.Count.lean ====
/-
  At least sixty-four rows reach the threshold: each of the sixteen segments has four groups whose maximum does.
-/
module

public import proofs.«01_k».proof.Proof.Thr
public import proofs.«01_k».proof.Proof.Fold

@[expose] public section
noncomputable section
namespace Cert.Proof.Srt
open Cert.KernelIdeal Cert.KernelIdeal.Gen
open Cert.Proof.Run
open Idealize.ShloMosaic

theorem ninf_eq : (ninf (F := Ideal) : EReal) = ⊥ := dum_bot

section
variable (y : ℕ → Elt Ideal .f32) (t : EReal) (ht : t ≠ ⊥)
include ht

theorem foldl_max_mem {ι : Type} (f : ι → EReal) (l : List ι) : ∀ z : EReal, t ≤ l.foldl (fun r q => max r (f q)) z → t ≤ z ∨ ∃ q ∈ l, t ≤ f q := by
  induction l with
  | nil => exact fun z h => Or.inl h
  | cons a l ih =>
    intro z h
    rcases ih _ h with h | ⟨q, hq, h⟩
    · rcases le_max_iff.mp h with h | h
      · exact Or.inl h
      · exact Or.inr ⟨a, List.mem_cons_self, h⟩
    · exact Or.inr ⟨q, List.mem_cons_of_mem _ hq, h⟩

theorem chn_mem (i p : ℕ) (hp : p < 4) (h : t ≤ (chn y i p : EReal)) : ∃ u < 128, t ≤ (y (128 * i + u) : EReal) := by
  have h' : t ≤ (List.finRange 32).foldl (fun (r : EReal) (q : Fin 32) => max r (y (128 * i + 4 * q.val + p) : EReal)) (ninf (F := Ideal) : EReal) := h
  rcases foldl_max_mem t ht (fun q : Fin 32 => (y (128 * i + 4 * q.val + p) : EReal)) _ _ h' with h | ⟨q, _, h⟩
  · rw [ninf_eq] at h; exact absurd (le_bot_iff.mp h) ht
  · have := q.isLt
    refine ⟨4 * q.val + p, by omega, ?_⟩
    rw [← Nat.add_assoc]; exact h

theorem grp_mem (i : ℕ) (h : t ≤ (grp y i : EReal)) : ∃ u < 128, t ≤ (y (128 * i + u) : EReal) := by
  have h' : t ≤ max (max (chn y i 0 : EReal) (chn y i 1)) (max (chn y i 2 : EReal) (chn y i 3)) := h
  rcases le_max_iff.mp h' with h | h
  · rcases le_max_iff.mp h with h | h
    · exact chn_mem y t ht i 0 (by decide) h
    · exact chn_mem y t ht i 1 (by decide) h
  · rcases le_max_iff.mp h with h | h
    · exact chn_mem y t ht i 2 (by decide) h
    · exact chn_mem y t ht i 3 (by decide) h
end

open Classical in
/-- What a value that reaches a component of the four greatest says of how many values reach it. -/
def Reach (t : EReal) (s : F4 Ideal) (c : ℕ) : Prop :=
  (t ≤ (s.1 : EReal) → 1 ≤ c) ∧ (t ≤ (s.2.1 : EReal) → 2 ≤ c) ∧ (t ≤ (s.2.2.1 : EReal) → 3 ≤ c) ∧ (t ≤ (s.2.2.2 : EReal) → 4 ≤ c)

open Classical in
theorem reach_step (t : EReal) (s : F4 Ideal) (a : Elt Ideal .f32) (c : ℕ) (h : Reach t s c) :
    Reach t (step4 s a) (c + if t ≤ (a : EReal) then 1 else 0) := by
  obtain ⟨h1, h2, h3, h4⟩ := h
  have a1 : t ≤ (a : EReal) → (if t ≤ (a : EReal) then 1 else 0) = 1 := fun h => if_pos h
  refine ⟨fun h => ?_, fun h => ?_, fun h => ?_, fun h => ?_⟩
  · rcases le_max_iff.mp (show t ≤ max (s.1 : EReal) a from h) with h | h
    · have := h1 h; omega
    · rw [a1 h]; omega
  · rcases le_max_iff.mp (show t ≤ max (s.2.1 : EReal) (min (s.1 : EReal) a) from h) with h | h
    · have := h2 h; omega
    · obtain ⟨k1, k⟩ := le_min_iff.mp h
      have := h1 k1
      rw [a1 k]; omega
  · rcases le_max_iff.mp (show t ≤ max (s.2.2.1 : EReal) (min (s.2.1 : EReal) (min (s.1 : EReal) a)) from h) with h | h
    · have := h3 h; omega
    · obtain ⟨k2, k⟩ := le_min_iff.mp h
      obtain ⟨_, k⟩ := le_min_iff.mp k
      have := h2 k2
      rw [a1 k]; omega
  · rcases le_max_iff.mp (show t ≤ max (s.2.2.2 : EReal) (min (s.2.2.1 : EReal) (min (s.2.1 : EReal) (min (s.1 : EReal) a))) from h) with h | h
    · have := h4 h; omega
    · obtain ⟨k3, k⟩ := le_min_iff.mp h
      obtain ⟨_, k⟩ := le_min_iff.mp k
      obtain ⟨_, k⟩ := le_min_iff.mp k
      have := h3 k3
      rw [a1 k]; omega

open Classical in
theorem reach_fold (t : EReal) {ι : Type} (g : ι → Elt Ideal .f32) (l : List ι) : ∀ (s : F4 Ideal) (c : ℕ), Reach t s c →
    Reach t (l.foldl (fun st i => step4 st (g i)) s) (c + l.countP fun i => decide (t ≤ (g i : EReal))) := by
  induction l with
  | nil => exact fun s c h => h
  | cons a l ih =>
    intro s c h
    have := ih _ _ (reach_step t s (g a) c h)
    rw [List.foldl_cons, List.countP_cons]
    refine Eq.mp ?_ this
    congr 1
    by_cases hk : t ≤ (g a : EReal)
    · rw [if_pos hk, if_pos (decide_eq_true hk)]; omega
    · rw [if_neg hk, if_neg (by rw [decide_eq_false hk]; decide)]; omega

section
variable (y : ℕ → Elt Ideal .f32) (t : EReal) (ht : t ≠ ⊥)
include ht

open Classical in
/-- Four groups of a segment reach a value that its fourth greatest group maximum reaches. -/
theorem four_count (s : ℕ) (h : t ≤ ((four y s).2.2.2 : EReal)) : 4 ≤ (List.range 16).countP fun i => decide (t ≤ (grp y (16 * s + i) : EReal)) := by
  have h0 : Reach t ((ninf, ninf, ninf, ninf) : F4 Ideal) 0 := by
    have hb : ¬ t ≤ (ninf (F := Ideal) : EReal) := by rw [ninf_eq]; exact fun h => ht (le_bot_iff.mp h)
    exact ⟨fun h => absurd h hb, fun h => absurd h hb, fun h => absurd h hb, fun h => absurd h hb⟩
  have h1 := (reach_fold t (fun i : Fin 16 => grp y (16 * s + i.val)) (List.finRange 16) _ 0 h0).2.2.2 h
  have e : (List.range 16).countP (fun i => decide (t ≤ (grp y (16 * s + i) : EReal))) = (List.finRange 16).countP fun i => decide (t ≤ (grp y (16 * s + i.val) : EReal)) := by
    rw [← List.map_coe_finRange_eq_range, List.countP_map]
    rfl
  rw [e]
  omega

open Classical in
theorem groups_count (n : ℕ) (h : ∀ s < n, t ≤ ((four y s).2.2.2 : EReal)) : 4 * n ≤ (List.range (16 * n)).countP fun i => decide (t ≤ (grp y i : EReal)) := by
  induction n with
  | zero => exact Nat.zero_le _
  | succ n ih =>
    have h1 := ih fun s hs => h s (by omega)
    have h2 := four_count y t ht n (h n (by omega))
    rw [Nat.mul_succ 16, List.range_add, List.countP_append, List.countP_map]
    have e : (List.range 16).countP ((fun i => decide (t ≤ (grp y i : EReal))) ∘ fun x => 16 * n + x) = (List.range 16).countP fun i => decide (t ≤ (grp y (16 * n + i) : EReal)) := rfl
    rw [e]
    omega

open Classical in
theorem rows_count (n N : ℕ) (hN : N = 128 * n) : ((List.range n).countP fun i => decide (t ≤ (grp y i : EReal))) ≤ (List.range N).countP fun r => decide (t ≤ (y r : EReal)) := by
  subst hN
  induction n with
  | zero => exact le_rfl
  | succ n ih =>
    rw [Nat.mul_succ 128, List.range_succ, List.range_add, List.countP_append, List.countP_append, List.countP_map]
    refine Nat.add_le_add ih ?_
    by_cases hg : t ≤ (grp y n : EReal)
    · obtain ⟨u, hu, h⟩ := grp_mem y t ht n hg
      refine le_trans (b := 1) (List.countP_le_length) ?_
      exact List.countP_pos_iff.mpr ⟨u, List.mem_range.mpr hu, decide_eq_true h⟩
    · rw [List.countP_singleton, if_neg (by rw [decide_eq_false hg]; decide)]
      exact Nat.zero_le _
end

theorem foldl_min_le {ι : Type} (f : ι → EReal) (l : List ι) : ∀ z : EReal, l.foldl (fun r q => min r (f q)) z ≤ z ∧ ∀ q ∈ l, l.foldl (fun r q => min r (f q)) z ≤ f q := by
  induction l with
  | nil => exact fun z => ⟨le_rfl, fun q h => absurd h List.not_mem_nil⟩
  | cons a l ih =>
    intro z
    obtain ⟨i1, i2⟩ := ih (min z (f a))
    rw [List.foldl_cons]
    refine ⟨i1.trans (min_le_left _ _), fun q hq => ?_⟩
    rcases List.mem_cons.mp hq with rfl | hq
    · exact i1.trans (min_le_right _ _)
    · exact i2 q hq

/-- The threshold is no greater than any segment's fourth greatest group maximum. -/
theorem thrS_le (y : ℕ → Elt Ideal .f32) (s : ℕ) (hs : s < 16) : (thrS y : EReal) ≤ (four y s).2.2.2 := by
  have h : (thrS y : EReal) ≤ min ((four y (2 * (s / 2))).2.2.2 : EReal) ((four y (2 * (s / 2) + 1)).2.2.2 : EReal) :=
    (foldl_min_le (fun r : Fin 8 => min ((four y (2 * r.val)).2.2.2 : EReal) ((four y (2 * r.val + 1)).2.2.2 : EReal)) (List.finRange 8) (pinf (F := Ideal))).2
      ⟨s / 2, by omega⟩ (List.mem_finRange _)
  rcases Nat.mod_two_eq_zero_or_one s with hm | hm
  · have e : 2 * (s / 2) = s := by omega
    rw [e] at h
    exact h.trans (min_le_left _ _)
  · have e : 2 * (s / 2) + 1 = s := by omega
    rw [e] at h
    exact h.trans (min_le_right _ _)

theorem cands_all (X : ℕ → Elt Ideal .f32) (k l N : ℕ) (h : ∀ n, keeps X k l n) : (cands X k l N).length = N := by
  unfold cands
  rw [List.length_map, List.filter_eq_self.mpr fun n _ => decide_eq_true (h n), List.length_range]

/-- The threshold is not the least value: it would keep every row. -/
theorem thr_ne_bot (X : ℕ → Elt Ideal .f32) (hF : Fits X) (l : ℕ) (hl : l < 16) : (thr X (ln l) : EReal) ≠ ⊥ := by
  intro hb
  have h := hF 0 (by decide) l hl
  rw [cands_all X 0 l 4096 fun n => (keeps_iff X 0 l n).mpr (by unfold kept; rw [hb]; exact bot_le)] at h
  exact absurd h (by decide)

open Classical in
theorem kept_count_of (X : ℕ → Elt Ideal .f32) (l : ℕ) (t : EReal) (ht : (thr X (ln l) : EReal) = t) (hb : t ≠ ⊥)
    (e : t = (thrS (fun r => X (16 * r + l)) : EReal)) (G N c : ℕ) (hG : G = 16 * 16) (hN : N = 128 * G) (hc : c = 4 * 16) :
    c ≤ ((List.range N).filter fun r => decide (kept X l r)).length := by
  have h1 := groups_count (fun r => X (16 * r + l)) t hb 16 (fun s hs => by rw [e]; exact thrS_le _ s hs)
  have h2 := rows_count (fun r => X (16 * r + l)) t hb G N hN
  rw [← hG, ← hc] at h1
  rw [← List.countP_eq_length_filter]
  refine le_trans h1 (le_trans h2 (le_of_eq ?_))
  refine List.countP_congr fun r _ => ?_
  unfold kept
  rw [ht]
  simp only [decide_eq_true_eq]

open Classical in
/-- At least sixty-four rows are kept. -/
theorem kept_count (X : ℕ → Elt Ideal .f32) (hF : Fits X) (l : ℕ) (hl : l < 16) : 64 ≤ ((List.range 32768).filter fun r => decide (kept X l r)).length :=
  kept_count_of X l _ rfl (thr_ne_bot X hF l hl) (by rw [thr_eq, show ((ln l) 0).val = l from Nat.mod_eq_of_lt hl]) 256 32768 64 (by decide) (by decide) (by decide)

end Cert.Proof.Srt
-- ==== Proof.Ref.lean ====
/-
  The reference's selection: a stable descending sort is the sort of the entries by value, then by lower number.
-/
module

public import proofs.«01_k».proof.Proof.Fold
public import Idealize.ShloMosaic.Lib.SortFacts
public import Idealize.ShloMosaic.Lib.ValueLayout

@[expose] public section
noncomputable section
namespace Cert.Proof.Srt
open Cert.Proof.Run
open Idealize.ShloMosaic
open Idealize.ShloMosaic.SortNet
open Idealize.ShloMosaic.ValueIdx

section
variable {n : ℕ} (v : Fin n → EReal)

/-- An entry comes before another: a greater value, or an equal one at a lower number. -/
def Bef (a b : Fin n) : Prop := v b < v a ∨ (v a = v b ∧ a < b)

theorem bef_trans {a b c : Fin n} (h : Bef v a b) (h' : Bef v b c) : Bef v a c := by
  rcases h with h | ⟨h, k⟩ <;> rcases h' with h' | ⟨h', k'⟩
  · exact Or.inl (h'.trans h)
  · exact Or.inl (h' ▸ h)
  · exact Or.inl (h ▸ h')
  · exact Or.inr ⟨h.trans h', k.trans k'⟩

variable (R : Fin n → Fin n → Bool) (hR : ∀ a b, R a b = true ↔ v b < v a)
include hR

theorem pairwise_insert_bef (a : Fin n) (l : List (Fin n)) (hl : l.Pairwise (Bef v)) (ha : ∀ b ∈ l, a < b) :
    (insertBefore R a l).Pairwise (Bef v) := by
  induction l with
  | nil => exact List.pairwise_singleton _ _
  | cons b l ih =>
    obtain ⟨hb, hl'⟩ := List.pairwise_cons.mp hl
    unfold insertBefore
    by_cases h : R b a = true
    · rw [if_pos h]
      refine List.pairwise_cons.mpr ⟨fun c hc => ?_, ih hl' fun c hc => ha c (List.mem_cons_of_mem _ hc)⟩
      rcases List.mem_cons.mp ((perm_insertBefore R a l).mem_iff.mp hc) with rfl | hc
      · exact Or.inl ((hR _ _).mp h)
      · exact hb c hc
    · rw [if_neg h]
      have hab : Bef v a b := by
        rcases lt_or_eq_of_le (not_lt.mp fun hl => h ((hR b a).mpr hl)) with h | h
        · exact Or.inl h
        · exact Or.inr ⟨h.symm, ha b List.mem_cons_self⟩
      refine List.pairwise_cons.mpr ⟨fun c hc => ?_, hl⟩
      rcases List.mem_cons.mp hc with rfl | hc
      · exact hab
      · exact bef_trans v hab (hb c hc)

theorem pairwise_stable_bef (l : List (Fin n)) (hl : l.Pairwise (· < ·)) : (stableSort R l).Pairwise (Bef v) := by
  induction l with
  | nil => exact List.Pairwise.nil
  | cons a l ih =>
    obtain ⟨ha, hl⟩ := List.pairwise_cons.mp hl
    unfold stableSort
    exact pairwise_insert_bef v R hR a _ (ih hl) fun b hb => ha b ((perm_stableSort R l).mem_iff.mp hb)

end

/-- The first entries of the stable descending sort are the greatest entries. -/
theorem sorted_take (v : ℕ → Elt Ideal .f32) (n k : ℕ) (hn : n ≤ 32768) (R : Fin n → Fin n → Bool)
    (hR : ∀ a b, R a b = true ↔ (v b.val : EReal) < v a.val) :
    ((sortPositions n R).map fun p => key (v p.val, BitVec.ofNat 32 p.val)).take k
      = topList k ((List.range n).map fun r => key (v r, BitVec.ofNat 32 r)) := by
  unfold topList
  congr 1
  have e : (List.range n).map (fun r => key (v r, BitVec.ofNat 32 r)) = (List.finRange n).map fun p : Fin n => key (v p.val, BitVec.ofNat 32 p.val) := by
    rw [← List.map_coe_finRange_eq_range, List.map_map]; rfl
  have hp := (perm_sortPositions n R).map fun p : Fin n => key (v p.val, BitVec.ofNat 32 p.val)
  rw [← e] at hp
  refine eq_of_perm_of_descending (hp.trans (List.perm_insertionSort (· ≥ ·) _).symm) ?_ (List.pairwise_insertionSort (· ≥ ·) _)
  refine List.pairwise_map.mpr (List.Pairwise.imp ?_ (pairwise_stable_bef (fun p : Fin n => (v p.val : EReal)) R hR _ (List.pairwise_lt_finRange n)))
  intro p q h
  refine le_of_lt ((key_lt _ _).mpr ?_)
  rcases h with h | ⟨h, k⟩
  · exact Or.inl h
  · refine Or.inr ⟨h.symm, ?_⟩
    show (BitVec.ofNat 32 p.val).toInt < (BitVec.ofNat 32 q.val).toInt
    have := p.isLt
    have := q.isLt
    rw [toInt_row _ (by omega), toInt_row _ (by omega)]
    exact Int.ofNat_lt.mpr k

theorem sorted_at (v : ℕ → Elt Ideal .f32) (n k : ℕ) (hn : n ≤ 32768) (R : Fin n → Fin n → Bool)
    (hR : ∀ a b, R a b = true ↔ (v b.val : EReal) < v a.val) (j : ℕ) (hj : j < k) (hjn : j < n) :
    (topList k ((List.range n).map fun r => key (v r, BitVec.ofNat 32 r)))[j]? = some (key (v (sortedFrom R ⟨j, hjn⟩).val, BitVec.ofNat 32 (sortedFrom R ⟨j, hjn⟩).val)) := by
  have hl : j < (sortPositions n R).length := by rw [length_sortPositions]; exact hjn
  rw [← sorted_take v n k hn R hR, List.getElem?_take, if_pos hj, List.getElem?_map, List.getElem?_eq_getElem hl]
  rfl

section
variable {a b n k : ℕ} (x : (⟨3, ![a, b, n]⟩ : Shape).Idx → Elt Ideal .f32)
  (h : (⟨3, ![a, b, n]⟩ : Shape).Slices (fun _ => 0) ⟨3, ![a, b, k]⟩) (i : Fin a) (l : Fin b) (j : Fin k) (hk : k ≤ n)

/-- Which of two positions of a fiber holds the greater value. -/
def gtR (p q : Fin n) : Bool := FloatOps.cmpfTotal (F := Ideal) (φ := .f32) .gt (x (ix3 i l p)) (x (ix3 i l q)) == 1#1

theorem gtR_iff (p q : Fin n) : gtR x i l p q = true ↔ (x (ix3 i l q) : EReal) < x (ix3 i l p) := by
  have e : gtR x i l p q = (BitVec.ofBool (decide ((x (ix3 i l q) : EReal) < x (ix3 i l p))) == 1#1) := rfl
  rw [e]
  by_cases hl : (x (ix3 i l q) : EReal) < x (ix3 i l p)
  · rw [decide_eq_true hl]; exact ⟨fun _ => hl, fun _ => rfl⟩
  · rw [decide_eq_false hl]; exact ⟨fun h => absurd h (by decide), fun h => absurd h hl⟩

theorem along_ix3 (p q : Fin n) : Shape.Idx.along (s := ⟨3, ![a, b, n]⟩) (ix3 i l p) 2 q = ix3 i l q := by
  funext c
  match c with
  | 0 => rfl
  | 1 => rfl
  | 2 => rfl

/-- The reference's selection at a place: the value and the position the stable sort puts there. -/
theorem topK_at :
    (Host.topK ⟨3, ![a, b, k]⟩ 2 (FloatOps.cmpfTotal (F := Ideal) (φ := .f32) .gt) x h).1 (ix3 i l j) = x (ix3 i l (sortedFrom (gtR x i l) ⟨j.val, lt_of_lt_of_le j.isLt hk⟩))
    ∧ (Host.topK ⟨3, ![a, b, k]⟩ 2 (FloatOps.cmpfTotal (F := Ideal) (φ := .f32) .gt) x h).2 (ix3 i l j) = BitVec.ofNat 32 (sortedFrom (gtR x i l) ⟨j.val, lt_of_lt_of_le j.isLt hk⟩).val := by
  have hs : ∀ c : Fin 3, ((ix3 i l (⟨j.val, lt_of_lt_of_le j.isLt hk⟩ : Fin n) : (⟨3, ![a, b, n]⟩ : Shape).Idx) c).val = 0 + ((ix3 i l j : (⟨3, ![a, b, k]⟩ : Shape).Idx) (c.cast h.1.symm)).val := by
    intro c
    match c with
    | 0 => exact (Nat.zero_add _).symm
    | 1 => exact (Nat.zero_add _).symm
    | 2 => exact (Nat.zero_add _).symm
  have e : (fun p q : Fin n => FloatOps.cmpfTotal (F := Ideal) (φ := .f32) .gt (x (Shape.Idx.along (s := ⟨3, ![a, b, n]⟩) (ix3 i l (⟨j.val, lt_of_lt_of_le j.isLt hk⟩ : Fin n)) 2 p))
      (x (Shape.Idx.along (s := ⟨3, ![a, b, n]⟩) (ix3 i l (⟨j.val, lt_of_lt_of_le j.isLt hk⟩ : Fin n)) 2 q)) == 1#1) = gtR x i l := by
    funext p q
    unfold gtR
    rw [along_ix3, along_ix3]
  have hd : 2 < (⟨3, ![a, b, n]⟩ : Shape).rank := (by decide : 2 < 3)
  simp only [Host.topK, Host.sort2, dif_pos hd]
  constructor
  · refine (extractStridedSlice_apply _ _ h _ (ix3 i l (⟨j.val, lt_of_lt_of_le j.isLt hk⟩ : Fin n)) hs).trans ?_
    exact congrArg x ((congrArg (fun R : Fin n → Fin n → Bool => Shape.Idx.along (s := ⟨3, ![a, b, n]⟩) (ix3 i l (⟨j.val, lt_of_lt_of_le j.isLt hk⟩ : Fin n)) 2
      (sortedFrom R (⟨j.val, lt_of_lt_of_le j.isLt hk⟩ : Fin n))) e).trans (along_ix3 i l _ _))
  · refine (extractStridedSlice_apply _ _ h _ (ix3 i l (⟨j.val, lt_of_lt_of_le j.isLt hk⟩ : Fin n)) hs).trans ?_
    exact congrArg (fun R : Fin n → Fin n → Bool => BitVec.ofNat 32 (sortedFrom R (⟨j.val, lt_of_lt_of_le j.isLt hk⟩ : Fin n)).val) e
end

end Cert.Proof.Srt
-- ==== Proof.Value.lean ====
/-
  The kernel's results are the reference's: word by word, the greatest entries of a lane in order.
-/
module

public import proofs.«01_k».proof.Proof.Frames
public import proofs.«01_k».proof.Proof.Count
public import proofs.«01_k».proof.Proof.Ref

@[expose] public section
noncomputable section
namespace Cert.Proof.Srt
open Cert.Proof.Run
open Idealize.ShloMosaic
open Idealize.ShloMosaic.SortNet Idealize.SL.Sem
open Idealize.ShloMosaic.ValueIdx
open Cert.Proof.Pre (XB_at castAt)

attribute [local irreducible] blkCond resP blockP
attribute [local instance] Cert.Kernel.Gen.facts Cert.KernelIdeal.Gen.facts Cert.ReferenceIdeal.Gen.facts Cert.Pre_streams_fit.Gen.facts

theorem lst_at (r : RS Ideal) (l j : ℕ) (hl : l < 16) (hj : j < 64) : (lst r (ln l))[j]? = some (key (r.1 (16 * j + l), r.2 (16 * j + l))) := by
  have e : rowK r (ln l) j = key (r.1 (16 * j + (ln l 0).val), r.2 (16 * j + (ln l 0).val)) := rfl
  rw [show ((ln l) 0).val = l from Nat.mod_eq_of_lt hl] at e
  rw [← e]
  unfold lst
  rw [List.getElem?_ofFn, dif_pos (show j < 2 ^ 6 from hj)]
  rfl

variable (w : (⟨3, ![64, 32768, 16]⟩ : Shape).Idx → Elt Ideal .f32)

/-- The argument with its last two axes exchanged. -/
def wt : (⟨3, ![64, 16, 32768]⟩ : Shape).Idx → Elt Ideal .f32 :=
  transpose ⟨3, ![64, 16, 32768]⟩ [0, 2, 1] w Cert.ReferenceIdeal.Gen.transposes_S64x32768x16_S64x16x32768_0_2_1

theorem wt_at (n : Fin 64) (l : Fin 16) (p : Fin 32768) : wt w (ix3 n l p) = Pre.row (F := Ideal) w n l p.val := by
  unfold wt
  rw [transpose_ix3_021_apply]
  unfold Pre.row
  exact congrArg w (congrArg (fun q => ix3 n q l) (Fin.ext (Nat.mod_eq_of_lt p.isLt).symm))

/-- A place of a lane's result is the entry that the stable sort puts there. -/
theorem entry_eq (X : ℕ → Elt Ideal .f32) (hF : Fits X) (n : Fin 64) (l : Fin 16) (j : Fin 64) (hX : ∀ r < 32768, X (16 * r + l.val) = Pre.row (F := Ideal) w n l r) (p : Fin 32768)
    (hp : p = sortedFrom (gtR (wt w) n l) ⟨j.val, lt_of_lt_of_le j.isLt (by decide)⟩) :
    (resP X).1 (16 * j.val + l.val) = wt w (ix3 n l p) ∧ (resP X).2 (16 * j.val + l.val) = BitVec.ofNat 32 p.val := by
  have h1 := lst_resP X hF l.val l.isLt (kept_count X hF l.val l.isLt)
  have e : (List.range 32768).map (ent X l.val) = (List.range 32768).map fun r => key (Pre.row (F := Ideal) w n l r, BitVec.ofNat 32 r) := by
    refine List.map_congr_left fun r hr => ?_
    show key (X (16 * r + l.val), BitVec.ofNat 32 r) = _
    rw [hX r (List.mem_range.mp hr)]
  have h2 := sorted_at (Pre.row (F := Ideal) w n l) 32768 64 le_rfl (gtR (wt w) n l) (fun a b => by rw [gtR_iff, wt_at, wt_at]) j.val j.isLt (lt_of_lt_of_le j.isLt (by decide))
  rw [← e, ← h1, lst_at _ _ _ l.isLt j.isLt] at h2
  have h3 := key_inj (Option.some.inj h2)
  rw [← hp] at h3
  exact ⟨(congrArg Prod.fst h3).trans (wt_at w n l p).symm, congrArg Prod.snd h3⟩

theorem R1_at (f : Cert.KernelIdeal.S64x524288.Idx → Elt Ideal .f32) (n : Fin 64) (q : Fin 1024) : R1 (F := Ideal) f (ix2 n q) = (resP (XB f n.val)).1 q.val := rfl
theorem R2_at (f : Cert.KernelIdeal.S64x524288.Idx → Elt Ideal .f32) (n : Fin 64) (q : Fin 1024) : R2 (F := Ideal) f (ix2 n q) = (resP (XB f n.val)).2 q.val := rfl

section
variable (m : (ℓ : Loc Cert.KernelIdeal.nD Cert.KernelIdeal.τ Cert.KernelIdeal.sig) → Buf (Elt Ideal) ℓ) (hfit : AllFit (F := Ideal) m) (d : Dev Cert.KernelIdeal.nD)

theorem words_eq (n j : Fin 64) (l : Fin 16) :
    Z1 (F := Ideal) m d (ix3 n j l) = (resP (XB (xin m d) n.val)).1 (16 * j.val + l.val)
    ∧ Z2 (F := Ideal) m d (ix3 n j l) = (resP (XB (xin m d) n.val)).2 (16 * j.val + l.val) := by
  have hc : 16 * j.val + l.val < 1024 := by omega
  have hr : (Cert.KernelIdeal.S64x1024.rowMajor (ix2 n ⟨16 * j.val + l.val, hc⟩)).val = (Cert.KernelIdeal.S64x64x16.rowMajor (ix3 n j l)).val := by
    rw [Shape.rowMajor_val_three, Shape.rowMajor_val_two]
    show n.val * 1024 + (16 * j.val + l.val) = (n.val * 64 + j.val) * 16 + l.val
    omega
  have e1 : Z1 (F := Ideal) m d (ix3 n j l) = R1 (F := Ideal) (xin m d) (ix2 n ⟨16 * j.val + l.val, hc⟩) := castAt (R1 (F := Ideal) (xin m d)) _ (ix3 n j l) (ix2 n ⟨16 * j.val + l.val, hc⟩) hr
  have e2 : Z2 (F := Ideal) m d (ix3 n j l) = R2 (F := Ideal) (xin m d) (ix2 n ⟨16 * j.val + l.val, hc⟩) := castAt (R2 (F := Ideal) (xin m d)) _ (ix3 n j l) (ix2 n ⟨16 * j.val + l.val, hc⟩) hr
  exact ⟨e1.trans (R1_at _ n _), e2.trans (R2_at _ n _)⟩

include hfit

/-- The reference's results, place by place. -/
theorem ref_at (hd : m ((d.tc : Thread Cert.KernelIdeal.nD Cert.KernelIdeal.τ).loc Cert.KernelIdeal.main_arg0) = w) (n j : Fin 64) (l : Fin 16) :
    (Host.topK ⟨3, ![64, 16, 64]⟩ 2 (FloatOps.cmpfTotal (F := Ideal) (φ := .f32) .gt) (wt w) Cert.ReferenceIdeal.Gen.sliceFits_S64x16x32768_S64x16x64).1 (ix3 n l j) = Z1 (F := Ideal) m d (ix3 n j l)
    ∧ (Host.topK ⟨3, ![64, 16, 64]⟩ 2 (FloatOps.cmpfTotal (F := Ideal) (φ := .f32) .gt) (wt w) Cert.ReferenceIdeal.Gen.sliceFits_S64x16x32768_S64x16x64).2 (ix3 n l j) = Z2 (F := Ideal) m d (ix3 n j l) := by
  have h1 := topK_at (wt w) Cert.ReferenceIdeal.Gen.sliceFits_S64x16x32768_S64x16x64 n l j (by decide)
  have h2 := words_eq m d n j l
  have h3 := entry_eq w (XB (xin m d) n.val) (hfit d n.val n.isLt) n l j (fun r hr => by rw [← hd]; exact XB_at _ _ n r l.val hr l.isLt) _ rfl
  exact ⟨h1.1.trans (h3.1.symm.trans h2.1.symm), h1.2.trans (h3.2.symm.trans h2.2.symm)⟩

/-- The reference's results are the kernel's. -/
theorem results_eq (hd : m ((d.tc : Thread Cert.KernelIdeal.nD Cert.KernelIdeal.τ).loc Cert.KernelIdeal.main_arg0) = w) :
    transpose ⟨3, ![64, 64, 16]⟩ [0, 2, 1] (Host.topK ⟨3, ![64, 16, 64]⟩ 2 (FloatOps.cmpfTotal (F := Ideal) (φ := .f32) .gt) (wt w) Cert.ReferenceIdeal.Gen.sliceFits_S64x16x32768_S64x16x64).1 Cert.ReferenceIdeal.Gen.transposes_S64x16x64_S64x64x16_0_2_1 = Z1 (F := Ideal) m d
    ∧ transpose ⟨3, ![64, 64, 16]⟩ [0, 2, 1] (Host.topK ⟨3, ![64, 16, 64]⟩ 2 (FloatOps.cmpfTotal (F := Ideal) (φ := .f32) .gt) (wt w) Cert.ReferenceIdeal.Gen.sliceFits_S64x16x32768_S64x16x64).2 Cert.ReferenceIdeal.Gen.transposes_S64x16x64_S64x64x16_0_2_1 = Z2 (F := Ideal) m d := by
  constructor
  · funext i
    obtain ⟨n, j, l, rfl⟩ : ∃ n j l, i = (ix3 n j l : (⟨3, ![64, 64, 16]⟩ : Shape).Idx) := ⟨i 0, i 1, i 2, eq_ix3 i⟩
    rw [transpose_ix3_021_apply]
    exact (ref_at w m hfit d hd n j l).1
  · funext i
    obtain ⟨n, j, l, rfl⟩ : ∃ n j l, i = (ix3 n j l : (⟨3, ![64, 64, 16]⟩ : Shape).Idx) := ⟨i 0, i 1, i 2, eq_ix3 i⟩
    rw [transpose_ix3_021_apply]
    exact (ref_at w m hfit d hd n j l).2
end

/-- From memories that agree on the argument the two programs end with equal results. -/
theorem algebraic : Cert.algebraic_KernelIdeal_ReferenceIdeal := fun m g m' g' hpre hag =>
  have hfit := allFit (F := Ideal) m hpre
  ⟨Z1 (F := Ideal) m, Z2 (F := Ideal) m,
    (θ_run Cert.KernelIdeal.defs _ _).mono (fun _ h c => ⟨(h.1 c).2.1, (h.1 c).2.2, (h.1 c).1⟩) (run_main (F := Ideal) m g hfit),
    (θ_run Cert.ReferenceIdeal.defs _ _).mono (fun _ h c =>
        ⟨(h c).1.trans (results_eq _ m hfit c (hag c).symm).1, (h c).2.1.trans (results_eq _ m hfit c (hag c).symm).2, (h c).2.2⟩)
      (Cert.ReferenceIdeal.Value.run (F := Ideal) m' g')⟩

end Cert.Proof.Srt
-- ==== Proof.lean ====
module

public import proofs.«01_k».proof.Defs
public import proofs.«01_k».proof.Proof.Value

@[expose] public section

noncomputable section

namespace Cert.Proof

/-- Every claim of the certificate. -/
theorem claim : Cert.Claim := ⟨Cert.Kernel.Gen.facts, Cert.KernelIdeal.Gen.facts, Cert.ReferenceIdeal.Gen.facts, Cert.Pre_streams_fit.Gen.facts,
  frame_kernel, frame_ideal, frame_reference, frame_reference_fit, trivial, Srt.algebraic⟩

end Cert.Proof

end
